-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_context [hPre_finite_context : Cert.Pre_finite_context.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_context.fn (F := Ideal) (m ((c.tc : Thread Cert.Kernel6Ideal.nD Cert.Kernel6Ideal.τ).loc Cert.Kernel6Ideal.main_arg0))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_context [hPre_finite_context : Cert.Pre_finite_context.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_context.fn (F := Ideal) (m ((c.tc : Thread Cert.Reference6Ideal.nD Cert.Reference6Ideal.τ).loc Cert.Reference6Ideal.main_arg0))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_router [hPre_finite_router : Cert.Pre_finite_router.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_router.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).1 = (fun _ => 1#1)
    ∧ (Cert.Pre_finite_router.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2.1 = (fun _ => 1#1)
    ∧ (Cert.Pre_finite_router.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_router [hPre_finite_router : Cert.Pre_finite_router.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_router.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).1 = (fun _ => 1#1)
    ∧ (Cert.Pre_finite_router.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2.1 = (fun _ => 1#1)
    ∧ (Cert.Pre_finite_router.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Kernel6Ideal_pre_finite_context [hKernel6Ideal : Cert.Kernel6Ideal.Facts] [hPre_finite_context : Cert.Pre_finite_context.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_context m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Reference6Ideal_pre_finite_context [hReference6Ideal : Cert.Reference6Ideal.Facts] [hPre_finite_context : Cert.Pre_finite_context.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_context m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite_router [hKernel10Ideal : Cert.Kernel10Ideal.Facts] [hPre_finite_router : Cert.Pre_finite_router.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_router m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite_router [hReference10Ideal : Cert.Reference10Ideal.Facts] [hPre_finite_router : Cert.Pre_finite_router.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_router m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_context [hKernel6Ideal : Cert.Kernel6Ideal.Facts] [hReference6Ideal : Cert.Reference6Ideal.Facts] [hPre_finite_context : Cert.Pre_finite_context.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_context m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v65) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v57) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite_router [hKernel10Ideal : Cert.Kernel10Ideal.Facts] [hReference10Ideal : Cert.Reference10Ideal.Facts] [hPre_finite_router : Cert.Pre_finite_router.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_router m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v58) = v0 c
          ∧ r.2.mem ((c.tc : Thread Cert.Reference10Ideal.nD Cert.Reference10Ideal.τ).loc Cert.Reference10Ideal.main_v62) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_scores : Cert.Pre_finite_scores.Facts) (hPre_finite_context : Cert.Pre_finite_context.Facts) (hPre_finite_router : Cert.Pre_finite_router.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_context (hKernel6Ideal := hKernel6Ideal) (hPre_finite_context := hPre_finite_context)
    ∧ quiescent_Reference6Ideal (hReference6Ideal := hReference6Ideal)
    ∧ quiescent_Reference6Ideal_pre_finite_context (hReference6Ideal := hReference6Ideal) (hPre_finite_context := hPre_finite_context)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_router (hKernel10Ideal := hKernel10Ideal) (hPre_finite_router := hPre_finite_router)
    ∧ quiescent_Reference10Ideal (hReference10Ideal := hReference10Ideal)
    ∧ quiescent_Reference10Ideal_pre_finite_router (hReference10Ideal := hReference10Ideal) (hPre_finite_router := hPre_finite_router)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_context (hKernel6Ideal := hKernel6Ideal) (hReference6Ideal := hReference6Ideal) (hPre_finite_context := hPre_finite_context)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_router (hKernel10Ideal := hKernel10Ideal) (hReference10Ideal := hReference10Ideal) (hPre_finite_router := hPre_finite_router)
-- ==== Pre_finite_context.lean ====
abbrev S8704x18432 : Shape := ⟨2, ![8704, 18432]⟩
abbrev S512x4096 : Shape := ⟨2, ![512, 4096]⟩
abbrev S_ : Shape := ⟨0, ![]⟩

class Facts : Prop where
  slices_S8704x18432_S512x4096_8192_0 : S8704x18432.Slices ![8192, 0] S512x4096
  bitsLt_bf16_f32 : FTy.bits .bf16 < FTy.bits .f32
  bcast_S_S512x4096 : S_.BroadcastsInDim S512x4096 (![] : Fin 0 → Fin S512x4096.rank)

variable [Facts]

def fn {F : FTy → Type} [FloatOps F] (main_arg0 : FVec F S8704x18432 .bf16) : IVec S512x4096 1 :=
  let main_v0 : FVec F S512x4096 .bf16 := (extractStridedSlice S512x4096 ![8192, 0] · slices_S8704x18432_S512x4096_8192_0) main_arg0
  let main_v1 : FVec F S512x4096 .f32 := (extf .f32 · bitsLt_bf16_f32) main_v0
  let main_v2 : FVec F S512x4096 .f32 := Host.absf main_v1
  let main_cst : FVec F S_ .f32 := constant S_ .f32 0x7F800000#32
  let main_v3 : FVec F S512x4096 .f32 := broadcastInDim S512x4096 ![] bcast_S_S512x4096 main_cst
  let main_v4 : IVec S512x4096 1 := cmpf .olt main_v2 main_v3
  main_v4
-- ==== Pre_finite_router.lean ====
abbrev S8704x4096 : Shape := ⟨2, ![8704, 4096]⟩
abbrev S2x4096 : Shape := ⟨2, ![2, 4096]⟩
abbrev S8x24576 : Shape := ⟨2, ![8, 24576]⟩
abbrev S2x4096x16 : Shape := ⟨3, ![2, 4096, 16]⟩
abbrev S1x4096 : Shape := ⟨2, ![1, 4096]⟩
abbrev S4096 : Shape := ⟨1, ![4096]⟩
abbrev S_ : Shape := ⟨0, ![]⟩
abbrev S3x8192 : Shape := ⟨2, ![3, 8192]⟩
abbrev S1x4096x16 : Shape := ⟨3, ![1, 4096, 16]⟩
abbrev S4096x16 : Shape := ⟨2, ![4096, 16]⟩

class Facts : Prop where
  slices_S2x4096_S1x4096_0_0 : S2x4096.Slices ![0, 0] S1x4096
  shapeCasts_S1x4096_S4096 : S1x4096.ShapeCasts S4096
  bcast_S_S4096 : S_.BroadcastsInDim S4096 (![] : Fin 0 → Fin S4096.rank)
  slices_S8x24576_S3x8192_0_12288 : S8x24576.Slices ![0, 12288] S3x8192
  bcast_S_S3x8192 : S_.BroadcastsInDim S3x8192 (![] : Fin 0 → Fin S3x8192.rank)
  slices_S2x4096x16_S1x4096x16_0_0_0 : S2x4096x16.Slices ![0, 0, 0] S1x4096x16
  shapeCasts_S1x4096x16_S4096x16 : S1x4096x16.ShapeCasts S4096x16
  bcast_S_S4096x16 : S_.BroadcastsInDim S4096x16 (![] : Fin 0 → Fin S4096x16.rank)

variable [Facts]

def fn {F : FTy → Type} [FloatOps F] (main_arg0 : FVec F S8704x4096 .f32) (main_arg1 : FVec F S2x4096 .f32) (main_arg2 : FVec F S8x24576 .f32) (main_arg3 : FVec F S2x4096x16 .f32) : IVec S4096 1 × IVec S3x8192 1 × IVec S4096x16 1 :=
  let main_v0 : FVec F S1x4096 .f32 := (extractStridedSlice S1x4096 ![0, 0] · slices_S2x4096_S1x4096_0_0) main_arg1
  let main_v1 : FVec F S4096 .f32 := shapeCast S4096 main_v0 shapeCasts_S1x4096_S4096
  let main_v2 : FVec F S4096 .f32 := Host.absf main_v1
  let main_cst : FVec F S_ .f32 := constant S_ .f32 0x7F800000#32
  let main_v3 : FVec F S4096 .f32 := broadcastInDim S4096 ![] bcast_S_S4096 main_cst
  let main_v4 : IVec S4096 1 := cmpf .olt main_v2 main_v3
  let main_v5 : FVec F S3x8192 .f32 := (extractStridedSlice S3x8192 ![0, 12288] · slices_S8x24576_S3x8192_0_12288) main_arg2
  let main_v6 : FVec F S3x8192 .f32 := Host.absf main_v5
  let main_cst_0 : FVec F S_ .f32 := constant S_ .f32 0x7F800000#32
  let main_v7 : FVec F S3x8192 .f32 := broadcastInDim S3x8192 ![] bcast_S_S3x8192 main_cst_0
  let main_v8 : IVec S3x8192 1 := cmpf .olt main_v6 main_v7
  let main_v9 : FVec F S1x4096x16 .f32 := (extractStridedSlice S1x4096x16 ![0, 0, 0] · slices_S2x4096x16_S1x4096x16_0_0_0) main_arg3
  let main_v10 : FVec F S4096x16 .f32 := shapeCast S4096x16 main_v9 shapeCasts_S1x4096x16_S4096x16
  let main_v11 : FVec F S4096x16 .f32 := Host.absf main_v10
  let main_cst_1 : FVec F S_ .f32 := constant S_ .f32 0x7F800000#32
  let main_v12 : FVec F S4096x16 .f32 := broadcastInDim S4096x16 ![] bcast_S_S4096x16 main_cst_1
  let main_v13 : IVec S4096x16 1 := cmpf .olt main_v11 main_v12
  (main_v4, main_v8, main_v13)
-- ==== Pre_finite_scores.lean ====
abbrev S8704x18432 : Shape := ⟨2, ![8704, 18432]⟩
abbrev S16x15x31 : Shape := ⟨3, ![16, 15, 31]⟩
abbrev S8704x4096 : Shape := ⟨2, ![8704, 4096]⟩
abbrev S_ : Shape := ⟨0, ![]⟩

class Facts : Prop where
  slices_S8704x18432_S8704x4096_0_0 : S8704x18432.Slices ![0, 0] S8704x4096
  bitsLt_bf16_f32 : FTy.bits .bf16 < FTy.bits .f32
  bcast_S_S8704x4096 : S_.BroadcastsInDim S8704x4096 (![] : Fin 0 → Fin S8704x4096.rank)
  bcast_S_S16x15x31 : S_.BroadcastsInDim S16x15x31 (![] : Fin 0 → Fin S16x15x31.rank)

variable [Facts]

def fn {F : FTy → Type} [FloatOps F] (main_arg0 : FVec F S8704x18432 .bf16) (main_arg1 : FVec F S16x15x31 .f32) : IVec S8704x4096 1 × IVec S16x15x31 1 :=
  let main_v0 : FVec F S8704x4096 .bf16 := (extractStridedSlice S8704x4096 ![0, 0] · slices_S8704x18432_S8704x4096_0_0) main_arg0
  let main_v1 : FVec F S8704x4096 .f32 := (extf .f32 · bitsLt_bf16_f32) main_v0
  let main_v2 : FVec F S8704x4096 .f32 := Host.absf main_v1
  let main_cst : FVec F S_ .f32 := constant S_ .f32 0x7F800000#32
  let main_v3 : FVec F S8704x4096 .f32 := broadcastInDim S8704x4096 ![] bcast_S_S8704x4096 main_cst
  let main_v4 : IVec S8704x4096 1 := cmpf .olt main_v2 main_v3
  let main_v5 : FVec F S16x15x31 .f32 := Host.absf main_arg1
  let main_cst_0 : FVec F S_ .f32 := constant S_ .f32 0x7F800000#32
  let main_v6 : FVec F S16x15x31 .f32 := broadcastInDim S16x15x31 ![] bcast_S_S16x15x31 main_cst_0
  let main_v7 : IVec S16x15x31 1 := cmpf .olt main_v5 main_v6
  (main_v4, main_v7)
-- ==== Kernel.lean ====
abbrev S8704x18432 : Shape := ⟨2, ![8704, 18432]⟩
abbrev S16x15x31 : Shape := ⟨3, ![16, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S16x15x64x64 : Shape := ⟨4, ![16, 15, 64, 64]⟩
abbrev S1x1x64x64 : Shape := ⟨4, ![1, 1, 64, 64]⟩
abbrev S8192x2048 : Shape := ⟨2, ![8192, 2048]⟩
abbrev S4096x128 : Shape := ⟨2, ![4096, 128]⟩
abbrev S256x128 : Shape := ⟨2, ![256, 128]⟩
abbrev S1x15x64x64 : Shape := ⟨4, ![1, 15, 64, 64]⟩
abbrev S3x256x768 : Shape := ⟨3, ![3, 256, 768]⟩
abbrev S768x128 : Shape := ⟨2, ![768, 128]⟩
abbrev S256x768 : Shape := ⟨2, ![256, 768]⟩
abbrev S1x256x768 : Shape := ⟨3, ![1, 256, 768]⟩
abbrev S256x256 : Shape := ⟨2, ![256, 256]⟩
abbrev S256 : Shape := ⟨1, ![256]⟩
abbrev S256x1 : Shape := ⟨2, ![256, 1]⟩

abbrev nBuf : Space → Nat
  | .hbm => 51
  | .vmem => 15
  | .smem => 0
  | _ => 0

abbrev bufTy : (tb : Table) → Fin (tcTables nBuf tb) → BufTy
  | .hbm, ⟨0, _⟩ => ⟨S8704x18432, .bf16⟩
  | .hbm, ⟨1, _⟩ => ⟨S16x15x31, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S1x64, .i32⟩
  | .hbm, ⟨15, _⟩ => ⟨S64x1, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S1x64, .i32⟩
  | .hbm, ⟨20, _⟩ => ⟨S64x1, .i32⟩
  | .hbm, ⟨21, _⟩ => ⟨S_, .i32⟩
  | .hbm, ⟨22, _⟩ => ⟨S64x1, .i32⟩
  | .hbm, ⟨23, _⟩ => ⟨S64x1, .i32⟩
  | .hbm, ⟨24, _⟩ => ⟨S64x64, .i32⟩
  | .hbm, ⟨25, _⟩ => ⟨S64x64, .i32⟩
  | .hbm, ⟨26, _⟩ => ⟨S64x64, .i1⟩
  | .hbm, ⟨27, _⟩ => ⟨S64x64, .i1⟩
  | .hbm, ⟨28, _⟩ => ⟨S1x64, .i32⟩
  | .hbm, ⟨29, _⟩ => ⟨S64x1, .i32⟩
  | .hbm, ⟨30, _⟩ => ⟨S64x64, .i32⟩
  | .hbm, ⟨31, _⟩ => ⟨S64x64, .i32⟩
  | .hbm, ⟨32, _⟩ => ⟨S64x64, .i32⟩
  | .hbm, ⟨33, _⟩ => ⟨S_, .i32⟩
  | .hbm, ⟨34, _⟩ => ⟨S64x64, .i32⟩
  | .hbm, ⟨35, _⟩ => ⟨S64x64, .i32⟩
  | .hbm, ⟨36, _⟩ => ⟨S1x64x64, .i32⟩
  | .hbm, ⟨37, _⟩ => ⟨S31, .i32⟩
  | .hbm, ⟨38, _⟩ => ⟨S31x1x1, .i32⟩
  | .hbm, ⟨39, _⟩ => ⟨S31x64x64, .i32⟩
  | .hbm, ⟨40, _⟩ => ⟨S31x64x64, .i32⟩
  | .hbm, ⟨41, _⟩ => ⟨S31x64x64, .i1⟩
  | .hbm, ⟨42, _⟩ => ⟨S31x64x64, .f32⟩
  | .hbm, ⟨43, _⟩ => ⟨S16x15x64x64, .f32⟩
  | .hbm, ⟨44, _⟩ => ⟨S1x1x64x64, .i1⟩
  | .hbm, ⟨45, _⟩ => ⟨S_, .f32⟩
  | .hbm, ⟨46, _⟩ => ⟨S_, .f32⟩
  | .hbm, ⟨47, _⟩ => ⟨S16x15x64x64, .i1⟩
  | .hbm, ⟨48, _⟩ => ⟨S16x15x64x64, .f32⟩
  | .hbm, ⟨49, _⟩ => ⟨S16x15x64x64, .f32⟩
  | .hbm, ⟨50, _⟩ => ⟨S8192x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1x15x64x64, .f32⟩
  | .local _ .vmem, ⟨11, _⟩ => ⟨S1x15x64x64, .f32⟩
  | .local _ .vmem, ⟨12, _⟩ => ⟨S4096x128, .bf16⟩
  | .local _ .vmem, ⟨13, _⟩ => ⟨S4096x128, .bf16⟩
  | .local _ .vmem, ⟨14, _⟩ => ⟨S3x256x768, .f32⟩
  | _, _ => ⟨S8704x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32_7 : BitVec 32 := 0#32
  let c16_i32 : BitVec 32 := 16#32
  let v10 : BitVec 32 := Scalar.addi c0_i32_7 c16_i32
  let c1_i32 : BitVec 32 := 1#32
  ⟨c0_i32_7, v10, c1_i32⟩
def k0_mult1 (k0_t1 : Fin k0_t1_loop.trips) : BitVec 32 :=
  let c0_i32_7 : BitVec 32 := 0#32
  let c1_i32 : BitVec 32 := 1#32
  let arg10 : BitVec 32 := Scf.iv c0_i32_7 c1_i32 k0_t1
  let c256_i32 : BitVec 32 := 256#32
  let v19 : BitVec 32 := Scalar.muli arg10 c256_i32
  v19
def k0_mult2 (k0_t1 : Fin k0_t1_loop.trips) : BitVec 32 :=
  let c52_i32 : BitVec 32 := 52#32
  let c0_i32_10 : BitVec 32 := 0#32
  let c0_i32_7 : BitVec 32 := 0#32
  let c1_i32 : BitVec 32 := 1#32
  let arg10 : BitVec 32 := Scf.iv c0_i32_7 c1_i32 k0_t1
  let c4_i32 : BitVec 32 := 4#32
  let v11 : BitVec 32 := Scalar.muli arg10 c4_i32
  let c4_i32_9 : BitVec 32 := 4#32
  let v12 : BitVec 32 := Scalar.subi v11 c4_i32_9
  let v13 : BitVec 32 := Scalar.maxsi c0_i32_10 v12
  let v14 : BitVec 32 := Scalar.minsi c52_i32 v13
  let c64_i32 : BitVec 32 := 64#32
  let v21 : BitVec 32 := Scalar.muli v14 c64_i32
  v21
def k0_off1 (k0_t1 : Fin k0_t1_loop.trips) : Fin 2 → Nat :=
  let c0_i32_7 : BitVec 32 := 0#32
  let c1_i32 : BitVec 32 := 1#32
  let arg10 : BitVec 32 := Scf.iv c0_i32_7 c1_i32 k0_t1
  let c256_i32 : BitVec 32 := 256#32
  let v19 : BitVec 32 := Scalar.muli arg10 c256_i32
  let v20 : BitVec 32 := v19
  let v23 : Index := Scalar.indexCast v20
  let c0_14 : Index := 0#32
  ![v23.toNat, 0]
def k0_off2 (k0_t1 : Fin k0_t1_loop.trips) : Fin 2 → Nat :=
  let c52_i32 : BitVec 32 := 52#32
  let c0_i32_10 : BitVec 32 := 0#32
  let c0_i32_7 : BitVec 32 := 0#32
  let c1_i32 : BitVec 32 := 1#32
  let arg10 : BitVec 32 := Scf.iv c0_i32_7 c1_i32 k0_t1
  let c4_i32 : BitVec 32 := 4#32
  let v11 : BitVec 32 := Scalar.muli arg10 c4_i32
  let c4_i32_9 : BitVec 32 := 4#32
  let v12 : BitVec 32 := Scalar.subi v11 c4_i32_9
  let v13 : BitVec 32 := Scalar.maxsi c0_i32_10 v12
  let v14 : BitVec 32 := Scalar.minsi c52_i32 v13
  let c64_i32 : BitVec 32 := 64#32
  let v21 : BitVec 32 := Scalar.muli v14 c64_i32
  let v22 : BitVec 32 := v21
  let v25 : Index := Scalar.indexCast v22
  let c0_15 : Index := 0#32
  ![v25.toNat, 0]
def k0_off3 (k0_t1 : Fin k0_t1_loop.trips) : Fin 3 → Nat :=
  let c0_i32_7 : BitVec 32 := 0#32
  let c1_i32 : BitVec 32 := 1#32
  let arg10 : BitVec 32 := Scf.iv c0_i32_7 c1_i32 k0_t1
  let c0_i32_11 : BitVec 32 := 0#32
  let v15 : BitVec 1 := Scalar.cmpi .eq arg10 c0_i32_11
  let c0_i32_13 : BitVec 32 := 0#32
  let c15_i32 : BitVec 32 := 15#32
  let v16 : BitVec 1 := Scalar.cmpi .eq arg10 c15_i32
  let c2_i32 : BitVec 32 := 2#32
  let c1_i32_12 : BitVec 32 := 1#32
  let v17 : BitVec 32 := Scalar.select v16 c2_i32 c1_i32_12
  let v18 : BitVec 32 := Scalar.select v15 c0_i32_13 v17
  let v30 : Index := Scalar.indexCast v18
  let c0_17 : Index := 0#32
  let c0_18 : Index := 0#32
  ![v30.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c16_i32 : BitVec 32 := 16#32
  let v1 : BitVec 32 := Scalar.addi c16_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c32_i32_0 : BitVec 32 := 32#32
  let v1 : BitVec 32 := Scalar.addi c32_i32_0 arg0
  let c0_i32 : BitVec 32 := 0#32
  ![v0.toNat, v1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x15x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8704x18432 : Shape := ⟨2, ![8704, 18432]⟩
abbrev S16x15x31 : Shape := ⟨3, ![16, 15, 31]⟩
abbrev S8192x18432 : Shape := ⟨2, ![8192, 18432]⟩
abbrev S2x4096x18432 : Shape := ⟨3, ![2, 4096, 18432]⟩
abbrev S512x18432 : Shape := ⟨2, ![512, 18432]⟩
abbrev S2x256x18432 : Shape := ⟨3, ![2, 256, 18432]⟩
abbrev S2x4096x2048 : Shape := ⟨3, ![2, 4096, 2048]⟩
abbrev S2x4096x16x128 : Shape := ⟨4, ![2, 4096, 16, 128]⟩
abbrev S2x256x2048 : Shape := ⟨3, ![2, 256, 2048]⟩
abbrev S2x256x16x128 : Shape := ⟨4, ![2, 256, 16, 128]⟩
abbrev S4096 : Shape := ⟨1, ![4096]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S4096x128x1 : Shape := ⟨3, ![4096, 128, 1]⟩
abbrev S4096x128x2 : Shape := ⟨3, ![4096, 128, 2]⟩
abbrev S16x4096x128 : Shape := ⟨3, ![16, 4096, 128]⟩
abbrev S2x4096x128x16x128 : Shape := ⟨5, ![2, 4096, 128, 16, 128]⟩
abbrev S4096x16x128 : Shape := ⟨3, ![4096, 16, 128]⟩
abbrev S1x4096x16x128 : Shape := ⟨4, ![1, 4096, 16, 128]⟩
abbrev S2x16x256x4096 : Shape := ⟨4, ![2, 16, 256, 4096]⟩
abbrev S2x4096x16x256 : Shape := ⟨4, ![2, 4096, 16, 256]⟩
abbrev S2x4096x16x384 : Shape := ⟨4, ![2, 4096, 16, 384]⟩
abbrev S2x4096x16 : Shape := ⟨3, ![2, 4096, 16]⟩
abbrev S2x4096x16x1 : Shape := ⟨4, ![2, 4096, 16, 1]⟩
abbrev S2x16x128x4096 : Shape := ⟨4, ![2, 16, 128, 4096]⟩
abbrev S8192x2048 : Shape := ⟨2, ![8192, 2048]⟩

abbrev nBuf : Space → Nat
  | .hbm => 212
  | .vmem => 0
  | .smem => 0
  | _ => 0

abbrev hbmTy0_0 (i : Nat) : BufTy := match i % 128 with
  | 0 => ⟨S8704x18432, .bf16⟩
  | 1 => ⟨S16x15x31, .f32⟩
  | 2 => ⟨S8704x18432, .f32⟩
  | 3 => ⟨S8192x18432, .f32⟩
  | 4 => ⟨S2x4096x18432, .f32⟩
  | 5 => ⟨S8704x18432, .f32⟩
  | 6 => ⟨S512x18432, .f32⟩
  | 7 => ⟨S2x256x18432, .f32⟩
  | 8 => ⟨S2x4096x2048, .f32⟩
  | 9 => ⟨S2x4096x16x128, .f32⟩
  | 10 => ⟨S2x4096x2048, .f32⟩
  | 11 => ⟨S2x4096x16x128, .f32⟩
  | 12 => ⟨S2x4096x2048, .f32⟩
  | 13 => ⟨S2x4096x16x128, .f32⟩
  | 14 => ⟨S2x256x2048, .f32⟩
  | 15 => ⟨S2x256x16x128, .f32⟩
  | 16 => ⟨S2x256x2048, .f32⟩
  | 17 => ⟨S2x256x16x128, .f32⟩
  | 18 => ⟨S4096, .i32⟩
  | 19 => ⟨S128, .i32⟩
  | 20 => ⟨S_, .i32⟩
  | 21 => ⟨S_, .i32⟩
  | 22 => ⟨S4096, .i32⟩
  | 23 => ⟨S4096, .i32⟩
  | 24 => ⟨S4096, .i32⟩
  | 25 => ⟨S_, .i32⟩
  | 26 => ⟨S4096, .i32⟩
  | 27 => ⟨S4096, .i1⟩
  | 28 => ⟨S4096, .i32⟩
  | 29 => ⟨S4096, .i32⟩
  | 30 => ⟨S_, .i32⟩
  | 31 => ⟨S4096, .i32⟩
  | 32 => ⟨S4096, .i1⟩
  | 33 => ⟨S4096, .i1⟩
  | 34 => ⟨S_, .i32⟩
  | 35 => ⟨S4096, .i32⟩
  | 36 => ⟨S4096, .i32⟩
  | 37 => ⟨S4096, .i32⟩
  | 38 => ⟨S4096x1, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i1⟩
  | 53 => ⟨S_, .i32⟩
  | 54 => ⟨S_, .i1⟩
  | 55 => ⟨S4096, .i1⟩
  | 56 => ⟨S4096, .i1⟩
  | 57 => ⟨S4096, .i1⟩
  | 58 => ⟨S4096, .i32⟩
  | 59 => ⟨S4096, .i32⟩
  | 60 => ⟨S4096, .i32⟩
  | 61 => ⟨S4096x1, .i32⟩
  | 62 => ⟨S_, .i32⟩
  | 63 => ⟨S4096x1, .i32⟩
  | 64 => ⟨S4096x1, .i32⟩
  | 65 => ⟨S_, .i32⟩
  | 66 => ⟨S_, .i32⟩
  | 67 => ⟨S_, .i32⟩
  | 68 => ⟨S4096x1, .i32⟩
  | 69 => ⟨S4096x1, .i32⟩
  | 70 => ⟨S_, .i32⟩
  | 71 => ⟨S4096x1, .i32⟩
  | 72 => ⟨S4096x1, .i32⟩
  | 73 => ⟨S_, .i32⟩
  | 74 => ⟨S_, .i32⟩
  | 75 => ⟨S128, .i32⟩
  | 76 => ⟨S128, .i32⟩
  | 77 => ⟨S128, .i32⟩
  | 78 => ⟨S_, .i32⟩
  | 79 => ⟨S128, .i32⟩
  | 80 => ⟨S128, .i1⟩
  | 81 => ⟨S128, .i32⟩
  | 82 => ⟨S128, .i32⟩
  | 83 => ⟨S_, .i32⟩
  | 84 => ⟨S128, .i32⟩
  | 85 => ⟨S128, .i1⟩
  | 86 => ⟨S128, .i1⟩
  | 87 => ⟨S_, .i32⟩
  | 88 => ⟨S128, .i32⟩
  | 89 => ⟨S128, .i32⟩
  | 90 => ⟨S128, .i32⟩
  | 91 => ⟨S1x128, .i32⟩
  | 92 => ⟨S4096x128, .i32⟩
  | 93 => ⟨S4096x128, .i32⟩
  | 94 => ⟨S4096x128, .i32⟩
  | 95 => ⟨S_, .i32⟩
  | 96 => ⟨S4096x1, .i32⟩
  | 97 => ⟨S4096x1, .i32⟩
  | 98 => ⟨S_, .i32⟩
  | 99 => ⟨S_, .i32⟩
  | 100 => ⟨S_, .i32⟩
  | 101 => ⟨S4096x1, .i32⟩
  | 102 => ⟨S4096x1, .i32⟩
  | 103 => ⟨S_, .i32⟩
  | 104 => ⟨S4096x1, .i32⟩
  | 105 => ⟨S4096x1, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S128, .i32⟩
  | 113 => ⟨S128, .i32⟩
  | 114 => ⟨S_, .i32⟩
  | 115 => ⟨S128, .i32⟩
  | 116 => ⟨S128, .i1⟩
  | 117 => ⟨S_, .i32⟩
  | 118 => ⟨S128, .i32⟩
  | 119 => ⟨S128, .i1⟩
  | 120 => ⟨S_, .i32⟩
  | 121 => ⟨S_, .i1⟩
  | 122 => ⟨S128, .i1⟩
  | 123 => ⟨S128, .i1⟩
  | 124 => ⟨S128, .i1⟩
  | 125 => ⟨S128, .i32⟩
  | 126 => ⟨S128, .i32⟩
  | 127 => ⟨S128, .i32⟩
  | _ => ⟨S8704x18432, .bf16⟩

abbrev hbmTy0_1 (i : Nat) : BufTy := match i % 128 with
  | 0 => ⟨S1x128, .i32⟩
  | 1 => ⟨S4096x128, .i32⟩
  | 2 => ⟨S4096x128, .i32⟩
  | 3 => ⟨S4096x128, .i32⟩
  | 4 => ⟨S_, .i32⟩
  | 5 => ⟨S4096x128, .i32⟩
  | 6 => ⟨S4096x128, .i32⟩
  | 7 => ⟨S4096x128, .i32⟩
  | 8 => ⟨S4096x128, .i32⟩
  | 9 => ⟨S4096x128, .i32⟩
  | 10 => ⟨S_, .i32⟩
  | 11 => ⟨S4096x128, .i32⟩
  | 12 => ⟨S4096x128, .i32⟩
  | 13 => ⟨S4096x128, .i32⟩
  | 14 => ⟨S4096x128, .i32⟩
  | 15 => ⟨S_, .i32⟩
  | 16 => ⟨S4096x128, .i32⟩
  | 17 => ⟨S4096x128, .i32⟩
  | 18 => ⟨S_, .i32⟩
  | 19 => ⟨S4096x128, .i32⟩
  | 20 => ⟨S4096x128, .i1⟩
  | 21 => ⟨S_, .i32⟩
  | 22 => ⟨S4096x128, .i32⟩
  | 23 => ⟨S4096x128, .i32⟩
  | 24 => ⟨S4096x128, .i32⟩
  | 25 => ⟨S_, .i32⟩
  | 26 => ⟨S4096x128, .i32⟩
  | 27 => ⟨S4096x128, .i1⟩
  | 28 => ⟨S_, .i32⟩
  | 29 => ⟨S4096x128, .i32⟩
  | 30 => ⟨S4096x128, .i32⟩
  | 31 => ⟨S4096x128, .i32⟩
  | 32 => ⟨S4096x128x1, .i32⟩
  | 33 => ⟨S4096x128x1, .i32⟩
  | 34 => ⟨S4096x128x2, .i32⟩
  | 35 => ⟨S16x4096x128, .f32⟩
  | 36 => ⟨S_, .i32⟩
  | 37 => ⟨S4096x128, .i32⟩
  | 38 => ⟨S4096x128, .i1⟩
  | 39 => ⟨S_, .i32⟩
  | 40 => ⟨S4096x128, .i32⟩
  | 41 => ⟨S4096x128, .i32⟩
  | 42 => ⟨S4096x128, .i32⟩
  | 43 => ⟨S4096x128x1, .i32⟩
  | 44 => ⟨S2x4096x128x16x128, .f32⟩
  | 45 => ⟨S_, .i32⟩
  | 46 => ⟨S4096x128, .i32⟩
  | 47 => ⟨S4096x128, .i1⟩
  | 48 => ⟨S_, .i32⟩
  | 49 => ⟨S4096x128, .i32⟩
  | 50 => ⟨S4096x128, .i32⟩
  | 51 => ⟨S4096x128, .i32⟩
  | 52 => ⟨S4096x128x1, .i32⟩
  | 53 => ⟨S2x4096x128x16x128, .f32⟩
  | 54 => ⟨S2x4096x16x128, .f32⟩
  | 55 => ⟨S4096x16x128, .f32⟩
  | 56 => ⟨S1x4096x16x128, .f32⟩
  | 57 => ⟨S2x4096x16x128, .f32⟩
  | 58 => ⟨S2x4096x16x128, .f32⟩
  | 59 => ⟨S2x16x256x4096, .f32⟩
  | 60 => ⟨S2x4096x16x256, .f32⟩
  | 61 => ⟨S2x4096x16x384, .f32⟩
  | 62 => ⟨S_, .f32⟩
  | 63 => ⟨S2x4096x16, .f32⟩
  | 64 => ⟨S_, .f32⟩
  | 65 => ⟨S2x4096x16, .f32⟩
  | 66 => ⟨S2x4096x16, .f32⟩
  | 67 => ⟨S2x4096x16x1, .f32⟩
  | 68 => ⟨S2x4096x16x384, .f32⟩
  | 69 => ⟨S2x4096x16x384, .f32⟩
  | 70 => ⟨S2x4096x16x384, .f32⟩
  | 71 => ⟨S_, .f32⟩
  | 72 => ⟨S2x4096x16, .f32⟩
  | 73 => ⟨S2x4096x16x1, .f32⟩
  | 74 => ⟨S2x4096x16x384, .f32⟩
  | 75 => ⟨S2x4096x16x384, .f32⟩
  | 76 => ⟨S2x4096x16x128, .f32⟩
  | 77 => ⟨S2x4096x16x128, .f32⟩
  | 78 => ⟨S2x4096x16x256, .f32⟩
  | 79 => ⟨S2x16x128x4096, .f32⟩
  | 80 => ⟨S2x4096x16x128, .f32⟩
  | 81 => ⟨S2x4096x16x128, .f32⟩
  | 82 => ⟨S8192x2048, .f32⟩
  | 83 => ⟨S8192x2048, .bf16⟩
  | _ => ⟨S8704x18432, .bf16⟩

abbrev hbmTy (i : Nat) : BufTy := match i / 128 with
  | 0 => hbmTy0_0 i
  | 1 => hbmTy0_1 i
  | _ => ⟨S8704x18432, .bf16⟩

abbrev bufTy : (tb : Table) → Fin (tcTables nBuf tb) → BufTy
  | .hbm, ⟨i, _⟩ => hbmTy i
  | _, _ => ⟨S8704x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v18 : Ref sig .tc := ⟨.hbm, 37, rfl⟩
abbrev main_v19 : Ref sig .tc := ⟨.hbm, 38, rfl⟩
abbrev main_c_0 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v20 : Ref sig .tc := ⟨.hbm, 60, rfl⟩
abbrev main_v21 : Ref sig .tc := ⟨.hbm, 61, rfl⟩
abbrev main_c_1 : Ref sig .tc := ⟨.hbm, 62, rfl⟩
abbrev main_v22 : Ref sig .tc := ⟨.hbm, 63, rfl⟩
abbrev main_v23 : Ref sig .tc := ⟨.hbm, 64, rfl⟩
abbrev main_c_2 : Ref sig .tc := ⟨.hbm, 65, rfl⟩
abbrev main_c_3 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v24 : Ref sig .tc := ⟨.hbm, 72, rfl⟩
abbrev main_c_4 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_c : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_0 : Ref sig .tc := ⟨.hbm, 87, rfl⟩
abbrev main_call3_v12 : Ref sig .tc := ⟨.hbm, 88, rfl⟩
abbrev main_call3_v13 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_c_5 : Ref sig .tc := ⟨.hbm, 95, rfl⟩
abbrev main_v30 : Ref sig .tc := ⟨.hbm, 96, rfl⟩
abbrev main_v31 : Ref sig .tc := ⟨.hbm, 97, rfl⟩
abbrev main_c_6 : Ref sig .tc := ⟨.hbm, 98, rfl⟩
abbrev main_c_7 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_v32 : Ref sig .tc := ⟨.hbm, 105, rfl⟩
abbrev main_c_8 : Ref sig .tc := ⟨.hbm, 106, rfl⟩
abbrev main_call5_v0 : Ref sig .tc := ⟨.hbm, 107, rfl⟩
abbrev main_call5_c : Ref sig .tc := ⟨.hbm, 108, rfl⟩
abbrev main_call5_v1 : Ref sig .tc := ⟨.hbm, 109, rfl⟩
abbrev main_call5_c_0 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_c_1 : Ref sig .tc := ⟨.hbm, 114, rfl⟩
abbrev main_call5_v5 : Ref sig .tc := ⟨.hbm, 115, rfl⟩
abbrev main_call5_v6 : Ref sig .tc := ⟨.hbm, 116, rfl⟩
abbrev main_call5_c_2 : Ref sig .tc := ⟨.hbm, 117, rfl⟩
abbrev main_call5_v7 : Ref sig .tc := ⟨.hbm, 118, rfl⟩
abbrev main_call5_v8 : Ref sig .tc := ⟨.hbm, 119, rfl⟩
abbrev main_call5_c_3 : Ref sig .tc := ⟨.hbm, 120, rfl⟩
abbrev main_call5_v9 : Ref sig .tc := ⟨.hbm, 121, rfl⟩
abbrev main_call5_v10 : Ref sig .tc := ⟨.hbm, 122, rfl⟩
abbrev main_call5_v11 : Ref sig .tc := ⟨.hbm, 123, rfl⟩
abbrev main_call5_v12 : Ref sig .tc := ⟨.hbm, 124, rfl⟩
abbrev main_call5_v13 : Ref sig .tc := ⟨.hbm, 125, rfl⟩
abbrev main_call5_v14 : Ref sig .tc := ⟨.hbm, 126, rfl⟩
abbrev main_v33 : Ref sig .tc := ⟨.hbm, 127, rfl⟩
abbrev main_v34 : Ref sig .tc := ⟨.hbm, 128, rfl⟩
abbrev main_v35 : Ref sig .tc := ⟨.hbm, 129, rfl⟩
abbrev main_v36 : Ref sig .tc := ⟨.hbm, 130, rfl⟩
abbrev main_v37 : Ref sig .tc := ⟨.hbm, 131, rfl⟩
abbrev main_c_9 : Ref sig .tc := ⟨.hbm, 132, rfl⟩
abbrev main_v38 : Ref sig .tc := ⟨.hbm, 133, rfl⟩
abbrev main_v39 : Ref sig .tc := ⟨.hbm, 134, rfl⟩
abbrev main_v40 : Ref sig .tc := ⟨.hbm, 135, rfl⟩
abbrev main_v41 : Ref sig .tc := ⟨.hbm, 136, rfl⟩
abbrev main_v42 : Ref sig .tc := ⟨.hbm, 137, rfl⟩
abbrev main_c_10 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_c_11 : Ref sig .tc := ⟨.hbm, 143, rfl⟩
abbrev main_v47 : Ref sig .tc := ⟨.hbm, 144, rfl⟩
abbrev main_v48 : Ref sig .tc := ⟨.hbm, 145, rfl⟩
abbrev main_c_12 : Ref sig .tc := ⟨.hbm, 146, rfl⟩
abbrev main_v49 : Ref sig .tc := ⟨.hbm, 147, rfl⟩
abbrev main_v50 : Ref sig .tc := ⟨.hbm, 148, rfl⟩
abbrev main_c_13 : Ref sig .tc := ⟨.hbm, 149, rfl⟩
abbrev main_v51 : Ref sig .tc := ⟨.hbm, 150, rfl⟩
abbrev main_v52 : Ref sig .tc := ⟨.hbm, 151, rfl⟩
abbrev main_v53 : Ref sig .tc := ⟨.hbm, 152, rfl⟩
abbrev main_c_14 : Ref sig .tc := ⟨.hbm, 153, rfl⟩
abbrev main_v54 : Ref sig .tc := ⟨.hbm, 154, rfl⟩
abbrev main_v55 : Ref sig .tc := ⟨.hbm, 155, rfl⟩
abbrev main_c_15 : Ref sig .tc := ⟨.hbm, 156, rfl⟩
abbrev main_v56 : Ref sig .tc := ⟨.hbm, 157, rfl⟩
abbrev main_v57 : Ref sig .tc := ⟨.hbm, 158, rfl⟩
abbrev main_v58 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_c_16 : Ref sig .tc := ⟨.hbm, 164, rfl⟩
abbrev main_v63 : Ref sig .tc := ⟨.hbm, 165, rfl⟩
abbrev main_v64 : Ref sig .tc := ⟨.hbm, 166, rfl⟩
abbrev main_c_17 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_c_18 : Ref sig .tc := ⟨.hbm, 173, rfl⟩
abbrev main_v70 : Ref sig .tc := ⟨.hbm, 174, rfl⟩
abbrev main_v71 : Ref sig .tc := ⟨.hbm, 175, rfl⟩
abbrev main_c_19 : Ref sig .tc := ⟨.hbm, 176, rfl⟩
abbrev main_v72 : Ref sig .tc := ⟨.hbm, 177, rfl⟩
abbrev main_v73 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_cst : Ref sig .tc := ⟨.hbm, 190, rfl⟩
abbrev main_v85 : Ref sig .tc := ⟨.hbm, 191, rfl⟩
abbrev main_cst_20 : Ref sig .tc := ⟨.hbm, 192, rfl⟩
abbrev main_v86 : Ref sig .tc := ⟨.hbm, 193, rfl⟩
abbrev main_v87 : Ref sig .tc := ⟨.hbm, 194, rfl⟩
abbrev main_v88 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_cst_21 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩

abbrev nD : Nat := 1
abbrev τ : Topo := Topo.v7x

variable {F : FTy → Type} [FloatOps F]
-- ==== Kernel2.lean ====
abbrev S8704x4096 : Shape := ⟨2, ![8704, 4096]⟩
abbrev S2x4096x18432 : Shape := ⟨3, ![2, 4096, 18432]⟩
abbrev S8704x18432 : Shape := ⟨2, ![8704, 18432]⟩
abbrev S1088x4096 : Shape := ⟨2, ![1088, 4096]⟩
abbrev S1x4096x1024 : Shape := ⟨3, ![1, 4096, 1024]⟩
abbrev S1088x1024 : Shape := ⟨2, ![1088, 1024]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S2x4096x18432, .f32⟩
  | .hbm, ⟨2, _⟩ => ⟨S8704x18432, .bf16⟩
  | .local _ .vmem, ⟨0, _⟩ => ⟨S1088x4096, .bf16⟩
  | .local _ .vmem, ⟨1, _⟩ => ⟨S1088x4096, .bf16⟩
  | .local _ .vmem, ⟨2, _⟩ => ⟨S1x4096x1024, .f32⟩
  | .local _ .vmem, ⟨3, _⟩ => ⟨S1088x1024, .bf16⟩
  | .local _ .vmem, ⟨4, _⟩ => ⟨S1088x1024, .bf16⟩
  | .local _ .vmem, ⟨5, _⟩ => ⟨S4096x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![18, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c8_i32 : BitVec 32 := 8#32
  let v12 : BitVec 32 := Scalar.addi c0_i32_8 c8_i32
  let c1_i32 : BitVec 32 := 1#32
  ⟨c0_i32_8, v12, c1_i32⟩
def k0_mult1 (k0_t1 : Fin k0_t1_loop.trips) : BitVec 32 :=
  let c0_i32_8 : BitVec 32 := 0#32
  let c1_i32 : BitVec 32 := 1#32
  let arg6 : BitVec 32 := Scf.iv c0_i32_8 c1_i32 k0_t1
  let c512_i32 : BitVec 32 := 512#32
  let v13 : BitVec 32 := Scalar.muli arg6 c512_i32
  v13
def k0_off1 (k0_t1 : Fin k0_t1_loop.trips) : Fin 3 → Nat :=
  let c0_10 : Index := 0#32
  let c0_i32_8 : BitVec 32 := 0#32
  let c1_i32 : BitVec 32 := 1#32
  let arg6 : BitVec 32 := Scf.iv c0_i32_8 c1_i32 k0_t1
  let c512_i32 : BitVec 32 := 512#32
  let v13 : BitVec 32 := Scalar.muli arg6 c512_i32
  let v14 : BitVec 32 := v13
  let v15 : Index := Scalar.indexCast v14
  let c0_11 : Index := 0#32
  ![0, v15.toNat, 0]
def k0_off2 (k0_t1 : Fin k0_t1_loop.trips) : Fin 2 → Nat :=
  let c0_i32_8 : BitVec 32 := 0#32
  let c1_i32 : BitVec 32 := 1#32
  let arg6 : BitVec 32 := Scf.iv c0_i32_8 c1_i32 k0_t1
  let c512_i32 : BitVec 32 := 512#32
  let v13 : BitVec 32 := Scalar.muli arg6 c512_i32
  let v14 : BitVec 32 := v13
  let v19 : Index := Scalar.indexCast v14
  let c0_12 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8704x4096 : Shape := ⟨2, ![8704, 4096]⟩
abbrev S2x4096x18432 : Shape := ⟨3, ![2, 4096, 18432]⟩
abbrev S1x4096x18432 : Shape := ⟨3, ![1, 4096, 18432]⟩
abbrev S4096x18432 : Shape := ⟨2, ![4096, 18432]⟩
abbrev S8704x18432 : Shape := ⟨2, ![8704, 18432]⟩
abbrev S8704x2048 : Shape := ⟨2, ![8704, 2048]⟩
abbrev S_ : Shape := ⟨0, ![]⟩
abbrev S8704x16384 : Shape := ⟨2, ![8704, 16384]⟩

abbrev nBuf : Space → Nat
  | .hbm => 13
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x18432, .f32⟩
  | .hbm, ⟨2, _⟩ => ⟨S8704x4096, .f32⟩
  | .hbm, ⟨3, _⟩ => ⟨S1x4096x18432, .f32⟩
  | .hbm, ⟨4, _⟩ => ⟨S4096x18432, .f32⟩
  | .hbm, ⟨5, _⟩ => ⟨S8704x18432, .f32⟩
  | .hbm, ⟨6, _⟩ => ⟨S8704x2048, .f32⟩
  | .hbm, ⟨7, _⟩ => ⟨S_, .f32⟩
  | .hbm, ⟨8, _⟩ => ⟨S8704x2048, .f32⟩
  | .hbm, ⟨9, _⟩ => ⟨S8704x2048, .f32⟩
  | .hbm, ⟨10, _⟩ => ⟨S8704x16384, .f32⟩
  | .hbm, ⟨11, _⟩ => ⟨S8704x18432, .f32⟩
  | .hbm, ⟨12, _⟩ => ⟨S8704x18432, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel3.lean ====
abbrev S8704x2048 : Shape := ⟨2, ![8704, 2048]⟩
abbrev S8704x18432 : Shape := ⟨2, ![8704, 18432]⟩
abbrev S2x2048x4096 : Shape := ⟨3, ![2, 2048, 4096]⟩
abbrev S8704x4096 : Shape := ⟨2, ![8704, 4096]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩
abbrev S1x512x1024 : Shape := ⟨3, ![1, 512, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .bf16⟩
  | .hbm, ⟨2, _⟩ => ⟨S8704x18432, .bf16⟩
  | .hbm, ⟨3, _⟩ => ⟨S2x2048x4096, .f32⟩
  | .hbm, ⟨4, _⟩ => ⟨S2x2048x4096, .f32⟩
  | .hbm, ⟨5, _⟩ => ⟨S8704x4096, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S2048x1024, .bf16⟩
  | .local _ .vmem, ⟨13, _⟩ => ⟨S2048x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c4_i32 : BitVec 32 := 4#32
  let v20 : BitVec 32 := Scalar.addi c0_i32_15 c4_i32
  let c1_i32 : BitVec 32 := 1#32
  ⟨c0_i32_15, v20, c1_i32⟩
def k0_mult1 (k0_t1 : Fin k0_t1_loop.trips) : BitVec 32 :=
  let c0_i32_15 : BitVec 32 := 0#32
  let c1_i32 : BitVec 32 := 1#32
  let arg11 : BitVec 32 := Scf.iv c0_i32_15 c1_i32 k0_t1
  let c512_i32 : BitVec 32 := 512#32
  let v22 : BitVec 32 := Scalar.muli arg11 c512_i32
  v22
def k0_off1 (k0_t1 : Fin k0_t1_loop.trips) : Fin 3 → Nat :=
  let c0_21 : Index := 0#32
  let c0_i32_15 : BitVec 32 := 0#32
  let c1_i32 : BitVec 32 := 1#32
  let arg11 : BitVec 32 := Scf.iv c0_i32_15 c1_i32 k0_t1
  let c512_i32 : BitVec 32 := 512#32
  let v22 : BitVec 32 := Scalar.muli arg11 c512_i32
  let v23 : BitVec 32 := v22
  let v24 : Index := Scalar.indexCast v23
  let c0_22 : Index := 0#32
  ![0, v24.toNat, 0]
def k0_off2 (k0_t1 : Fin k0_t1_loop.trips) : Fin 2 → Nat :=
  let c0_i32_15 : BitVec 32 := 0#32
  let c1_i32 : BitVec 32 := 1#32
  let arg11 : BitVec 32 := Scf.iv c0_i32_15 c1_i32 k0_t1
  let c512_i32 : BitVec 32 := 512#32
  let v22 : BitVec 32 := Scalar.muli arg11 c512_i32
  let v23 : BitVec 32 := v22
  let v28 : Index := Scalar.indexCast v23
  let c0_23 : Index := 0#32
  ![v28.toNat, 0]
@[reducible] def k0_t2_loop : Scf.Loop 32 :=
  let c0_i32_17 : BitVec 32 := 0#32
  let c4_i32_18 : BitVec 32 := 4#32
  let v21 : BitVec 32 := Scalar.addi c0_i32_17 c4_i32_18
  let c1_i32_19 : BitVec 32 := 1#32
  ⟨c0_i32_17, v21, c1_i32_19⟩
def k0_mult2 (k0_t2 : Fin k0_t2_loop.trips) : BitVec 32 :=
  let c0_i32_17 : BitVec 32 := 0#32
  let c1_i32_19 : BitVec 32 := 1#32
  let arg11 : BitVec 32 := Scf.iv c0_i32_17 c1_i32_19 k0_t2
  let c512_i32 : BitVec 32 := 512#32
  let v22 : BitVec 32 := Scalar.muli arg11 c512_i32
  v22
def k0_off3 (k0_t2 : Fin k0_t2_loop.trips) : Fin 3 → Nat :=
  let c0_21 : Index := 0#32
  let c0_i32_17 : BitVec 32 := 0#32
  let c1_i32_19 : BitVec 32 := 1#32
  let arg11 : BitVec 32 := Scf.iv c0_i32_17 c1_i32_19 k0_t2
  let c512_i32 : BitVec 32 := 512#32
  let v22 : BitVec 32 := Scalar.muli arg11 c512_i32
  let v23 : BitVec 32 := v22
  let v24 : Index := Scalar.indexCast v23
  let c0_22 : Index := 0#32
  ![0, v24.toNat, 0]
def k0_off4 (k0_t2 : Fin k0_t2_loop.trips) : Fin 2 → Nat :=
  let c0_i32_17 : BitVec 32 := 0#32
  let c1_i32_19 : BitVec 32 := 1#32
  let arg11 : BitVec 32 := Scf.iv c0_i32_17 c1_i32_19 k0_t2
  let c512_i32 : BitVec 32 := 512#32
  let v22 : BitVec 32 := Scalar.muli arg11 c512_i32
  let v23 : BitVec 32 := v22
  let v28 : Index := Scalar.indexCast v23
  let c0_23 : Index := 0#32
  ![v28.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg0 c10_i32
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi arg0 c14_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8704x2048 : Shape := ⟨2, ![8704, 2048]⟩
abbrev S8704x18432 : Shape := ⟨2, ![8704, 18432]⟩
abbrev S2x2048x4096 : Shape := ⟨3, ![2, 2048, 4096]⟩
abbrev S8704x4096 : Shape := ⟨2, ![8704, 4096]⟩
abbrev S_ : Shape := ⟨0, ![]⟩
abbrev S1x2048x4096 : Shape := ⟨3, ![1, 2048, 4096]⟩
abbrev S2048x4096 : Shape := ⟨2, ![2048, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .bf16⟩
  | .hbm, ⟨2, _⟩ => ⟨S8704x18432, .bf16⟩
  | .hbm, ⟨3, _⟩ => ⟨S2x2048x4096, .f32⟩
  | .hbm, ⟨4, _⟩ => ⟨S2x2048x4096, .f32⟩
  | .hbm, ⟨5, _⟩ => ⟨S8704x4096, .bf16⟩
  | .hbm, ⟨6, _⟩ => ⟨S8704x4096, .f32⟩
  | .hbm, ⟨7, _⟩ => ⟨S8704x4096, .bf16⟩
  | .hbm, ⟨8, _⟩ => ⟨S8704x4096, .f32⟩
  | .hbm, ⟨9, _⟩ => ⟨S8704x4096, .f32⟩
  | .hbm, ⟨10, _⟩ => ⟨S8704x4096, .f32⟩
  | .hbm, ⟨11, _⟩ => ⟨S_, .f32⟩
  | .hbm, ⟨12, _⟩ => ⟨S8704x4096, .f32⟩
  | .hbm, ⟨13, _⟩ => ⟨S8704x4096, .f32⟩
  | .hbm, ⟨14, _⟩ => ⟨S_, .f32⟩
  | .hbm, ⟨15, _⟩ => ⟨S8704x4096, .f32⟩
  | .hbm, ⟨16, _⟩ => ⟨S8704x4096, .f32⟩
  | .hbm, ⟨17, _⟩ => ⟨S8704x2048, .f32⟩
  | .hbm, ⟨18, _⟩ => ⟨S1x2048x4096, .f32⟩
  | .hbm, ⟨19, _⟩ => ⟨S2048x4096, .f32⟩
  | .hbm, ⟨20, _⟩ => ⟨S8704x4096, .f32⟩
  | .hbm, ⟨21, _⟩ => ⟨S8704x4096, .f32⟩
  | .hbm, ⟨22, _⟩ => ⟨S8704x4096, .f32⟩
  | .hbm, ⟨23, _⟩ => ⟨S8704x4096, .f32⟩
  | .hbm, ⟨24, _⟩ => ⟨S_, .f32⟩
  | .hbm, ⟨25, _⟩ => ⟨S8704x4096, .f32⟩
  | .hbm, ⟨26, _⟩ => ⟨S8704x4096, .f32⟩
  | .hbm, ⟨27, _⟩ => ⟨S_, .f32⟩
  | .hbm, ⟨28, _⟩ => ⟨S8704x4096, .f32⟩
  | .hbm, ⟨29, _⟩ => ⟨S8704x4096, .f32⟩
  | .hbm, ⟨30, _⟩ => ⟨S8704x2048, .f32⟩
  | .hbm, ⟨31, _⟩ => ⟨S1x2048x4096, .f32⟩
  | .hbm, ⟨32, _⟩ => ⟨S2048x4096, .f32⟩
  | .hbm, ⟨33, _⟩ => ⟨S8704x4096, .f32⟩
  | .hbm, ⟨34, _⟩ => ⟨S8704x4096, .f32⟩
  | .hbm, ⟨35, _⟩ => ⟨S8704x4096, .f32⟩
  | .hbm, ⟨36, _⟩ => ⟨S8704x4096, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel4.lean ====
abbrev S8704x4096 : Shape := ⟨2, ![8704, 4096]⟩
abbrev S2x4096x4096 : Shape := ⟨3, ![2, 4096, 4096]⟩
abbrev S8192x4096 : Shape := ⟨2, ![8192, 4096]⟩
abbrev S512x4096 : Shape := ⟨2, ![512, 4096]⟩
abbrev S8x24576 : Shape := ⟨2, ![8, 24576]⟩
abbrev S8x1x24576 : Shape := ⟨3, ![8, 1, 24576]⟩
abbrev S1x4096x1024 : Shape := ⟨3, ![1, 4096, 1024]⟩
abbrev S512x1024 : Shape := ⟨2, ![512, 1024]⟩
abbrev S1x1x1024 : Shape := ⟨3, ![1, 1, 1024]⟩
abbrev S4096x1024 : Shape := ⟨2, ![4096, 1024]⟩
abbrev S1x512x1024 : Shape := ⟨3, ![1, 512, 1024]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8192x4096, .f32⟩
  | .hbm, ⟨3, _⟩ => ⟨S512x4096, .f32⟩
  | .hbm, ⟨4, _⟩ => ⟨S8x24576, .f32⟩
  | .hbm, ⟨5, _⟩ => ⟨S8x1x24576, .f32⟩
  | .hbm, ⟨6, _⟩ => ⟨S8704x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S4096x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c8_i32 : BitVec 32 := 8#32
  let v16 : BitVec 32 := Scalar.addi c0_i32_9 c8_i32
  let c1_i32 : BitVec 32 := 1#32
  ⟨c0_i32_9, v16, c1_i32⟩
def k0_mult1 (k0_t1 : Fin k0_t1_loop.trips) : BitVec 32 :=
  let c0_i32_9 : BitVec 32 := 0#32
  let c1_i32 : BitVec 32 := 1#32
  let arg9 : BitVec 32 := Scf.iv c0_i32_9 c1_i32 k0_t1
  let c512_i32 : BitVec 32 := 512#32
  let v17 : BitVec 32 := Scalar.muli arg9 c512_i32
  v17
def k0_off1 (k0_t1 : Fin k0_t1_loop.trips) : Fin 3 → Nat :=
  let c0_11 : Index := 0#32
  let c0_i32_9 : BitVec 32 := 0#32
  let c1_i32 : BitVec 32 := 1#32
  let arg9 : BitVec 32 := Scf.iv c0_i32_9 c1_i32 k0_t1
  let c512_i32 : BitVec 32 := 512#32
  let v17 : BitVec 32 := Scalar.muli arg9 c512_i32
  let v18 : BitVec 32 := v17
  let v19 : Index := Scalar.indexCast v18
  let c0_12 : Index := 0#32
  ![0, v19.toNat, 0]
def k0_off2 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c512_i32 : BitVec 32 := 512#32
  let v17 : BitVec 32 := Scalar.muli arg9 c512_i32
  let v18 : BitVec 32 := v17
  let v23 : Index := Scalar.indexCast v18
  let c0_13 : Index := 0#32
  ![v23.toNat, 0]
def k0_cond2 (i : grid0.Coords) : BitVec 1 :=
  let arg1 : BitVec 32 := BitVec.ofNat 32 (i 1).val
  let c16_i32 : BitVec 32 := 16#32
  let v10 : BitVec 1 := Scalar.cmpi .slt arg1 c16_i32
  let v11 : BitVec 32 := Scalar.extui v10
  let c0_i32_7 : BitVec 32 := 0#32
  let v12 : BitVec 1 := Scalar.cmpi .ne v11 c0_i32_7
  v12

def k0_cond3 (i : grid0.Coords) : BitVec 1 :=
  let arg1 : BitVec 32 := BitVec.ofNat 32 (i 1).val
  let c16_i32 : BitVec 32 := 16#32
  let v10 : BitVec 1 := Scalar.cmpi .slt arg1 c16_i32
  let v_true : BitVec 1 := 1#1
  let v13 : BitVec 1 := Scalar.xori v10 v_true
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c8_i32 : BitVec 32 := 8#32
  let v1 : BitVec 32 := Scalar.divsi arg1 c8_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg1 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c8_i32_4 : BitVec 32 := 8#32
  let v19 : BitVec 32 := Scalar.addi arg0 c8_i32_4
  let c0_i32_5 : BitVec 32 := 0#32
  let c0_i32_6 : BitVec 32 := 0#32
  ![v18.toNat, c0_i32_5.toNat, v19.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8704x4096 : Shape := ⟨2, ![8704, 4096]⟩
abbrev S2x4096x4096 : Shape := ⟨3, ![2, 4096, 4096]⟩
abbrev S8192x4096 : Shape := ⟨2, ![8192, 4096]⟩
abbrev S512x4096 : Shape := ⟨2, ![512, 4096]⟩
abbrev S8x24576 : Shape := ⟨2, ![8, 24576]⟩
abbrev S1x4096x4096 : Shape := ⟨3, ![1, 4096, 4096]⟩
abbrev S4096x4096 : Shape := ⟨2, ![4096, 4096]⟩
abbrev S8x4096 : Shape := ⟨2, ![8, 4096]⟩
abbrev S2x4096 : Shape := ⟨2, ![2, 4096]⟩
abbrev S2x1x4096 : Shape := ⟨3, ![2, 1, 4096]⟩
abbrev S1x4096 : Shape := ⟨2, ![1, 4096]⟩
abbrev S4096 : Shape := ⟨1, ![4096]⟩

abbrev nBuf : Space → Nat
  | .hbm => 27
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8192x4096, .f32⟩
  | .hbm, ⟨3, _⟩ => ⟨S512x4096, .f32⟩
  | .hbm, ⟨4, _⟩ => ⟨S8x24576, .f32⟩
  | .hbm, ⟨5, _⟩ => ⟨S8704x4096, .f32⟩
  | .hbm, ⟨6, _⟩ => ⟨S1x4096x4096, .f32⟩
  | .hbm, ⟨7, _⟩ => ⟨S4096x4096, .f32⟩
  | .hbm, ⟨8, _⟩ => ⟨S8704x4096, .f32⟩
  | .hbm, ⟨9, _⟩ => ⟨S8x4096, .f32⟩
  | .hbm, ⟨10, _⟩ => ⟨S2x4096x4096, .f32⟩
  | .hbm, ⟨11, _⟩ => ⟨S2x4096, .f32⟩
  | .hbm, ⟨12, _⟩ => ⟨S2x1x4096, .f32⟩
  | .hbm, ⟨13, _⟩ => ⟨S8192x4096, .f32⟩
  | .hbm, ⟨14, _⟩ => ⟨S2x4096x4096, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S8192x4096, .f32⟩
  | .hbm, ⟨19, _⟩ => ⟨S1x4096, .f32⟩
  | .hbm, ⟨20, _⟩ => ⟨S4096, .f32⟩
  | .hbm, ⟨21, _⟩ => ⟨S512x4096, .f32⟩
  | .hbm, ⟨22, _⟩ => ⟨S1x4096, .f32⟩
  | .hbm, ⟨23, _⟩ => ⟨S512x4096, .f32⟩
  | .hbm, ⟨24, _⟩ => ⟨S512x4096, .f32⟩
  | .hbm, ⟨25, _⟩ => ⟨S512x4096, .f32⟩
  | .hbm, ⟨26, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Kernel5.lean ====
abbrev S16x1088x4096 : Shape := ⟨3, ![16, 1088, 4096]⟩
abbrev S2x16x4096x1024 : Shape := ⟨4, ![2, 16, 4096, 1024]⟩
abbrev S2x16x1024x4096 : Shape := ⟨4, ![2, 16, 1024, 4096]⟩
abbrev S16x1088x1 : Shape := ⟨3, ![16, 1088, 1]⟩
abbrev S1x1088x4096 : Shape := ⟨3, ![1, 1088, 4096]⟩
abbrev S1x1x4096x256 : Shape := ⟨4, ![1, 1, 4096, 256]⟩
abbrev S1x1x1024x512 : Shape := ⟨4, ![1, 1, 1024, 512]⟩
abbrev S1x1088x1 : Shape := ⟨3, ![1, 1088, 1]⟩
abbrev S1x1088x512 : Shape := ⟨3, ![1, 1088, 512]⟩
abbrev S4x1088x256 : Shape := ⟨3, ![4, 1088, 256]⟩
abbrev S1088x4096 : Shape := ⟨2, ![1088, 4096]⟩
abbrev S4096x256 : Shape := ⟨2, ![4096, 256]⟩
abbrev S1088x256 : Shape := ⟨2, ![1088, 256]⟩
abbrev S1x1088x256 : Shape := ⟨3, ![1, 1088, 256]⟩
abbrev S1x1x256x512 : Shape := ⟨4, ![1, 1, 256, 512]⟩
abbrev S256x512 : Shape := ⟨2, ![256, 512]⟩
abbrev S1088x512 : Shape := ⟨2, ![1088, 512]⟩
abbrev S1088x1 : Shape := ⟨2, ![1088, 1]⟩

abbrev nBuf : Space → Nat
  | .hbm => 6
  | .vmem => 13
  | .smem => 0
  | _ => 0

abbrev bufTy : (tb : Table) → Fin (tcTables nBuf tb) → BufTy
  | .hbm, ⟨0, _⟩ => ⟨S16x1088x4096, .bf16⟩
  | .hbm, ⟨1, _⟩ => ⟨S2x16x4096x1024, .f32⟩
  | .hbm, ⟨2, _⟩ => ⟨S2x16x4096x1024, .f32⟩
  | .hbm, ⟨3, _⟩ => ⟨S2x16x1024x4096, .f32⟩
  | .hbm, ⟨4, _⟩ => ⟨S16x1088x1, .f32⟩
  | .hbm, ⟨5, _⟩ => ⟨S16x1088x4096, .bf16⟩
  | .local _ .vmem, ⟨0, _⟩ => ⟨S1x1088x4096, .bf16⟩
  | .local _ .vmem, ⟨1, _⟩ => ⟨S1x1088x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x1x1024x512, .f32⟩
  | .local _ .vmem, ⟨7, _⟩ => ⟨S1x1x1024x512, .f32⟩
  | .local _ .vmem, ⟨8, _⟩ => ⟨S1x1088x1, .f32⟩
  | .local _ .vmem, ⟨9, _⟩ => ⟨S1x1088x1, .f32⟩
  | .local _ .vmem, ⟨10, _⟩ => ⟨S1x1088x512, .bf16⟩
  | .local _ .vmem, ⟨11, _⟩ => ⟨S1x1088x512, .bf16⟩
  | .local _ .vmem, ⟨12, _⟩ => ⟨S4x1088x256, .bf16⟩
  | _, _ => ⟨S16x1088x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg1 : BitVec 32 := BitVec.ofNat 32 (i 1).val
  let v20 : Index := Scalar.indexCast arg1
  let c0_13 : Index := 0#32
  let c0_14 : Index := 0#32
  ![v20.toNat, 0, 0]
def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c1_i32 : BitVec 32 := 1#32
  let v1 : BitVec 32 := Scalar.addi arg0 c1_i32
  let c15_i32 : BitVec 32 := 15#32
  let v2 : BitVec 32 := Scalar.minsi v1 c15_i32
  let v3 : BitVec 32 := Scalar.select v0 arg0 v2
  let c0_i32 : BitVec 32 := 0#32
  let c0_i32_0 : BitVec 32 := 0#32
  let c0_i32_1 : BitVec 32 := 0#32
  ![v3.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 1 := Scalar.cmpi .sge arg1 c6_i32
  let c1_i32 : BitVec 32 := 1#32
  let v1 : BitVec 32 := Scalar.addi arg0 c1_i32
  let c15_i32 : BitVec 32 := 15#32
  let v2 : BitVec 32 := Scalar.minsi v1 c15_i32
  let v3 : BitVec 32 := Scalar.select v0 v2 arg0
  let c3_i32 : BitVec 32 := 3#32
  let v4 : BitVec 32 := Scalar.minsi arg1 c3_i32
  let c0_i32 : BitVec 32 := 0#32
  let v5 : BitVec 32 := Scalar.select v0 c0_i32 v4
  let c0_i32_0 : BitVec 32 := 0#32
  let c0_i32_1 : BitVec 32 := 0#32
  let c0_i32_2 : BitVec 32 := 0#32
  ![c0_i32_0.toNat, v3.toNat, c0_i32_1.toNat, v5.toNat]

def cc0_transform_2 (i : grid0.Coords) : Fin 4 → Nat :=
  let arg0 : BitVec 32 := BitVec.ofNat 32 (i 0).val
  let arg1 : BitVec 32 := BitVec.ofNat 32 (i 1).val
  let c9_i32 : BitVec 32 := 9#32
  let v0 : BitVec 1 := Scalar.cmpi .sge arg1 c9_i32
  let c1_i32 : BitVec 32 := 1#32
  let v1 : BitVec 32 := Scalar.addi arg0 c1_i32
  let c15_i32 : BitVec 32 := 15#32
  let v2 : BitVec 32 := Scalar.minsi v1 c15_i32
  let v3 : BitVec 32 := Scalar.select v0 v2 arg0
  let c3_i32 : BitVec 32 := 3#32
  let v4 : BitVec 32 := Scalar.minsi arg1 c3_i32
  let c0_i32 : BitVec 32 := 0#32
  let v5 : BitVec 32 := Scalar.select v0 c0_i32 v4
  let c0_i32_0 : BitVec 32 := 0#32
  let c0_i32_1 : BitVec 32 := 0#32
  let c0_i32_2 : BitVec 32 := 0#32
  ![c0_i32_0.toNat, v3.toNat, c0_i32_1.toNat, v5.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c0_i32_0 : BitVec 32 := 0#32
  let v1 : BitVec 1 := Scalar.cmpi .sgt arg0 c0_i32_0
  let v2 : BitVec 1 := Scalar.andi v0 v1
  let c1_i32 : BitVec 32 := 1#32
  let v3 : BitVec 32 := Scalar.subi arg0 c1_i32
  let v4 : BitVec 32 := Scalar.select v2 v3 arg0
  let c4_i32 : BitVec 32 := 4#32
  let v5 : BitVec 32 := Scalar.subi arg1 c4_i32
  let c0_i32_1 : BitVec 32 := 0#32
  let v6 : BitVec 32 := Scalar.maxsi v5 c0_i32_1
  let c7_i32 : BitVec 32 := 7#32
  let v7 : BitVec 32 := Scalar.select v2 c7_i32 v6
  let c0_i32_2 : BitVec 32 := 0#32
  let c0_i32_3 : BitVec 32 := 0#32
  let c0_i32_4 : BitVec 32 := 0#32
  ![c0_i32_2.toNat, v4.toNat, c0_i32_3.toNat, v7.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

abbrev stage0_0 : Fin 2 → Memref sig .tc .vmem S1x1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1088x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1088x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16x1088x4096 : Shape := ⟨3, ![16, 1088, 4096]⟩
abbrev S2x16x4096x1024 : Shape := ⟨4, ![2, 16, 4096, 1024]⟩
abbrev S2x16x1024x4096 : Shape := ⟨4, ![2, 16, 1024, 4096]⟩
abbrev S16x1088x1 : Shape := ⟨3, ![16, 1088, 1]⟩
abbrev S1x16x4096x1024 : Shape := ⟨4, ![1, 16, 4096, 1024]⟩
abbrev S16x4096x1024 : Shape := ⟨3, ![16, 4096, 1024]⟩
abbrev S16x1088x1024 : Shape := ⟨3, ![16, 1088, 1024]⟩
abbrev S_ : Shape := ⟨0, ![]⟩
abbrev S1x16x1024x4096 : Shape := ⟨4, ![1, 16, 1024, 4096]⟩
abbrev S16x1024x4096 : Shape := ⟨3, ![16, 1024, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16x1088x4096, .bf16⟩
  | .hbm, ⟨1, _⟩ => ⟨S2x16x4096x1024, .f32⟩
  | .hbm, ⟨2, _⟩ => ⟨S2x16x4096x1024, .f32⟩
  | .hbm, ⟨3, _⟩ => ⟨S2x16x1024x4096, .f32⟩
  | .hbm, ⟨4, _⟩ => ⟨S16x1088x1, .f32⟩
  | .hbm, ⟨5, _⟩ => ⟨S16x1088x4096, .f32⟩
  | .hbm, ⟨6, _⟩ => ⟨S1x16x4096x1024, .f32⟩
  | .hbm, ⟨7, _⟩ => ⟨S16x4096x1024, .f32⟩
  | .hbm, ⟨8, _⟩ => ⟨S16x1088x1024, .f32⟩
  | .hbm, ⟨9, _⟩ => ⟨S16x1088x1024, .f32⟩
  | .hbm, ⟨10, _⟩ => ⟨S16x1088x1024, .f32⟩
  | .hbm, ⟨11, _⟩ => ⟨S_, .f32⟩
  | .hbm, ⟨12, _⟩ => ⟨S16x1088x1024, .f32⟩
  | .hbm, ⟨13, _⟩ => ⟨S16x1088x1024, .f32⟩
  | .hbm, ⟨14, _⟩ => ⟨S_, .f32⟩
  | .hbm, ⟨15, _⟩ => ⟨S16x1088x1024, .f32⟩
  | .hbm, ⟨16, _⟩ => ⟨S16x1088x1024, .f32⟩
  | .hbm, ⟨17, _⟩ => ⟨S16x1088x1024, .f32⟩
  | .hbm, ⟨18, _⟩ => ⟨S1x16x4096x1024, .f32⟩
  | .hbm, ⟨19, _⟩ => ⟨S16x4096x1024, .f32⟩
  | .hbm, ⟨20, _⟩ => ⟨S16x1088x1024, .f32⟩
  | .hbm, ⟨21, _⟩ => ⟨S16x1088x1024, .f32⟩
  | .hbm, ⟨22, _⟩ => ⟨S1x16x1024x4096, .f32⟩
  | .hbm, ⟨23, _⟩ => ⟨S16x1024x4096, .f32⟩
  | .hbm, ⟨24, _⟩ => ⟨S16x1088x4096, .f32⟩
  | .hbm, ⟨25, _⟩ => ⟨S16x1088x4096, .f32⟩
  | .hbm, ⟨26, _⟩ => ⟨S16x1088x4096, .f32⟩
  | .hbm, ⟨27, _⟩ => ⟨S16x1088x4096, .bf16⟩
  | _, _ => ⟨S16x1088x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== Kernel6.lean ====
abbrev S8704x18432 : Shape := ⟨2, ![8704, 18432]⟩
abbrev S512x2048 : Shape := ⟨2, ![512, 2048]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S8704x18432, .bf16⟩
  | .hbm, ⟨1, _⟩ => ⟨S512x2048, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | _, _ => ⟨S8704x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c16_i32 : BitVec 32 := 16#32
  let v1 : BitVec 32 := Scalar.addi c16_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c32_i32_0 : BitVec 32 := 32#32
  let v1 : BitVec 32 := Scalar.addi c32_i32_0 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8704x18432 : Shape := ⟨2, ![8704, 18432]⟩
abbrev S512x18432 : Shape := ⟨2, ![512, 18432]⟩
abbrev S2x256x18432 : Shape := ⟨3, ![2, 256, 18432]⟩
abbrev S2x256x2048 : Shape := ⟨3, ![2, 256, 2048]⟩
abbrev S2x256x16x128 : Shape := ⟨4, ![2, 256, 16, 128]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x128x256 : Shape := ⟨4, ![2, 16, 128, 256]⟩
abbrev S512x2048 : Shape := ⟨2, ![512, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8704x18432, .bf16⟩
  | .hbm, ⟨1, _⟩ => ⟨S512x18432, .bf16⟩
  | .hbm, ⟨2, _⟩ => ⟨S512x18432, .f32⟩
  | .hbm, ⟨3, _⟩ => ⟨S2x256x18432, .f32⟩
  | .hbm, ⟨4, _⟩ => ⟨S2x256x2048, .f32⟩
  | .hbm, ⟨5, _⟩ => ⟨S2x256x16x128, .f32⟩
  | .hbm, ⟨6, _⟩ => ⟨S2x256x2048, .f32⟩
  | .hbm, ⟨7, _⟩ => ⟨S2x256x16x128, .f32⟩
  | .hbm, ⟨8, _⟩ => ⟨S2x256x2048, .f32⟩
  | .hbm, ⟨9, _⟩ => ⟨S2x256x16x128, .f32⟩
  | .hbm, ⟨10, _⟩ => ⟨S2x16x256x256, .f32⟩
  | .hbm, ⟨11, _⟩ => ⟨S_, .f32⟩
  | .hbm, ⟨12, _⟩ => ⟨S2x16x256, .f32⟩
  | .hbm, ⟨13, _⟩ => ⟨S_, .f32⟩
  | .hbm, ⟨14, _⟩ => ⟨S2x16x256, .f32⟩
  | .hbm, ⟨15, _⟩ => ⟨S2x16x256, .f32⟩
  | .hbm, ⟨16, _⟩ => ⟨S2x16x256x1, .f32⟩
  | .hbm, ⟨17, _⟩ => ⟨S2x16x256x256, .f32⟩
  | .hbm, ⟨18, _⟩ => ⟨S2x16x256x256, .f32⟩
  | .hbm, ⟨19, _⟩ => ⟨S2x16x256x256, .f32⟩
  | .hbm, ⟨20, _⟩ => ⟨S_, .f32⟩
  | .hbm, ⟨21, _⟩ => ⟨S2x16x256, .f32⟩
  | .hbm, ⟨22, _⟩ => ⟨S2x16x256x1, .f32⟩
  | .hbm, ⟨23, _⟩ => ⟨S2x16x256x256, .f32⟩
  | .hbm, ⟨24, _⟩ => ⟨S2x16x256x256, .f32⟩
  | .hbm, ⟨25, _⟩ => ⟨S2x16x128x256, .f32⟩
  | .hbm, ⟨26, _⟩ => ⟨S2x256x16x128, .f32⟩
  | .hbm, ⟨27, _⟩ => ⟨S512x2048, .f32⟩
  | .hbm, ⟨28, _⟩ => ⟨S512x2048, .bf16⟩
  | _, _ => ⟨S8704x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== Kernel7.lean ====
abbrev S8704x18432 : Shape := ⟨2, ![8704, 18432]⟩
abbrev S2x2048 : Shape := ⟨2, ![2, 2048]⟩
abbrev S2x16x128x128 : Shape := ⟨4, ![2, 16, 128, 128]⟩
abbrev S2x16x128 : Shape := ⟨3, ![2, 16, 128]⟩
abbrev S1x16x128 : Shape := ⟨3, ![1, 16, 128]⟩
abbrev S16x128 : Shape := ⟨2, ![16, 128]⟩
abbrev S128x16 : Shape := ⟨2, ![128, 16]⟩
abbrev S2x1x2048 : Shape := ⟨3, ![2, 1, 2048]⟩
abbrev S8704x2048 : Shape := ⟨2, ![8704, 2048]⟩
abbrev S256x2048 : Shape := ⟨2, ![256, 2048]⟩
abbrev S1x1x2048 : Shape := ⟨3, ![1, 1, 2048]⟩
abbrev S1x16x128x128 : Shape := ⟨4, ![1, 16, 128, 128]⟩
abbrev S128x2048 : Shape := ⟨2, ![128, 2048]⟩
abbrev S128 : Shape := ⟨1, ![128]⟩
abbrev S128x1 : Shape := ⟨2, ![128, 1]⟩
abbrev S1x2048 : Shape := ⟨2, ![1, 2048]⟩
abbrev S1x1x128x128 : Shape := ⟨4, ![1, 1, 128, 128]⟩
abbrev S128x128 : Shape := ⟨2, ![128, 128]⟩

abbrev nBuf : Space → Nat
  | .hbm => 9
  | .vmem => 9
  | .smem => 0
  | _ => 0

abbrev bufTy : (tb : Table) → Fin (tcTables nBuf tb) → BufTy
  | .hbm, ⟨0, _⟩ => ⟨S8704x18432, .bf16⟩
  | .hbm, ⟨1, _⟩ => ⟨S2x2048, .f32⟩
  | .hbm, ⟨2, _⟩ => ⟨S2x16x128x128, .f32⟩
  | .hbm, ⟨3, _⟩ => ⟨S2x16x128, .f32⟩
  | .hbm, ⟨4, _⟩ => ⟨S1x16x128, .f32⟩
  | .hbm, ⟨5, _⟩ => ⟨S16x128, .f32⟩
  | .hbm, ⟨6, _⟩ => ⟨S128x16, .f32⟩
  | .hbm, ⟨7, _⟩ => ⟨S2x1x2048, .f32⟩
  | .hbm, ⟨8, _⟩ => ⟨S8704x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x1x2048, .f32⟩
  | .local _ .vmem, ⟨5, _⟩ => ⟨S1x16x128x128, .f32⟩
  | .local _ .vmem, ⟨6, _⟩ => ⟨S128x16, .f32⟩
  | .local _ .vmem, ⟨7, _⟩ => ⟨S256x2048, .bf16⟩
  | .local _ .vmem, ⟨8, _⟩ => ⟨S256x2048, .bf16⟩
  | _, _ => ⟨S8704x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8704x18432 : Shape := ⟨2, ![8704, 18432]⟩
abbrev S2x2048 : Shape := ⟨2, ![2, 2048]⟩
abbrev S2x16x128x128 : Shape := ⟨4, ![2, 16, 128, 128]⟩
abbrev S2x16x128 : Shape := ⟨3, ![2, 16, 128]⟩
abbrev S8704x2048 : Shape := ⟨2, ![8704, 2048]⟩
abbrev S_ : Shape := ⟨0, ![]⟩
abbrev S1x2048 : Shape := ⟨2, ![1, 2048]⟩
abbrev S2048 : Shape := ⟨1, ![2048]⟩
abbrev S8704 : Shape := ⟨1, ![8704]⟩
abbrev S8704x1 : Shape := ⟨2, ![8704, 1]⟩
abbrev S68x128x16x128 : Shape := ⟨4, ![68, 128, 16, 128]⟩
abbrev S1x16x128x128 : Shape := ⟨4, ![1, 16, 128, 128]⟩
abbrev S16x128x128 : Shape := ⟨3, ![16, 128, 128]⟩
abbrev S16x68x128x128 : Shape := ⟨4, ![16, 68, 128, 128]⟩
abbrev S1x16x128 : Shape := ⟨3, ![1, 16, 128]⟩
abbrev S16x128 : Shape := ⟨2, ![16, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 83
  | .vmem => 0
  | .smem => 0
  | _ => 0

abbrev bufTy : (tb : Table) → Fin (tcTables nBuf tb) → BufTy
  | .hbm, ⟨0, _⟩ => ⟨S8704x18432, .bf16⟩
  | .hbm, ⟨1, _⟩ => ⟨S2x2048, .f32⟩
  | .hbm, ⟨2, _⟩ => ⟨S2x16x128x128, .f32⟩
  | .hbm, ⟨3, _⟩ => ⟨S2x16x128, .f32⟩
  | .hbm, ⟨4, _⟩ => ⟨S8704x2048, .bf16⟩
  | .hbm, ⟨5, _⟩ => ⟨S8704x2048, .f32⟩
  | .hbm, ⟨6, _⟩ => ⟨S8704x2048, .bf16⟩
  | .hbm, ⟨7, _⟩ => ⟨S8704x2048, .f32⟩
  | .hbm, ⟨8, _⟩ => ⟨S8704x2048, .f32⟩
  | .hbm, ⟨9, _⟩ => ⟨S8704x2048, .f32⟩
  | .hbm, ⟨10, _⟩ => ⟨S_, .f32⟩
  | .hbm, ⟨11, _⟩ => ⟨S8704x2048, .f32⟩
  | .hbm, ⟨12, _⟩ => ⟨S8704x2048, .f32⟩
  | .hbm, ⟨13, _⟩ => ⟨S8704x2048, .f32⟩
  | .hbm, ⟨14, _⟩ => ⟨S_, .f32⟩
  | .hbm, ⟨15, _⟩ => ⟨S8704x2048, .f32⟩
  | .hbm, ⟨16, _⟩ => ⟨S8704x2048, .f32⟩
  | .hbm, ⟨17, _⟩ => ⟨S8704x2048, .f32⟩
  | .hbm, ⟨18, _⟩ => ⟨S_, .f32⟩
  | .hbm, ⟨19, _⟩ => ⟨S8704x2048, .f32⟩
  | .hbm, ⟨20, _⟩ => ⟨S8704x2048, .f32⟩
  | .hbm, ⟨21, _⟩ => ⟨S_, .f32⟩
  | .hbm, ⟨22, _⟩ => ⟨S8704x2048, .f32⟩
  | .hbm, ⟨23, _⟩ => ⟨S8704x2048, .f32⟩
  | .hbm, ⟨24, _⟩ => ⟨S8704x2048, .f32⟩
  | .hbm, ⟨25, _⟩ => ⟨S8704x2048, .f32⟩
  | .hbm, ⟨26, _⟩ => ⟨S8704x2048, .f32⟩
  | .hbm, ⟨27, _⟩ => ⟨S_, .f32⟩
  | .hbm, ⟨28, _⟩ => ⟨S8704x2048, .f32⟩
  | .hbm, ⟨29, _⟩ => ⟨S8704x2048, .f32⟩
  | .hbm, ⟨30, _⟩ => ⟨S8704x2048, .f32⟩
  | .hbm, ⟨31, _⟩ => ⟨S_, .f32⟩
  | .hbm, ⟨32, _⟩ => ⟨S8704x2048, .f32⟩
  | .hbm, ⟨33, _⟩ => ⟨S8704x2048, .f32⟩
  | .hbm, ⟨34, _⟩ => ⟨S8704x2048, .f32⟩
  | .hbm, ⟨35, _⟩ => ⟨S_, .f32⟩
  | .hbm, ⟨36, _⟩ => ⟨S8704x2048, .f32⟩
  | .hbm, ⟨37, _⟩ => ⟨S8704x2048, .f32⟩
  | .hbm, ⟨38, _⟩ => ⟨S_, .f32⟩
  | .hbm, ⟨39, _⟩ => ⟨S8704x2048, .f32⟩
  | .hbm, ⟨40, _⟩ => ⟨S8704x2048, .f32⟩
  | .hbm, ⟨41, _⟩ => ⟨S8704x2048, .f32⟩
  | .hbm, ⟨42, _⟩ => ⟨S1x2048, .f32⟩
  | .hbm, ⟨43, _⟩ => ⟨S2048, .f32⟩
  | .hbm, ⟨44, _⟩ => ⟨S_, .f32⟩
  | .hbm, ⟨45, _⟩ => ⟨S8704, .f32⟩
  | .hbm, ⟨46, _⟩ => ⟨S8704x1, .f32⟩
  | .hbm, ⟨47, _⟩ => ⟨S_, .f32⟩
  | .hbm, ⟨48, _⟩ => ⟨S8704x1, .f32⟩
  | .hbm, ⟨49, _⟩ => ⟨S8704x1, .f32⟩
  | .hbm, ⟨50, _⟩ => ⟨S8704x2048, .f32⟩
  | .hbm, ⟨51, _⟩ => ⟨S8704x2048, .f32⟩
  | .hbm, ⟨52, _⟩ => ⟨S8704x2048, .f32⟩
  | .hbm, ⟨53, _⟩ => ⟨S_, .f32⟩
  | .hbm, ⟨54, _⟩ => ⟨S8704, .f32⟩
  | .hbm, ⟨55, _⟩ => ⟨S8704x1, .f32⟩
  | .hbm, ⟨56, _⟩ => ⟨S_, .f32⟩
  | .hbm, ⟨57, _⟩ => ⟨S8704x1, .f32⟩
  | .hbm, ⟨58, _⟩ => ⟨S8704x1, .f32⟩
  | .hbm, ⟨59, _⟩ => ⟨S_, .f32⟩
  | .hbm, ⟨60, _⟩ => ⟨S8704x1, .f32⟩
  | .hbm, ⟨61, _⟩ => ⟨S8704x1, .f32⟩
  | .hbm, ⟨62, _⟩ => ⟨S8704x1, .f32⟩
  | .hbm, ⟨63, _⟩ => ⟨S8704x2048, .f32⟩
  | .hbm, ⟨64, _⟩ => ⟨S8704x2048, .f32⟩
  | .hbm, ⟨65, _⟩ => ⟨S1x2048, .f32⟩
  | .hbm, ⟨66, _⟩ => ⟨S8704x2048, .f32⟩
  | .hbm, ⟨67, _⟩ => ⟨S8704x2048, .f32⟩
  | .hbm, ⟨68, _⟩ => ⟨S68x128x16x128, .f32⟩
  | .hbm, ⟨69, _⟩ => ⟨S1x16x128x128, .f32⟩
  | .hbm, ⟨70, _⟩ => ⟨S16x128x128, .f32⟩
  | .hbm, ⟨71, _⟩ => ⟨S16x68x128x128, .f32⟩
  | .hbm, ⟨72, _⟩ => ⟨S68x128x16x128, .f32⟩
  | .hbm, ⟨73, _⟩ => ⟨S1x16x128, .f32⟩
  | .hbm, ⟨74, _⟩ => ⟨S16x128, .f32⟩
  | .hbm, ⟨75, _⟩ => ⟨S128x16, .f32⟩
  | .hbm, ⟨76, _⟩ => ⟨S128x16x1, .f32⟩
  | .hbm, ⟨77, _⟩ => ⟨S1x128x16x1, .f32⟩
  | .hbm, ⟨78, _⟩ => ⟨S68x128x16x128, .f32⟩
  | .hbm, ⟨79, _⟩ => ⟨S68x128x16x128, .f32⟩
  | .hbm, ⟨80, _⟩ => ⟨S8704x2048, .f32⟩
  | .hbm, ⟨81, _⟩ => ⟨S8704x2048, .f32⟩
  | .hbm, ⟨82, _⟩ => ⟨S8704x2048, .bf16⟩
  | _, _ => ⟨S8704x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== Kernel8.lean ====
abbrev S8192x4096 : Shape := ⟨2, ![8192, 4096]⟩
abbrev S512x4096 : Shape := ⟨2, ![512, 4096]⟩
abbrev S2x4096 : Shape := ⟨2, ![2, 4096]⟩
abbrev S8x24576 : Shape := ⟨2, ![8, 24576]⟩
abbrev S8x1x24576 : Shape := ⟨3, ![8, 1, 24576]⟩
abbrev S2x1x4096 : Shape := ⟨3, ![2, 1, 4096]⟩
abbrev S8704x4096 : Shape := ⟨2, ![8704, 4096]⟩
abbrev S1x1x4096 : Shape := ⟨3, ![1, 1, 4096]⟩
abbrev S1x4096 : Shape := ⟨2, ![1, 4096]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S2x4096, .f32⟩
  | .hbm, ⟨3, _⟩ => ⟨S8x24576, .f32⟩
  | .hbm, ⟨4, _⟩ => ⟨S8x1x24576, .f32⟩
  | .hbm, ⟨5, _⟩ => ⟨S2x1x4096, .f32⟩
  | .hbm, ⟨6, _⟩ => ⟨S8704x4096, .bf16⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S512x4096, .bf16⟩
  | .local _ .vmem, ⟨10, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let v_true : BitVec 1 := 1#1
  let v4 : BitVec 1 := Scalar.xori v1 v_true
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c15_i32 : BitVec 32 := 15#32
  let v1 : BitVec 32 := Scalar.minsi v0 c15_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 32 := Scalar.subi v0 c16_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let c8_i32 : BitVec 32 := 8#32
  let v2 : BitVec 32 := Scalar.divsi v0 c8_i32
  let c0_i32_0 : BitVec 32 := 0#32
  let v3 : BitVec 1 := Scalar.cmpi .sgt v0 c0_i32_0
  let v4 : BitVec 32 := Scalar.extui v3
  let c0_i32_1 : BitVec 32 := 0#32
  let v5 : BitVec 1 := Scalar.cmpi .slt v0 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v0 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32 : BitVec 32 := 2#32
  let v19 : BitVec 32 := Scalar.select v1 v18 c2_i32
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 3 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let c8_i32 : BitVec 32 := 8#32
  let v2 : BitVec 32 := Scalar.divsi v0 c8_i32
  let c0_i32_0 : BitVec 32 := 0#32
  let v3 : BitVec 1 := Scalar.cmpi .sgt v0 c0_i32_0
  let v4 : BitVec 32 := Scalar.extui v3
  let c0_i32_1 : BitVec 32 := 0#32
  let v5 : BitVec 1 := Scalar.cmpi .slt v0 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v0 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32 : BitVec 32 := 2#32
  let v19 : BitVec 32 := Scalar.select v1 v18 c2_i32
  let c0_i32_5 : BitVec 32 := 0#32
  let c1_i32_6 : BitVec 32 := 1#32
  let c0_i32_7 : BitVec 32 := 0#32
  ![v19.toNat, c0_i32_5.toNat, c1_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x4096 : Shape := ⟨2, ![8192, 4096]⟩
abbrev S512x4096 : Shape := ⟨2, ![512, 4096]⟩
abbrev S2x4096 : Shape := ⟨2, ![2, 4096]⟩
abbrev S8x24576 : Shape := ⟨2, ![8, 24576]⟩
abbrev S8x4096 : Shape := ⟨2, ![8, 4096]⟩
abbrev S2x4096x4096 : Shape := ⟨3, ![2, 4096, 4096]⟩
abbrev S1x4096 : Shape := ⟨2, ![1, 4096]⟩
abbrev S4096 : Shape := ⟨1, ![4096]⟩
abbrev S_ : Shape := ⟨0, ![]⟩
abbrev S2x4096x1 : Shape := ⟨3, ![2, 4096, 1]⟩
abbrev S1x1x4096 : Shape := ⟨3, ![1, 1, 4096]⟩
abbrev S2x1x4096 : Shape := ⟨3, ![2, 1, 4096]⟩
abbrev S512 : Shape := ⟨1, ![512]⟩
abbrev S512x1 : Shape := ⟨2, ![512, 1]⟩
abbrev S8704x4096 : Shape := ⟨2, ![8704, 4096]⟩

abbrev nBuf : Space → Nat
  | .hbm => 70
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S2x4096, .f32⟩
  | .hbm, ⟨3, _⟩ => ⟨S8x24576, .f32⟩
  | .hbm, ⟨4, _⟩ => ⟨S8x4096, .f32⟩
  | .hbm, ⟨5, _⟩ => ⟨S8x4096, .f32⟩
  | .hbm, ⟨6, _⟩ => ⟨S2x4096x4096, .f32⟩
  | .hbm, ⟨7, _⟩ => ⟨S1x4096, .f32⟩
  | .hbm, ⟨8, _⟩ => ⟨S4096, .f32⟩
  | .hbm, ⟨9, _⟩ => ⟨S2x4096x4096, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x4096, .f32⟩
  | .hbm, ⟨21, _⟩ => ⟨S2x4096x4096, .f32⟩
  | .hbm, ⟨22, _⟩ => ⟨S1x1x4096, .f32⟩
  | .hbm, ⟨23, _⟩ => ⟨S2x4096x4096, .f32⟩
  | .hbm, ⟨24, _⟩ => ⟨S2x4096x4096, .f32⟩
  | .hbm, ⟨25, _⟩ => ⟨S2x4096, .f32⟩
  | .hbm, ⟨26, _⟩ => ⟨S2x1x4096, .f32⟩
  | .hbm, ⟨27, _⟩ => ⟨S_, .f32⟩
  | .hbm, ⟨28, _⟩ => ⟨S2x1x4096, .f32⟩
  | .hbm, ⟨29, _⟩ => ⟨S2x1x4096, .f32⟩
  | .hbm, ⟨30, _⟩ => ⟨S2x4096x4096, .f32⟩
  | .hbm, ⟨31, _⟩ => ⟨S2x4096x4096, .f32⟩
  | .hbm, ⟨32, _⟩ => ⟨S2x4096, .f32⟩
  | .hbm, ⟨33, _⟩ => ⟨S2x1x4096, .f32⟩
  | .hbm, ⟨34, _⟩ => ⟨S2x4096x4096, .f32⟩
  | .hbm, ⟨35, _⟩ => ⟨S2x4096x4096, .f32⟩
  | .hbm, ⟨36, _⟩ => ⟨S1x4096, .f32⟩
  | .hbm, ⟨37, _⟩ => ⟨S4096, .f32⟩
  | .hbm, ⟨38, _⟩ => ⟨S512x4096, .f32⟩
  | .hbm, ⟨39, _⟩ => ⟨S_, .f32⟩
  | .hbm, ⟨40, _⟩ => ⟨S512, .f32⟩
  | .hbm, ⟨41, _⟩ => ⟨S512x1, .f32⟩
  | .hbm, ⟨42, _⟩ => ⟨S_, .f32⟩
  | .hbm, ⟨43, _⟩ => ⟨S512x1, .f32⟩
  | .hbm, ⟨44, _⟩ => ⟨S512x1, .f32⟩
  | .hbm, ⟨45, _⟩ => ⟨S_, .f32⟩
  | .hbm, ⟨46, _⟩ => ⟨S512x1, .f32⟩
  | .hbm, ⟨47, _⟩ => ⟨S512x1, .f32⟩
  | .hbm, ⟨48, _⟩ => ⟨S512x1, .f32⟩
  | .hbm, ⟨49, _⟩ => ⟨S512x4096, .f32⟩
  | .hbm, ⟨50, _⟩ => ⟨S512x4096, .f32⟩
  | .hbm, ⟨51, _⟩ => ⟨S1x4096, .f32⟩
  | .hbm, ⟨52, _⟩ => ⟨S512x4096, .f32⟩
  | .hbm, ⟨53, _⟩ => ⟨S512x4096, .f32⟩
  | .hbm, ⟨54, _⟩ => ⟨S1x4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S1x4096, .f32⟩
  | .hbm, ⟨60, _⟩ => ⟨S512x4096, .f32⟩
  | .hbm, ⟨61, _⟩ => ⟨S512x4096, .f32⟩
  | .hbm, ⟨62, _⟩ => ⟨S1x4096, .f32⟩
  | .hbm, ⟨63, _⟩ => ⟨S4096, .f32⟩
  | .hbm, ⟨64, _⟩ => ⟨S1x4096, .f32⟩
  | .hbm, ⟨65, _⟩ => ⟨S512x4096, .f32⟩
  | .hbm, ⟨66, _⟩ => ⟨S512x4096, .f32⟩
  | .hbm, ⟨67, _⟩ => ⟨S8192x4096, .f32⟩
  | .hbm, ⟨68, _⟩ => ⟨S8704x4096, .f32⟩
  | .hbm, ⟨69, _⟩ => ⟨S8704x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Kernel9.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S8x24576 : Shape := ⟨2, ![8, 24576]⟩
abbrev S1x4096x512 : Shape := ⟨3, ![1, 4096, 512]⟩
abbrev S1x1x512 : Shape := ⟨3, ![1, 1, 512]⟩
abbrev S8x512 : Shape := ⟨2, ![8, 512]⟩
abbrev S4096x512 : Shape := ⟨2, ![4096, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩

abbrev nBuf : Space → Nat
  | .hbm => 20
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x24576, .f32⟩
  | .hbm, ⟨13, _⟩ => ⟨S4096x24576, .f32⟩
  | .hbm, ⟨14, _⟩ => ⟨S8x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S8x24576, .f32⟩
  | .hbm, ⟨19, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel10.lean ====
abbrev S8704x4096 : Shape := ⟨2, ![8704, 4096]⟩
abbrev S2x4096 : Shape := ⟨2, ![2, 4096]⟩
abbrev S8x24576 : Shape := ⟨2, ![8, 24576]⟩
abbrev S2x4096x16 : Shape := ⟨3, ![2, 4096, 16]⟩
abbrev S8x1x24576 : Shape := ⟨3, ![8, 1, 24576]⟩
abbrev S1x4096x16 : Shape := ⟨3, ![1, 4096, 16]⟩
abbrev S4096x16 : Shape := ⟨2, ![4096, 16]⟩
abbrev S_ : Shape := ⟨0, ![]⟩
abbrev S4096x128 : Shape := ⟨2, ![4096, 128]⟩
abbrev S2x1x4096 : Shape := ⟨3, ![2, 1, 4096]⟩
abbrev S16x8704 : Shape := ⟨2, ![16, 8704]⟩
abbrev S512x4096 : Shape := ⟨2, ![512, 4096]⟩
abbrev S1x1x4096 : Shape := ⟨3, ![1, 1, 4096]⟩
abbrev S16x512 : Shape := ⟨2, ![16, 512]⟩
abbrev S1x4096 : Shape := ⟨2, ![1, 4096]⟩
abbrev S512 : Shape := ⟨1, ![512]⟩
abbrev S512x1 : Shape := ⟨2, ![512, 1]⟩
abbrev S512x128 : Shape := ⟨2, ![512, 128]⟩
abbrev S128x512 : Shape := ⟨2, ![128, 512]⟩

abbrev nBuf : Space → Nat
  | .hbm => 13
  | .vmem => 12
  | .smem => 0
  | _ => 0

abbrev bufTy : (tb : Table) → Fin (tcTables nBuf tb) → BufTy
  | .hbm, ⟨0, _⟩ => ⟨S8704x4096, .f32⟩
  | .hbm, ⟨1, _⟩ => ⟨S2x4096, .f32⟩
  | .hbm, ⟨2, _⟩ => ⟨S8x24576, .f32⟩
  | .hbm, ⟨3, _⟩ => ⟨S2x4096x16, .f32⟩
  | .hbm, ⟨4, _⟩ => ⟨S8x1x24576, .f32⟩
  | .hbm, ⟨5, _⟩ => ⟨S1x4096x16, .f32⟩
  | .hbm, ⟨6, _⟩ => ⟨S4096x16, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S2x1x4096, .f32⟩
  | .hbm, ⟨11, _⟩ => ⟨S8704x4096, .f32⟩
  | .hbm, ⟨12, _⟩ => ⟨S16x8704, .f32⟩
  | .local _ .vmem, ⟨0, _⟩ => ⟨S512x4096, .f32⟩
  | .local _ .vmem, ⟨1, _⟩ => ⟨S512x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x128, .f32⟩
  | .local _ .vmem, ⟨8, _⟩ => ⟨S512x4096, .f32⟩
  | .local _ .vmem, ⟨9, _⟩ => ⟨S512x4096, .f32⟩
  | .local _ .vmem, ⟨10, _⟩ => ⟨S16x512, .f32⟩
  | .local _ .vmem, ⟨11, _⟩ => ⟨S16x512, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c3_i32 : BitVec 32 := 3#32
  let c0_i32_5 : BitVec 32 := 0#32
  ![v18.toNat, c0_i32_4.toNat, c3_i32.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c4_i32 : BitVec 32 := 4#32
  let c0_i32_5 : BitVec 32 := 0#32
  ![v18.toNat, c0_i32_4.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S8704x4096 : Shape := ⟨2, ![8704, 4096]⟩
abbrev S2x4096 : Shape := ⟨2, ![2, 4096]⟩
abbrev S8x24576 : Shape := ⟨2, ![8, 24576]⟩
abbrev S2x4096x16 : Shape := ⟨3, ![2, 4096, 16]⟩
abbrev S8x4096 : Shape := ⟨2, ![8, 4096]⟩
abbrev S8192x4096 : Shape := ⟨2, ![8192, 4096]⟩
abbrev S2x4096x4096 : Shape := ⟨3, ![2, 4096, 4096]⟩
abbrev S1x4096 : Shape := ⟨2, ![1, 4096]⟩
abbrev S4096 : Shape := ⟨1, ![4096]⟩
abbrev S_ : Shape := ⟨0, ![]⟩
abbrev S2x4096x1 : Shape := ⟨3, ![2, 4096, 1]⟩
abbrev S1x1x4096 : Shape := ⟨3, ![1, 1, 4096]⟩
abbrev S2x1x4096 : Shape := ⟨3, ![2, 1, 4096]⟩
abbrev S512x4096 : Shape := ⟨2, ![512, 4096]⟩
abbrev S512 : Shape := ⟨1, ![512]⟩
abbrev S512x1 : Shape := ⟨2, ![512, 1]⟩
abbrev S1x4096x16 : Shape := ⟨3, ![1, 4096, 16]⟩
abbrev S4096x16 : Shape := ⟨2, ![4096, 16]⟩
abbrev S8704x16 : Shape := ⟨2, ![8704, 16]⟩
abbrev S16x8704 : Shape := ⟨2, ![16, 8704]⟩

abbrev nBuf : Space → Nat
  | .hbm => 75
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S2x4096, .f32⟩
  | .hbm, ⟨2, _⟩ => ⟨S8x24576, .f32⟩
  | .hbm, ⟨3, _⟩ => ⟨S2x4096x16, .f32⟩
  | .hbm, ⟨4, _⟩ => ⟨S8x4096, .f32⟩
  | .hbm, ⟨5, _⟩ => ⟨S8x4096, .f32⟩
  | .hbm, ⟨6, _⟩ => ⟨S8192x4096, .f32⟩
  | .hbm, ⟨7, _⟩ => ⟨S2x4096x4096, .f32⟩
  | .hbm, ⟨8, _⟩ => ⟨S1x4096, .f32⟩
  | .hbm, ⟨9, _⟩ => ⟨S4096, .f32⟩
  | .hbm, ⟨10, _⟩ => ⟨S2x4096x4096, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1, .f32⟩
  | .hbm, ⟨21, _⟩ => ⟨S2x4096x4096, .f32⟩
  | .hbm, ⟨22, _⟩ => ⟨S2x4096x4096, .f32⟩
  | .hbm, ⟨23, _⟩ => ⟨S1x1x4096, .f32⟩
  | .hbm, ⟨24, _⟩ => ⟨S2x4096x4096, .f32⟩
  | .hbm, ⟨25, _⟩ => ⟨S2x4096x4096, .f32⟩
  | .hbm, ⟨26, _⟩ => ⟨S2x4096, .f32⟩
  | .hbm, ⟨27, _⟩ => ⟨S2x1x4096, .f32⟩
  | .hbm, ⟨28, _⟩ => ⟨S_, .f32⟩
  | .hbm, ⟨29, _⟩ => ⟨S2x1x4096, .f32⟩
  | .hbm, ⟨30, _⟩ => ⟨S2x1x4096, .f32⟩
  | .hbm, ⟨31, _⟩ => ⟨S2x4096x4096, .f32⟩
  | .hbm, ⟨32, _⟩ => ⟨S2x4096x4096, .f32⟩
  | .hbm, ⟨33, _⟩ => ⟨S2x4096, .f32⟩
  | .hbm, ⟨34, _⟩ => ⟨S2x1x4096, .f32⟩
  | .hbm, ⟨35, _⟩ => ⟨S2x4096x4096, .f32⟩
  | .hbm, ⟨36, _⟩ => ⟨S2x4096x4096, .f32⟩
  | .hbm, ⟨37, _⟩ => ⟨S512x4096, .f32⟩
  | .hbm, ⟨38, _⟩ => ⟨S1x4096, .f32⟩
  | .hbm, ⟨39, _⟩ => ⟨S4096, .f32⟩
  | .hbm, ⟨40, _⟩ => ⟨S512x4096, .f32⟩
  | .hbm, ⟨41, _⟩ => ⟨S_, .f32⟩
  | .hbm, ⟨42, _⟩ => ⟨S512, .f32⟩
  | .hbm, ⟨43, _⟩ => ⟨S512x1, .f32⟩
  | .hbm, ⟨44, _⟩ => ⟨S_, .f32⟩
  | .hbm, ⟨45, _⟩ => ⟨S512x1, .f32⟩
  | .hbm, ⟨46, _⟩ => ⟨S512x1, .f32⟩
  | .hbm, ⟨47, _⟩ => ⟨S_, .f32⟩
  | .hbm, ⟨48, _⟩ => ⟨S512x1, .f32⟩
  | .hbm, ⟨49, _⟩ => ⟨S512x1, .f32⟩
  | .hbm, ⟨50, _⟩ => ⟨S512x1, .f32⟩
  | .hbm, ⟨51, _⟩ => ⟨S512x4096, .f32⟩
  | .hbm, ⟨52, _⟩ => ⟨S512x4096, .f32⟩
  | .hbm, ⟨53, _⟩ => ⟨S1x4096, .f32⟩
  | .hbm, ⟨54, _⟩ => ⟨S512x4096, .f32⟩
  | .hbm, ⟨55, _⟩ => ⟨S512x4096, .f32⟩
  | .hbm, ⟨56, _⟩ => ⟨S1x4096, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S1x4096, .f32⟩
  | .hbm, ⟨62, _⟩ => ⟨S512x4096, .f32⟩
  | .hbm, ⟨63, _⟩ => ⟨S512x4096, .f32⟩
  | .hbm, ⟨64, _⟩ => ⟨S1x4096, .f32⟩
  | .hbm, ⟨65, _⟩ => ⟨S4096, .f32⟩
  | .hbm, ⟨66, _⟩ => ⟨S1x4096, .f32⟩
  | .hbm, ⟨67, _⟩ => ⟨S512x4096, .f32⟩
  | .hbm, ⟨68, _⟩ => ⟨S512x4096, .f32⟩
  | .hbm, ⟨69, _⟩ => ⟨S8192x4096, .f32⟩
  | .hbm, ⟨70, _⟩ => ⟨S8704x4096, .f32⟩
  | .hbm, ⟨71, _⟩ => ⟨S1x4096x16, .f32⟩
  | .hbm, ⟨72, _⟩ => ⟨S4096x16, .f32⟩
  | .hbm, ⟨73, _⟩ => ⟨S8704x16, .f32⟩
  | .hbm, ⟨74, _⟩ => ⟨S16x8704, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩

abbrev nD : Nat := 1
abbrev τ : Topo := Topo.v7x

variable {F : FTy → Type} [FloatOps F]
-- ==== Proof.RefInt.lean ====
/- The reference's integer indices in closed form. -/
module

public import proofs.«01_k».proof.Proof.Gen.ReferenceIdeal.Read
public import Idealize.ShloMosaic.Lib.Pointwise

@[expose] public section

set_option maxRecDepth 16384

noncomputable section

namespace Cert.RefInt

open Cert.ReferenceIdeal Cert.ReferenceIdeal.Read Idealize.ShloMosaic Idealize.ShloMosaic.TcCoe Idealize.SL.Sem
open Idealize.ShloMosaic.Pointwise

/-- Token `n` is in row `n / 64` of the grid. -/
theorem row_dec : ∀ n : Fin 4096, (val_main_v18 (F := Ideal) (ix1 n) : BitVec 32) = BitVec.ofNat 32 (n.val / 64) := by
  decide +kernel

/-- Token `n` is in column `n % 64` of the grid. -/
theorem col_dec : ∀ n : Fin 4096, (val_main_v20 (F := Ideal) (ix1 n) : BitVec 32) = BitVec.ofNat 32 (n.val % 64) := by
  decide +kernel

/-- Entry `j` of a window is in its row `j / 16`. -/
theorem jrow_dec : ∀ n : Fin 128, (val_main_v25 (F := Ideal) (ix1 n) : BitVec 32) = BitVec.ofNat 32 (n.val / 16) := by
  decide +kernel

/-- Entry `j` of a window is in its column `j % 16`. -/
theorem jcol_dec : ∀ n : Fin 128, (val_main_v33 (F := Ideal) (ix1 n) : BitVec 32) = BitVec.ofNat 32 (n.val % 16) := by
  decide +kernel

theorem row_eq (i : S4096.Idx) : (val_main_v18 (F := Ideal) i : BitVec 32) = BitVec.ofNat 32 ((i 0).val / 64) := by
  rw [show i = ix1 (i 0) from by funext b; fin_cases b; rfl]; exact row_dec (i 0)
theorem col_eq (i : S4096.Idx) : (val_main_v20 (F := Ideal) i : BitVec 32) = BitVec.ofNat 32 ((i 0).val % 64) := by
  rw [show i = ix1 (i 0) from by funext b; fin_cases b; rfl]; exact col_dec (i 0)
theorem jrow_eq (i : S128.Idx) : (val_main_v25 (F := Ideal) i : BitVec 32) = BitVec.ofNat 32 ((i 0).val / 16) := by
  rw [show i = ix1 (i 0) from by funext b; fin_cases b; rfl]; exact jrow_dec (i 0)
theorem jcol_eq (i : S128.Idx) : (val_main_v33 (F := Ideal) i : BitVec 32) = BitVec.ofNat 32 ((i 0).val % 16) := by
  rw [show i = ix1 (i 0) from by funext b; fin_cases b; rfl]; exact jcol_dec (i 0)

/-- The first row of a window, clipped into the grid. -/
theorem ws_dec : ∀ r : Fin 64, IntOp.minsi (56#32) (IntOp.maxsi (0#32) (IntOp.subi (BitVec.ofNat 32 r.val) 4#32)) =
    BitVec.ofNat 32 (min (r.val - 4) 56) := by decide +kernel

/-- The first column of a window, clipped into the grid. -/
theorem cs_dec : ∀ r : Fin 64, IntOp.minsi (48#32) (IntOp.maxsi (0#32) (IntOp.subi (BitVec.ofNat 32 r.val) 8#32)) =
    BitVec.ofNat 32 (min (r.val - 8) 48) := by decide +kernel

/-- The bias table's row offset is never negative, so no wrapping happens. -/
theorem rIdx_dec : ∀ r : Fin 64, ∀ k : Fin 8, Scalar.select
      (IntOp.cmpi CmpIPredicate.slt
        (IntOp.addi (IntOp.subi (BitVec.ofNat 32 (min (r.val - 4) 56 + k.val)) (BitVec.ofNat 32 r.val)) 7#32) 0#32)
      (IntOp.addi
        (IntOp.addi (IntOp.subi (BitVec.ofNat 32 (min (r.val - 4) 56 + k.val)) (BitVec.ofNat 32 r.val)) 7#32) 15#32)
      (IntOp.addi (IntOp.subi (BitVec.ofNat 32 (min (r.val - 4) 56 + k.val)) (BitVec.ofNat 32 r.val)) 7#32) =
    BitVec.ofNat 32 (min (r.val - 4) 56 + k.val + 7 - r.val) := by decide +kernel

/-- The bias table's column offset is never negative, so no wrapping happens. -/
theorem cIdx_dec : ∀ r : Fin 64, ∀ k : Fin 16, Scalar.select
      (IntOp.cmpi CmpIPredicate.slt
        (IntOp.addi (IntOp.subi (BitVec.ofNat 32 (min (r.val - 8) 48 + k.val)) (BitVec.ofNat 32 r.val)) 15#32) 0#32)
      (IntOp.addi
        (IntOp.addi (IntOp.subi (BitVec.ofNat 32 (min (r.val - 8) 48 + k.val)) (BitVec.ofNat 32 r.val)) 15#32) 31#32)
      (IntOp.addi (IntOp.subi (BitVec.ofNat 32 (min (r.val - 8) 48 + k.val)) (BitVec.ofNat 32 r.val)) 15#32) =
    BitVec.ofNat 32 (min (r.val - 8) 48 + k.val + 15 - r.val) := by decide +kernel

theorem ws_eq (i : S4096x1.Idx) : (val_main_v24 (F := Ideal) i : BitVec 32) = BitVec.ofNat 32 (min ((i 0).val / 64 - 4) 56) := by
  simp only [val_main_v24_apply, val_main_call2_v4_apply, val_main_call2_v3_apply, val_main_c_3_apply, val_main_call2_v2_apply, val_main_call2_v1_apply, val_main_call2_v0_apply, val_main_c_2_apply,
    val_main_v23_apply, val_main_v22_apply, val_main_c_1_apply, val_main_v19_apply, row_eq]
  exact ws_dec ⟨(i 0).val / 64, by have := (i 0).isLt; change (i 0).val < 4096 at this; omega⟩

theorem cs_eq (i : S4096x1.Idx) : (val_main_v32 (F := Ideal) i : BitVec 32) = BitVec.ofNat 32 (min ((i 0).val % 64 - 8) 48) := by
  simp only [val_main_v32_apply, val_main_call4_v4_apply, val_main_call4_v3_apply, val_main_c_7_apply, val_main_call4_v2_apply, val_main_call4_v1_apply, val_main_call4_v0_apply, val_main_c_6_apply,
    val_main_v31_apply, val_main_v30_apply, val_main_c_5_apply, val_main_v21_apply, col_eq]
  exact cs_dec ⟨(i 0).val % 64, by omega⟩

theorem rowIdx_eq (i : S4096x128.Idx) : (val_main_v29 (F := Ideal) i : BitVec 32) = BitVec.ofNat 32 (min ((i 0).val / 64 - 4) 56 + (i 1).val / 16) := by
  simp only [val_main_v29_apply, val_main_v28_apply, val_main_v27_apply, val_main_v26_apply, jrow_eq, ws_eq]
  exact (BitVec.ofNat_add _ _).symm
theorem colIdx_eq (i : S4096x128.Idx) : (val_main_v37 (F := Ideal) i : BitVec 32) = BitVec.ofNat 32 (min ((i 0).val % 64 - 8) 48 + (i 1).val % 16) := by
  simp only [val_main_v37_apply, val_main_v36_apply, val_main_v35_apply, val_main_v34_apply, jcol_eq, cs_eq]
  exact (BitVec.ofNat_add _ _).symm

/-- The row of a window's entry in the bias table. -/
theorem rIdx_eq (i : S4096x128.Idx) : (val_main_v53 (F := Ideal) i : BitVec 32) = BitVec.ofNat 32 (min ((i 0).val / 64 - 4) 56 + (i 1).val / 16 + 7 - (i 0).val / 64) := by
  simp only [val_main_v53_apply, val_main_v52_apply, val_main_v51_apply, val_main_v50_apply, val_main_v49_apply, val_main_v44_apply, val_main_v43_apply, val_main_v42_apply, val_main_v41_apply, val_main_v19_apply,
    val_main_c_10_apply, val_main_c_12_apply, val_main_c_13_apply, row_eq, rowIdx_eq]
  exact rIdx_dec ⟨(i 0).val / 64, by have := (i 0).isLt; change (i 0).val < 4096 at this; omega⟩ ⟨(i 1).val / 16, by have := (i 1).isLt; change (i 1).val < 128 at this; omega⟩

/-- The column of a window's entry in the bias table. -/
theorem cIdx_eq (i : S4096x128.Idx) : (val_main_v58 (F := Ideal) i : BitVec 32) = BitVec.ofNat 32 (min ((i 0).val % 64 - 8) 48 + (i 1).val % 16 + 15 - (i 0).val % 64) := by
  simp only [val_main_v58_apply, val_main_v57_apply, val_main_v56_apply, val_main_v55_apply, val_main_v54_apply, val_main_v48_apply, val_main_v47_apply, val_main_v46_apply, val_main_v45_apply, val_main_v21_apply,
    val_main_c_11_apply, val_main_c_14_apply, val_main_c_15_apply, col_eq, colIdx_eq]
  exact cIdx_dec ⟨(i 0).val % 64, by omega⟩ ⟨(i 1).val % 16, by omega⟩

theorem key_eq (i : S4096x128.Idx) : (val_main_v40 (F := Ideal) i : BitVec 32)
    = BitVec.ofNat 32 ((min ((i 0).val / 64 - 4) 56 + (i 1).val / 16) * 64 + (min ((i 0).val % 64 - 8) 48 + (i 1).val % 16)) := by
  simp only [val_main_v40_apply, val_main_v39_apply, val_main_v38_apply, val_main_c_9_apply, rowIdx_eq, colIdx_eq]
  generalize min ((i 0).val / 64 - 4) 56 + (i 1).val / 16 = a
  generalize min ((i 0).val % 64 - 8) 48 + (i 1).val % 16 = b
  rw [BitVec.ofNat_add, BitVec.ofNat_mul]; rfl

/-- A word below 4096 is not negative: no wrapping. -/
theorem nowrap {K : ℕ} (hK : K < 4096) (w : BitVec 32) :
    Scalar.select (IntOp.cmpi CmpIPredicate.slt (BitVec.ofNat 32 K) 0#32) w (BitVec.ofNat 32 K) = BitVec.ofNat 32 K := by
  have h : ∀ K : Fin 4096, IntOp.cmpi CmpIPredicate.slt (BitVec.ofNat 32 K.val) 0#32 = 0#1 := by decide +kernel
  rw [h ⟨K, hK⟩]; rfl

/-- The key of entry `j` of token `n`'s window. -/
def keyN (n : Fin 4096) (j : Fin 128) : Fin 4096 :=
  ⟨(min (n.val / 64 - 4) 56 + j.val / 16) * 64 + (min (n.val % 64 - 8) 48 + j.val % 16), by omega⟩

theorem keyK_eq (i : S4096x128.Idx) : (val_main_v67 (F := Ideal) i : BitVec 32) = BitVec.ofNat 32 (keyN (i 0) (i 1)).val := by
  simp only [val_main_v67_apply, val_main_v64_apply, val_main_v63_apply, val_main_c_16_apply, key_eq]
  exact nowrap (keyN (i 0) (i 1)).isLt _

theorem keyV_eq (i : S4096x128.Idx) : (val_main_v74 (F := Ideal) i : BitVec 32) = BitVec.ofNat 32 (keyN (i 0) (i 1)).val := by
  simp only [val_main_v74_apply, val_main_v71_apply, val_main_v70_apply, val_main_c_18_apply, key_eq]
  exact nowrap (keyN (i 0) (i 1)).isLt _

theorem toNat_small {K : ℕ} (hK : K < 4096) : (BitVec.ofNat 32 K).toInt.toNat = K := by
  have : (BitVec.ofNat 32 K).toInt = (K : ℤ) := by
    rw [BitVec.toInt_eq_toNat_of_lt (by rw [BitVec.toNat_ofNat]; omega), BitVec.toNat_ofNat, Nat.mod_eq_of_lt (by omega)]
  rw [this]; rfl

end Cert.RefInt

end
-- ==== Proof.RefGather.lean ====
/- The reference's gathers, read at an index. -/
module

public import proofs.«01_k».proof.Proof.RefInt
public import Idealize.ShloMosaic.Lib.Pointwise

@[expose] public section

set_option maxRecDepth 16384

noncomputable section

namespace Cert.RefGather

open Cert.RefInt Cert.ReferenceIdeal Cert.ReferenceIdeal.Read Idealize.ShloMosaic Idealize.ShloMosaic.TcCoe Idealize.SL.Sem
open Idealize.ShloMosaic.Pointwise

/-- The gather of keys reads the operand at the key's token. -/
theorem gatherK (x : S2x4096x16x128.Idx → EReal) (idx : IVec S4096x128x1 32) (b : Fin 2) (n : Fin 4096) (j : Fin 128) (h : Fin 16) (d : Fin 128) (K : Fin 4096)
    (hK : idx (ix3 n j 0) = BitVec.ofNat 32 K.val) :
    Host.gather gather_S2x4096x16x128_S4096x128x1_S2x4096x128x16x128_034_1_n_n_1_2_2116128 x idx (ix5 b n j h d) = x (ix4 b K h d) := by
  unfold Host.gather
  congr 1
  funext a
  refine Fin.ext ?_
  show GatherDims.start _ (ix5 b n j h d) idx a + GatherDims.batchCoord _ (ix5 b n j h d) a + GatherDims.offCoord _ (ix5 b n j h d) a = _
  rw [GatherDims.batchCoord_eq_zero _ _ _ List.not_mem_nil]
  fin_cases a
  · show 0 + 0 + b.val = b.val; omega
  · have hsi : GatherDims.siIdx gather_S2x4096x16x128_S4096x128x1_S2x4096x128x16x128_034_1_n_n_1_2_2116128 (ix5 b n j h d) ⟨0, Nat.one_pos⟩ = ix3 n j 0 := by
      funext e; refine Fin.ext ?_
      match e with
      | ⟨0, _⟩ => rfl
      | ⟨1, _⟩ => rfl
      | ⟨2, _⟩ => rfl
    show min (idx (GatherDims.siIdx gather_S2x4096x16x128_S4096x128x1_S2x4096x128x16x128_034_1_n_n_1_2_2116128 (ix5 b n j h d) ⟨0, Nat.one_pos⟩)).toInt.toNat 4095 + 0 + 0 = K.val
    rw [hsi, hK, toNat_small K.isLt]; omega
  · show 0 + 0 + h.val = h.val; omega
  · show 0 + 0 + d.val = d.val; omega

/-- The gather of biases reads the table at the two offsets. -/
theorem gatherB (x : S16x15x31.Idx → EReal) (idx : IVec S4096x128x2 32) (h : Fin 16) (n : Fin 4096) (j : Fin 128) (K : Fin 15) (M : Fin 31)
    (hK : idx (ix3 n j 0) = BitVec.ofNat 32 K.val) (hM : idx (ix3 n j 1) = BitVec.ofNat 32 M.val) :
    Host.gather gather_S16x15x31_S4096x128x2_S16x4096x128_0_12_n_n_12_2_1611 x idx (ix3 h n j) = x (ix3 h K M) := by
  unfold Host.gather
  congr 1
  funext a
  refine Fin.ext ?_
  show GatherDims.start _ (ix3 h n j) idx a + GatherDims.batchCoord _ (ix3 h n j) a + GatherDims.offCoord _ (ix3 h n j) a = _
  rw [GatherDims.batchCoord_eq_zero _ _ _ List.not_mem_nil]
  fin_cases a
  · show 0 + 0 + h.val = h.val; omega
  · have hsi : GatherDims.siIdx gather_S16x15x31_S4096x128x2_S16x4096x128_0_12_n_n_12_2_1611 (ix3 h n j) ⟨0, Nat.two_pos⟩ = ix3 n j 0 := by
      funext e; refine Fin.ext ?_
      match e with
      | ⟨0, _⟩ => rfl
      | ⟨1, _⟩ => rfl
      | ⟨2, _⟩ => rfl
    show min (idx (GatherDims.siIdx gather_S16x15x31_S4096x128x2_S16x4096x128_0_12_n_n_12_2_1611 (ix3 h n j) ⟨0, Nat.two_pos⟩)).toInt.toNat 14 + 0 + 0 = K.val
    rw [hsi, hK, toNat_small (by omega)]; omega
  · have hsi : GatherDims.siIdx gather_S16x15x31_S4096x128x2_S16x4096x128_0_12_n_n_12_2_1611 (ix3 h n j) ⟨1, Nat.one_lt_two⟩ = ix3 n j 1 := by
      funext e; refine Fin.ext ?_
      match e with
      | ⟨0, _⟩ => rfl
      | ⟨1, _⟩ => rfl
      | ⟨2, _⟩ => rfl
    show min (idx (GatherDims.siIdx gather_S16x15x31_S4096x128x2_S16x4096x128_0_12_n_n_12_2_1611 (ix3 h n j) ⟨1, Nat.one_lt_two⟩)).toInt.toNat 30 + 0 + 0 = M.val
    rw [hsi, hM, toNat_small (by omega)]; omega

/-- The starts of the gather of biases: the row offset, then the column offset. -/
theorem starts0 (n : Fin 4096) (j : Fin 128) : (val_main_v61 (F := Ideal) (ix3 n j 0) : BitVec 32) = BitVec.ofNat 32 (min (n.val / 64 - 4) 56 + j.val / 16 + 7 - n.val / 64) := by
  have e : (val_main_v61 (F := Ideal) (ix3 n j 0) : BitVec 32) = val_main_v59 (F := Ideal) (ix3 n j 0) := by
    unfold val_main_v61
    pointwise []
  rw [e, val_main_v59_apply, rIdx_eq]; rfl

theorem starts1 (n : Fin 4096) (j : Fin 128) : (val_main_v61 (F := Ideal) (ix3 n j 1) : BitVec 32) = BitVec.ofNat 32 (min (n.val % 64 - 8) 48 + j.val % 16 + 15 - n.val % 64) := by
  have e : (val_main_v61 (F := Ideal) (ix3 n j 1) : BitVec 32) = val_main_v60 (F := Ideal) (ix3 n j 0) := by
    unfold val_main_v61
    pointwise []
  rw [e, val_main_v60_apply, cIdx_eq]; rfl

end Cert.RefGather

end
-- ==== Proof.Trip.lean ====
/- One trip's block of the attention, at an index. -/
module

public import proofs.«01_k».proof.Proof.Gen.KernelIdeal.Value
public import Idealize.ShloMosaic.Lib.Pointwise
public import Idealize.ShloMosaic.Lib.Writes

@[expose] public section

set_option maxRecDepth 16384

noncomputable section

namespace Cert.Trip

open Cert.KernelIdeal Cert.KernelIdeal.Gen Idealize.ShloMosaic Idealize.ShloMosaic.TcCoe Idealize.SL.Sem
open Idealize.ShloMosaic.Pointwise

section
variable (v0 v1 : Vec Ideal S256x128 .bf16) (q : Vec Ideal S256x128 .bf16) (kb vb : Vec Ideal S768x128 .bf16) (bt : Vec Ideal S1x256x768 .f32)

/-- The score of a band key: the product of query and key, and the bias. -/
def bL (r : Fin 256) (k : Fin 768) : EReal := (∑ x : Fin 128, q (ix2 r x) * kb (ix2 k x)) + bt (ix3 0 r k)
/-- The score of a context key. -/
def bC (r : Fin 256) (k : Fin 256) : EReal := ∑ x : Fin 128, q (ix2 r x) * v0 (ix2 k x)
/-- The greatest score of a query. -/
def bM (r : Fin 256) : EReal := max (Finset.univ.fold max ⊥ (bL q kb bt r)) (Finset.univ.fold max ⊥ (bC v0 q r))

/-- The word of minus infinity is `⊥`. -/
theorem ofBits_ninf : Ideal.ofBits .f32 0xFF800000#32 = (⊥ : EReal) := by
  simp [Ideal.ofBits, Ideal.ieee]

theorem pay109_apply (r : Fin 256) (k : Fin 768) : k0_pay109 (F := Ideal) q kb bt (ix2 r k) = bL q kb bt r k := by
  pointwise [k0_pay109, bL]

theorem pay110_apply (r : Fin 256) (k : Fin 256) : k0_pay110 (F := Ideal) v0 q (ix2 r k) = bC v0 q r k := by
  pointwise [k0_pay110, bC]

theorem pay111_apply (r : Fin 256) : k0_pay111 (F := Ideal) v0 q kb bt (ix2 r 0) = bM v0 q kb bt r := by
  pointwise [k0_pay111, bM]
  simp only [pay109_apply, pay110_apply]
  rw [ofBits_ninf]

theorem pay112_apply (r : Fin 256) (k : Fin 768) : k0_pay112 (F := Ideal) v0 q kb bt (ix2 r k) = Ideal.exp (bL q kb bt r k - bM v0 q kb bt r) := by
  pointwise [k0_pay112]
  rw [pay109_apply, pay111_apply]

theorem pay113_apply (r : Fin 256) (k : Fin 256) : k0_pay113 (F := Ideal) v0 q kb bt (ix2 r k) = Ideal.exp (bC v0 q r k - bM v0 q kb bt r) := by
  pointwise [k0_pay113]
  rw [pay110_apply, pay111_apply]

theorem pay114_apply (r : Fin 256) : k0_pay114 (F := Ideal) v0 q kb bt (ix2 r 0) = ∑ k, Ideal.exp (bL q kb bt r k - bM v0 q kb bt r) := by
  pointwise [k0_pay114]
  simp only [pay112_apply]

theorem pay3_apply (v42 : FVec Ideal S256x768 .f32) (v45 : FVec Ideal S256x256 .f32) (v47 : FVec Ideal S256x1 .f32) (r : Fin 256) (d : Fin 128) :
    k0_pay3 (F := Ideal) v1 vb v42 v45 v47 (ix2 r d)
      = Ideal.div ((∑ k : Fin 768, v42 (ix2 r k) * vb (ix2 k d)) + ∑ k : Fin 256, v45 (ix2 r k) * v1 (ix2 k d)) (v47 (ix2 r 0) + ∑ k : Fin 256, v45 (ix2 r k)) := by
  pointwise [k0_pay3]

/-- One trip's block at an index. -/
theorem blk_apply (r : Fin 256) (d : Fin 128) :
    k0_pay3 (F := Ideal) v1 vb (k0_pay112 v0 q kb bt) (k0_pay113 v0 q kb bt) (k0_pay114 v0 q kb bt) (ix2 r d)
      = Ideal.div ((∑ k, Ideal.exp (bL q kb bt r k - bM v0 q kb bt r) * vb (ix2 k d)) + ∑ k, Ideal.exp (bC v0 q r k - bM v0 q kb bt r) * v1 (ix2 k d))
          ((∑ k, Ideal.exp (bL q kb bt r k - bM v0 q kb bt r)) + ∑ k, Ideal.exp (bC v0 q r k - bM v0 q kb bt r)) := by
  rw [pay3_apply, pay114_apply]
  simp only [pay112_apply, pay113_apply]

end

/-- The first row of a group's band of keys, times the grid's width. -/
def band (k : ℕ) : ℕ := 64 * min (4 * k - 4) 52

theorem off2_eq : ∀ k : Fin k0_t1_loop.trips, k0_off2 k = ![band k.val, 0] := by decide +kernel

theorem trips_eq : k0_t1_loop.trips = 16 := by decide +kernel

/-- The pattern of a group's band. -/
def pat (k : ℕ) : Fin 3 := if k = 0 then 0 else if k = 15 then 2 else 1

section
variable (x0 x1 x2 : Vec Ideal S4096x128 .bf16) (x3 x4 : Vec Ideal S256x128 .bf16) (B : S3x256x768.Idx → EReal)

/-- The row of key `k` of the band of query `n`. -/
def keyRow (n : Fin 4096) (k : Fin 768) : Fin 4096 := ⟨band (n.val / 256) + k.val, by unfold band; omega⟩

/-- The score of key `k` of query `n`'s band. -/
def sL (n : Fin 4096) (k : Fin 768) : EReal :=
  (∑ x : Fin 128, x0 (ix2 n x) * x1 (ix2 (keyRow n k) x)) + B (ix3 (pat (n.val / 256)) (Fin.ofNat 256 n.val) k)
/-- The score of context key `k` for query `n`. -/
def sC (n : Fin 4096) (k : Fin 256) : EReal := ∑ x : Fin 128, x0 (ix2 n x) * x3 (ix2 k x)
/-- The greatest score of query `n`. -/
def sM (n : Fin 4096) : EReal := max (Finset.univ.fold max ⊥ (sL x0 x1 B n)) (Finset.univ.fold max ⊥ (sC x0 x3 n))
/-- The attention of query `n` over its band and the context, at column `d`. -/
def att (n : Fin 4096) (d : Fin 128) : EReal :=
  Ideal.div ((∑ k, Ideal.exp (sL x0 x1 B n k - sM x0 x1 x3 B n) * x2 (ix2 (keyRow n k) d)) + ∑ k, Ideal.exp (sC x0 x3 n k - sM x0 x1 x3 B n) * x4 (ix2 k d))
    ((∑ k, Ideal.exp (sL x0 x1 B n k - sM x0 x1 x3 B n)) + ∑ k, Ideal.exp (sC x0 x3 n k - sM x0 x1 x3 B n))
/-- The attention as a function on the output block's indices. -/
def attV : S4096x128.Idx → EReal := fun y => att x0 x1 x2 x3 x4 B (y 0) (y 1)

/-- A block whose loads are the rows of one group is the attention of its queries. -/
theorem blk_att (q : Vec Ideal S256x128 .bf16) (kb vb : Vec Ideal S768x128 .bf16) (bt : Vec Ideal S1x256x768 .f32) (n : Fin 4096) (r : Fin 256) (d : Fin 128)
    (hq : ∀ l, q (ix2 r l) = x0 (ix2 n l)) (hk : ∀ j l, kb (ix2 j l) = x1 (ix2 (keyRow n j) l)) (hv : ∀ j l, vb (ix2 j l) = x2 (ix2 (keyRow n j) l))
    (hb : ∀ j, bt (ix3 0 r j) = B (ix3 (pat (n.val / 256)) (Fin.ofNat 256 n.val) j)) :
    k0_pay3 (F := Ideal) x4 vb (k0_pay112 x3 q kb bt) (k0_pay113 x3 q kb bt) (k0_pay114 x3 q kb bt) (ix2 r d) = att x0 x1 x2 x3 x4 B n d := by
  have eL : bL q kb bt r = sL x0 x1 B n := funext fun j => by
    unfold bL sL
    simp only [hq, hk, hb]
  have eC : bC x3 q r = sC x0 x3 n := funext fun j => by
    unfold bC sC
    simp only [hq]
  have eM : bM x3 q kb bt r = sM x0 x1 x3 B n := by
    unfold bM sM
    rw [eL, eC]
  rw [blk_apply, eM, eL, eC]
  simp only [hv]
  rfl

variable (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole)
    (arg5 : Memref sig .tc .vmem S256x128 .bf16) (harg5 : arg5.IsWhole) (arg6 : Memref sig .tc .vmem S256x128 .bf16) (harg6 : arg6.IsWhole) (arg7 : Memref sig .tc .vmem S1x15x64x64 .f32) (harg7 : arg7.IsWhole)
    (arg8 : Memref sig .tc .vmem S4096x128 .bf16) (harg8 : arg8.IsWhole) (arg9 : Memref sig .tc .vmem S3x256x768 .f32) (harg9 : arg9.IsWhole)
  (𝒱 : Variants) (bd : Option 𝒱.V) (X9 : arg9.view.ty.Contents (Elt Ideal))

/-- A trip's one piece: its rows of the output block, and its block of the attention from the values it loads. -/
theorem trip_eq (k : Fin k0_t1_loop.trips) (X2 : arg2.view.ty.Contents (Elt Ideal)) (X3 : arg3.view.ty.Contents (Elt Ideal)) (X4 : arg4.view.ty.Contents (Elt Ideal)) :
    tripL_k0_t1 (F := Ideal) 𝒱 c bd i arg2 harg2 arg3 harg3 arg4 harg4 arg5 harg5 arg6 harg6 arg7 harg7 arg8 harg8 arg9 harg9 x3 x4 X2 X3 X4 X9 k
      = [(⟨Rect.unit (s := S4096x128) (k0_off1 k) S256x128.size (k0_off1_inb k),
          k0_pay3 (F := Ideal) x4 (View.readAt (Elt Ideal) arg4.view (Rect.unit (s := S4096x128) (k0_off2 k) S768x128.size (k0_off2_inb k)).toLoadRect X4)
            (k0_pay112 x3 (View.readAt (Elt Ideal) arg2.view (Rect.unit (s := S4096x128) (k0_off1 k) S256x128.size (k0_off1_inb k)).toLoadRect X2)
              (View.readAt (Elt Ideal) arg3.view (Rect.unit (s := S4096x128) (k0_off2 k) S768x128.size (k0_off2_inb k)).toLoadRect X3)
              (View.readAt (Elt Ideal) arg9.view (Rect.unit (s := S3x256x768) (k0_off3 k) S1x256x768.size (k0_off3_inb k)).toLoadRect X9))
            (k0_pay113 x3 (View.readAt (Elt Ideal) arg2.view (Rect.unit (s := S4096x128) (k0_off1 k) S256x128.size (k0_off1_inb k)).toLoadRect X2)
              (View.readAt (Elt Ideal) arg3.view (Rect.unit (s := S4096x128) (k0_off2 k) S768x128.size (k0_off2_inb k)).toLoadRect X3)
              (View.readAt (Elt Ideal) arg9.view (Rect.unit (s := S3x256x768) (k0_off3 k) S1x256x768.size (k0_off3_inb k)).toLoadRect X9))
            (k0_pay114 x3 (View.readAt (Elt Ideal) arg2.view (Rect.unit (s := S4096x128) (k0_off1 k) S256x128.size (k0_off1_inb k)).toLoadRect X2)
              (View.readAt (Elt Ideal) arg3.view (Rect.unit (s := S4096x128) (k0_off2 k) S768x128.size (k0_off2_inb k)).toLoadRect X3)
              (View.readAt (Elt Ideal) arg9.view (Rect.unit (s := S3x256x768) (k0_off3 k) S1x256x768.size (k0_off3_inb k)).toLoadRect X9))⟩ : View.Piece (Elt Ideal) S4096x128 .bf16)] := by
  unfold tripL_k0_t1 trip_k0_t1
  rfl

/-- The rows of a block loaded from row `o` of an array read whole. -/
theorem load_rows {n : ℕ} {arg : Memref sig .tc .vmem S4096x128 .bf16} (harg : arg.IsWhole) (x : Vec Ideal S4096x128 .bf16) (off : Fin 2 → ℕ) (o : ℕ) (hoff : off = ![o, 0])
    (inb : ∀ a, off a + (⟨2, ![n, 128]⟩ : Shape).size a ≤ S4096x128.size a) (r : Fin n) (l : Fin 128) (h : o + r.val < 4096) :
    View.readAt (Elt Ideal) arg.view (Rect.unit (s := S4096x128) off (⟨2, ![n, 128]⟩ : Shape).size inb).toLoadRect (harg.unread x) (ix2 r l) = x (ix2 ⟨o + r.val, h⟩ l) := by
  subst hoff
  rw [View.readAt_rect]
  show arg.view.read (Elt Ideal) (harg.unread x) _ = _
  rw [harg.read_unread]
  congr 1
  funext b; apply Fin.ext
  fin_cases b
  · show o + 1 * r.val = o + r.val; omega
  · show 0 + 1 * l.val = l.val; omega

theorem trip_val (k : Fin k0_t1_loop.trips) (hB : arg9.view.read (Elt Ideal) X9 = B) :
    ∀ p ∈ (tripL_k0_t1 (F := Ideal) 𝒱 c bd i arg2 harg2 arg3 harg3 arg4 harg4 arg5 harg5 arg6 harg6 arg7 harg7 arg8 harg8 arg9 harg9 x3 x4
        (harg2.unread x0) (harg3.unread x1) (harg4.unread x2) X9 k), ∀ x : p.1.shape.Idx, p.2 x = attV x0 x1 x2 x3 x4 B (p.1.emb x) := by
  rw [trip_eq]
  intro p hp
  obtain rfl := List.mem_singleton.mp hp
  intro (x : S256x128.Idx)
  have hk : k.val < 16 := lt_of_lt_of_eq k.isLt trips_eq
  obtain ⟨r, d, rfl⟩ : ∃ (r : Fin 256) (d : Fin 128), x = ix2 r d := ⟨x 0, x 1, by funext b; fin_cases b <;> rfl⟩
  have hn : 256 * k.val + r.val < 4096 := by omega
  have he : (Rect.unit (s := S4096x128) (k0_off1 k) S256x128.size (k0_off1_inb k)).emb (ix2 r d) = (ix2 (⟨256 * k.val + r.val, hn⟩ : Fin 4096) d : S4096x128.Idx) := by
    funext b; apply Fin.ext
    have h1 := k0_off1_eq k
    fin_cases b
    · show k0_off1 k 0 + 1 * r.val = _; rw [h1]; show 256 * k.val + 1 * r.val = 256 * k.val + r.val; omega
    · show k0_off1 k 1 + 1 * d.val = _; rw [h1]; show 0 + 1 * d.val = d.val; omega
  show k0_pay3 (F := Ideal) _ _ _ _ _ (ix2 r d) = attV x0 x1 x2 x3 x4 B ((Rect.unit (s := S4096x128) (k0_off1 k) S256x128.size (k0_off1_inb k)).emb (ix2 r d))
  rw [he]
  show _ = att x0 x1 x2 x3 x4 B ⟨256 * k.val + r.val, hn⟩ d
  have hb : ∀ j : Fin 768, band k.val + j.val < 4096 := fun j => by unfold band; omega
  have hg : (256 * k.val + r.val) / 256 = k.val := by omega
  have eq : ∀ l, View.readAt (Elt Ideal) arg2.view (Rect.unit (s := S4096x128) (k0_off1 k) S256x128.size (k0_off1_inb k)).toLoadRect (harg2.unread x0) (ix2 r l)
      = x0 (ix2 ⟨256 * k.val + r.val, hn⟩ l) := fun l => load_rows harg2 x0 _ _ (k0_off1_eq k) _ r l hn
  have ek : ∀ j l, View.readAt (Elt Ideal) arg3.view (Rect.unit (s := S4096x128) (k0_off2 k) S768x128.size (k0_off2_inb k)).toLoadRect (harg3.unread x1) (ix2 j l)
      = x1 (ix2 (keyRow ⟨256 * k.val + r.val, hn⟩ j) l) := fun j l => by
    rw [load_rows harg3 x1 _ _ (off2_eq k) _ j l (hb j)]
    congr 2; apply Fin.ext; simp [keyRow, hg]
  have ev : ∀ j l, View.readAt (Elt Ideal) arg4.view (Rect.unit (s := S4096x128) (k0_off2 k) S768x128.size (k0_off2_inb k)).toLoadRect (harg4.unread x2) (ix2 j l)
      = x2 (ix2 (keyRow ⟨256 * k.val + r.val, hn⟩ j) l) := fun j l => by
    rw [load_rows harg4 x2 _ _ (off2_eq k) _ j l (hb j)]
    congr 2; apply Fin.ext; simp [keyRow, hg]
  have eb : ∀ j, View.readAt (Elt Ideal) arg9.view (Rect.unit (s := S3x256x768) (k0_off3 k) S1x256x768.size (k0_off3_inb k)).toLoadRect X9 (ix3 0 r j)
      = B (ix3 (pat ((256 * k.val + r.val) / 256)) (Fin.ofNat 256 (256 * k.val + r.val)) j) := fun j => by
    rw [View.readAt_rect]
    show arg9.view.read (Elt Ideal) X9 _ = _
    rw [hB, hg]
    congr 1
    have h3 := k0_off3_eq k
    funext b; apply Fin.ext
    fin_cases b
    · show k0_off3 k 0 + 1 * 0 = (pat k.val).val
      rw [h3]; unfold pat; split_ifs <;> simp [*]
    · show k0_off3 k 1 + 1 * r.val = (256 * k.val + r.val) % 256
      rw [h3]; show 0 + 1 * r.val = _; omega
    · show k0_off3 k 2 + 1 * j.val = j.val
      rw [h3]; show 0 + 1 * j.val = _; omega
  exact blk_att x0 x1 x2 x3 x4 B _ _ _ _ ⟨256 * k.val + r.val, hn⟩ r d eq ek ev eb

/-- The pieces of the trips before `k` hold the attention. -/
theorem pb_val (hB : arg9.view.read (Elt Ideal) X9 = B) (k : ℕ) (hk : k ≤ k0_t1_loop.trips) :
    ∀ p ∈ (pb_k0_t1 (F := Ideal) 𝒱 c bd i arg2 harg2 arg3 harg3 arg4 harg4 arg5 harg5 arg6 harg6 arg7 harg7 arg8 harg8 arg9 harg9 x3 x4
        (harg2.unread x0) (harg3.unread x1) (harg4.unread x2) X9 k), ∀ x : p.1.shape.Idx, p.2 x = attV x0 x1 x2 x3 x4 B (p.1.emb x) := by
  induction k with
  | zero =>
    intro p hp
    unfold pb_k0_t1 at hp
    exact absurd hp List.not_mem_nil
  | succ k ih =>
    intro p hp
    rw [pb_k0_t1_succ 𝒱 c bd i arg2 harg2 arg3 harg3 arg4 harg4 arg5 harg5 arg6 harg6 arg7 harg7 arg8 harg8 arg9 harg9 x3 x4 _ _ _ X9 ⟨k, hk⟩] at hp
    rcases List.mem_append.mp hp with h | h
    · exact trip_val x0 x1 x2 x3 x4 B c i arg2 harg2 arg3 harg3 arg4 harg4 arg5 harg5 arg6 harg6 arg7 harg7 arg8 harg8 arg9 harg9 𝒱 bd X9 ⟨k, hk⟩ hB p h
    · exact ih (by omega) p h

end
end Cert.Trip

end
-- ==== Proof.Ref.lean ====
/- The reference's result, read at an index. -/
module

public import proofs.«01_k».proof.Proof.RefGather
public import proofs.«01_k».proof.Proof.Trip

@[expose] public section

set_option maxRecDepth 16384

noncomputable section

namespace Cert.Ref

open Cert.RefInt Cert.RefGather Cert.ReferenceIdeal Cert.ReferenceIdeal.Read Idealize.ShloMosaic Idealize.ShloMosaic.TcCoe Idealize.SL.Sem
open Idealize.ShloMosaic.Pointwise

section
variable (x0 : S8704x18432.Idx → EReal) (x1 : S16x15x31.Idx → EReal)

/-- An entry of a token's row: part `p` (0 a query, 1 a key, 2 a value) of head `h`. -/
def tok (p : Fin 3) (b : Fin 2) (n : Fin 4096) (h : Fin 16) (l : Fin 128) : EReal :=
  x0 (ix2 ⟨4096 * b.val + n.val, by omega⟩ ⟨2048 * p.val + 128 * h.val + l.val, by omega⟩)
/-- An entry of a context row. -/
def ctx (p : Fin 3) (b : Fin 2) (c : Fin 256) (h : Fin 16) (l : Fin 128) : EReal :=
  x0 (ix2 ⟨8192 + 256 * b.val + c.val, by omega⟩ ⟨2048 * p.val + 128 * h.val + l.val, by omega⟩)

theorem v7_ix (b : Fin 2) (n : Fin 4096) (h : Fin 16) (l : Fin 128) : val_main_v7 (F := Ideal) x0 (ix4 b n h l) = tok x0 0 b n h l := by
  rw [val_main_v7_apply, val_main_v6_apply, val_main_v2_apply, val_main_v1_apply, val_main_v0_apply]
  refine congrArg x0 (funext fun a => Fin.ext ?_)
  have hb := b.isLt; have hn := n.isLt; have hh := h.isLt; have hl := l.isLt
  match a with
  | ⟨0, _⟩ =>
    show ((((((b.val * 4096 + n.val) * 16 + h.val) * 128 + l.val) / 8388608) * 4096 + (((b.val * 4096 + n.val) * 16 + h.val) * 128 + l.val) / 2048 % 4096) * 18432 + (((b.val * 4096 + n.val) * 16 + h.val) * 128 + l.val) % 2048) / 18432 = 4096 * b.val + n.val
    omega
  | ⟨1, _⟩ =>
    show ((((((b.val * 4096 + n.val) * 16 + h.val) * 128 + l.val) / 8388608) * 4096 + (((b.val * 4096 + n.val) * 16 + h.val) * 128 + l.val) / 2048 % 4096) * 18432 + (((b.val * 4096 + n.val) * 16 + h.val) * 128 + l.val) % 2048) % 18432 = 2048 * 0 + 128 * h.val + l.val
    omega

theorem v9_ix (b : Fin 2) (n : Fin 4096) (h : Fin 16) (l : Fin 128) : val_main_v9 (F := Ideal) x0 (ix4 b n h l) = tok x0 1 b n h l := by
  rw [val_main_v9_apply, val_main_v8_apply, val_main_v2_apply, val_main_v1_apply, val_main_v0_apply]
  refine congrArg x0 (funext fun a => Fin.ext ?_)
  have hb := b.isLt; have hn := n.isLt; have hh := h.isLt; have hl := l.isLt
  match a with
  | ⟨0, _⟩ =>
    show ((((((b.val * 4096 + n.val) * 16 + h.val) * 128 + l.val) / 8388608) * 4096 + (((b.val * 4096 + n.val) * 16 + h.val) * 128 + l.val) / 2048 % 4096) * 18432 + (2048 + (((b.val * 4096 + n.val) * 16 + h.val) * 128 + l.val) % 2048)) / 18432 = 4096 * b.val + n.val
    omega
  | ⟨1, _⟩ =>
    show ((((((b.val * 4096 + n.val) * 16 + h.val) * 128 + l.val) / 8388608) * 4096 + (((b.val * 4096 + n.val) * 16 + h.val) * 128 + l.val) / 2048 % 4096) * 18432 + (2048 + (((b.val * 4096 + n.val) * 16 + h.val) * 128 + l.val) % 2048)) % 18432 = 2048 * 1 + 128 * h.val + l.val
    omega

theorem v11_ix (b : Fin 2) (n : Fin 4096) (h : Fin 16) (l : Fin 128) : val_main_v11 (F := Ideal) x0 (ix4 b n h l) = tok x0 2 b n h l := by
  rw [val_main_v11_apply, val_main_v10_apply, val_main_v2_apply, val_main_v1_apply, val_main_v0_apply]
  refine congrArg x0 (funext fun a => Fin.ext ?_)
  have hb := b.isLt; have hn := n.isLt; have hh := h.isLt; have hl := l.isLt
  match a with
  | ⟨0, _⟩ =>
    show ((((((b.val * 4096 + n.val) * 16 + h.val) * 128 + l.val) / 8388608) * 4096 + (((b.val * 4096 + n.val) * 16 + h.val) * 128 + l.val) / 2048 % 4096) * 18432 + (4096 + (((b.val * 4096 + n.val) * 16 + h.val) * 128 + l.val) % 2048)) / 18432 = 4096 * b.val + n.val
    omega
  | ⟨1, _⟩ =>
    show ((((((b.val * 4096 + n.val) * 16 + h.val) * 128 + l.val) / 8388608) * 4096 + (((b.val * 4096 + n.val) * 16 + h.val) * 128 + l.val) / 2048 % 4096) * 18432 + (4096 + (((b.val * 4096 + n.val) * 16 + h.val) * 128 + l.val) % 2048)) % 18432 = 2048 * 2 + 128 * h.val + l.val
    omega

theorem v13_ix (b : Fin 2) (n : Fin 256) (h : Fin 16) (l : Fin 128) : val_main_v13 (F := Ideal) x0 (ix4 b n h l) = ctx x0 1 b n h l := by
  rw [val_main_v13_apply, val_main_v12_apply, val_main_v5_apply, val_main_v4_apply, val_main_v3_apply]
  refine congrArg x0 (funext fun a => Fin.ext ?_)
  have hb := b.isLt; have hn := n.isLt; have hh := h.isLt; have hl := l.isLt
  match a with
  | ⟨0, _⟩ =>
    show 8192 + ((((((b.val * 256 + n.val) * 16 + h.val) * 128 + l.val) / 524288) * 256 + (((b.val * 256 + n.val) * 16 + h.val) * 128 + l.val) / 2048 % 256) * 18432 + (2048 + (((b.val * 256 + n.val) * 16 + h.val) * 128 + l.val) % 2048)) / 18432 = 8192 + 256 * b.val + n.val
    omega
  | ⟨1, _⟩ =>
    show ((((((b.val * 256 + n.val) * 16 + h.val) * 128 + l.val) / 524288) * 256 + (((b.val * 256 + n.val) * 16 + h.val) * 128 + l.val) / 2048 % 256) * 18432 + (2048 + (((b.val * 256 + n.val) * 16 + h.val) * 128 + l.val) % 2048)) % 18432 = 2048 * 1 + 128 * h.val + l.val
    omega

theorem v15_ix (b : Fin 2) (n : Fin 256) (h : Fin 16) (l : Fin 128) : val_main_v15 (F := Ideal) x0 (ix4 b n h l) = ctx x0 2 b n h l := by
  rw [val_main_v15_apply, val_main_v14_apply, val_main_v5_apply, val_main_v4_apply, val_main_v3_apply]
  refine congrArg x0 (funext fun a => Fin.ext ?_)
  have hb := b.isLt; have hn := n.isLt; have hh := h.isLt; have hl := l.isLt
  match a with
  | ⟨0, _⟩ =>
    show 8192 + ((((((b.val * 256 + n.val) * 16 + h.val) * 128 + l.val) / 524288) * 256 + (((b.val * 256 + n.val) * 16 + h.val) * 128 + l.val) / 2048 % 256) * 18432 + (4096 + (((b.val * 256 + n.val) * 16 + h.val) * 128 + l.val) % 2048)) / 18432 = 8192 + 256 * b.val + n.val
    omega
  | ⟨1, _⟩ =>
    show ((((((b.val * 256 + n.val) * 16 + h.val) * 128 + l.val) / 524288) * 256 + (((b.val * 256 + n.val) * 16 + h.val) * 128 + l.val) / 2048 % 256) * 18432 + (4096 + (((b.val * 256 + n.val) * 16 + h.val) * 128 + l.val) % 2048)) % 18432 = 2048 * 2 + 128 * h.val + l.val
    omega

theorem v69_ix (b : Fin 2) (n : Fin 4096) (j : Fin 128) (h : Fin 16) (l : Fin 128) :
    val_main_v69 (F := Ideal) x0 (ix5 b n j h l) = tok x0 1 b (keyN n j) h l := by
  rw [← v9_ix]
  exact gatherK _ _ b n j h l (keyN n j) (by rw [val_main_v68_apply, keyK_eq]; rfl)

theorem v76_ix (b : Fin 2) (n : Fin 4096) (j : Fin 128) (h : Fin 16) (l : Fin 128) :
    val_main_v76 (F := Ideal) x0 (ix5 b n j h l) = tok x0 2 b (keyN n j) h l := by
  rw [← v11_ix]
  exact gatherK _ _ b n j h l (keyN n j) (by rw [val_main_v75_apply, keyV_eq]; rfl)

/-- The bias row a query's key `j` reads. -/
def rIx (n : Fin 4096) (j : Fin 128) : Fin 15 := ⟨min (n.val / 64 - 4) 56 + j.val / 16 + 7 - n.val / 64, by omega⟩
/-- The bias column a query's key `j` reads. -/
def cIx (n : Fin 4096) (j : Fin 128) : Fin 31 := ⟨min (n.val % 64 - 8) 48 + j.val % 16 + 15 - n.val % 64, by omega⟩

theorem v62_ix (h : Fin 16) (n : Fin 4096) (j : Fin 128) : val_main_v62 (F := Ideal) x1 (ix3 h n j) = x1 (ix3 h (rIx n j) (cIx n j)) :=
  gatherB _ _ h n j (rIx n j) (cIx n j) (starts0 n j) (starts1 n j)

/-- The score of a window's key: query times key, and the bias. -/
def rW (b : Fin 2) (n : Fin 4096) (h : Fin 16) (j : Fin 128) : EReal :=
  (∑ l : Fin 128, tok x0 0 b n h l * tok x0 1 b (keyN n j) h l) + x1 (ix3 h (rIx n j) (cIx n j))
/-- The score of a context key. -/
def rC (b : Fin 2) (n : Fin 4096) (h : Fin 16) (c : Fin 256) : EReal :=
  ∑ l : Fin 128, tok x0 0 b n h l * ctx x0 1 b c h l
/-- All the scores, the window's first. -/
def rX (b : Fin 2) (n : Fin 4096) (h : Fin 16) (k : Fin 384) : EReal :=
  if hk : k.val < 128 then rW x0 x1 b n h ⟨k.val, hk⟩ else rC x0 b n h ⟨k.val - 128, by omega⟩

theorem v81_ix (b : Fin 2) (n : Fin 4096) (h : Fin 16) (j : Fin 128) : val_main_v81 (F := Ideal) x0 x1 (ix4 b n h j) = rW x0 x1 b n h j := by
  rw [val_main_v81_apply, val_main_v77_apply, val_main_v80_apply, val_main_v79_apply, val_main_v78_apply]
  refine congrArg₂ (· + ·) (Finset.sum_congr rfl fun k _ => congrArg₂ (· * ·) ?_ ?_) ?_
  · rw [← v7_ix]; refine congrArg _ (funext fun a => ?_); fin_cases a <;> rfl
  · rw [← v69_ix]; refine congrArg _ (funext fun a => ?_); fin_cases a <;> rfl
  · rw [← v62_ix x1]; refine congrArg (val_main_v62 (F := Ideal) x1) (funext fun a => ?_); fin_cases a <;> rfl

theorem v83_ix (b : Fin 2) (n : Fin 4096) (h : Fin 16) (c : Fin 256) : val_main_v83 (F := Ideal) x0 (ix4 b n h c) = rC x0 b n h c := by
  rw [val_main_v83_apply, val_main_v82_apply]
  refine Finset.sum_congr rfl fun k _ => (mul_comm _ _).trans (congrArg₂ (· * ·) ?_ ?_)
  · rw [← v7_ix]; refine congrArg _ (funext fun a => ?_); fin_cases a <;> rfl
  · rw [← v13_ix]; refine congrArg _ (funext fun a => ?_); fin_cases a <;> rfl

theorem v84_ix (b : Fin 2) (n : Fin 4096) (h : Fin 16) (k : Fin 384) : val_main_v84 (F := Ideal) x0 x1 (ix4 b n h k) = rX x0 x1 b n h k := by
  unfold val_main_v84 rX
  by_cases hk : k.val < 128
  · rw [dif_pos hk, ← v81_ix]
    refine concatenate_pair_apply_left (t := S2x4096x16x384) (s₁ := S2x4096x16x128) (s₂ := S2x4096x16x256) (3 : Fin 4) (val_main_v81 (F := Ideal) x0 x1) (val_main_v83 (F := Ideal) x0) _ (ix4 b n h k) rfl (ix4 b n h ⟨k.val, hk⟩) fun a => ?_
    fin_cases a <;> rfl
  · rw [dif_neg hk, ← v83_ix]
    refine concatenate_pair_apply_right (t := S2x4096x16x384) (s₁ := S2x4096x16x128) (s₂ := S2x4096x16x256) (3 : Fin 4) (val_main_v81 (F := Ideal) x0 x1) (val_main_v83 (F := Ideal) x0) _ (ix4 b n h k) rfl rfl (ix4 b n h ⟨k.val - 128, by omega⟩) (fun a ha => ?_) ?_
    · fin_cases a
      · rfl
      · rfl
      · rfl
      · exact absurd rfl ha
    · show k.val - 128 + 128 = k.val; omega

/-- The greatest score. -/
def rM (b : Fin 2) (n : Fin 4096) (h : Fin 16) : EReal := max ⊥ (Finset.univ.fold max ⊥ (rX x0 x1 b n h))

theorem v87_ix (b : Fin 2) (n : Fin 4096) (h : Fin 16) : val_main_v87 (F := Ideal) x0 x1 (ix3 b n h) = rM x0 x1 b n h := by
  rw [val_main_v87_apply, val_main_v86_apply, val_main_cst_20_apply]
  have e : val_main_v85 (F := Ideal) x0 x1 (ix3 b n h) = Finset.univ.fold max ⊥ (rX x0 x1 b n h) := by
    unfold val_main_v85 val_main_cst
    pointwise []
    rw [Cert.Trip.ofBits_ninf]
    simp only [v84_ix]
  rw [e]
  exact congrArg₂ max Cert.Trip.ofBits_ninf rfl

/-- The exponential of a score. -/
def rE (b : Fin 2) (n : Fin 4096) (h : Fin 16) (k : Fin 384) : EReal := Ideal.exp (rX x0 x1 b n h k - rM x0 x1 b n h)
/-- The sum of the exponentials. -/
def rD (b : Fin 2) (n : Fin 4096) (h : Fin 16) : EReal := ∑ k, rE x0 x1 b n h k

theorem v91_ix (b : Fin 2) (n : Fin 4096) (h : Fin 16) (k : Fin 384) : val_main_v91 (F := Ideal) x0 x1 (ix4 b n h k) = rE x0 x1 b n h k := by
  rw [val_main_v91_apply, val_main_v90_apply, val_main_v89_apply, val_main_v88_apply, v84_ix]
  have e : idx_main_v88 (idx_main_v89 (ix4 b n h k)) = ix3 b n h := by funext a; fin_cases a <;> rfl
  rw [e, v87_ix]
  rfl

theorem v92_ix (b : Fin 2) (n : Fin 4096) (h : Fin 16) : val_main_v92 (F := Ideal) x0 x1 (ix3 b n h) = rD x0 x1 b n h := by
  rw [val_main_v92_apply]
  have e0 : val_main_cst_21 (F := Ideal) (Shape.Idx.first Cert.ReferenceIdeal.Gen.h_S_) = (0 : EReal) := by
    rw [val_main_cst_21_apply]; exact Ideal.ofBits_zero _
  rw [e0, zero_add]
  refine Finset.sum_congr rfl fun k _ => ?_
  rw [← v91_ix]; refine congrArg _ (funext fun a => ?_); fin_cases a <;> rfl

theorem v95_ix (b : Fin 2) (n : Fin 4096) (h : Fin 16) (k : Fin 384) :
    val_main_v95 (F := Ideal) x0 x1 (ix4 b n h k) = Ideal.div (rE x0 x1 b n h k) (rD x0 x1 b n h) := by
  rw [val_main_v95_apply, val_main_v94_apply, val_main_v93_apply, v91_ix]
  have e : idx_main_v93 (idx_main_v94 (ix4 b n h k)) = ix3 b n h := by funext a; fin_cases a <;> rfl
  rw [e, v92_ix]
  rfl

/-- The reference's result at an index. -/
theorem v103_ix (i : S8192x2048.Idx) (b : Fin 2) (n : Fin 4096) (h : Fin 16) (d : Fin 128) (h0 : (i 0).val = 4096 * b.val + n.val) (h1 : (i 1).val = 128 * h.val + d.val) :
    val_main_v103 (F := Ideal) x0 x1 i
      = (∑ j : Fin 128, Ideal.div (rE x0 x1 b n h ⟨j.val, by omega⟩) (rD x0 x1 b n h) * tok x0 2 b (keyN n j) h d)
        + ∑ c : Fin 256, ctx x0 2 b c h d * Ideal.div (rE x0 x1 b n h ⟨128 + c.val, by omega⟩) (rD x0 x1 b n h) := by
  have hb := b.isLt; have hn := n.isLt; have hh := h.isLt; have hd := d.isLt
  have e : idx_main_v102 i = ix4 b n h d := by
    funext a
    refine Fin.ext ?_
    match a with
    | ⟨0, _⟩ => show ((i 0).val * 2048 + (i 1).val) / 8388608 = b.val; omega
    | ⟨1, _⟩ => show ((i 0).val * 2048 + (i 1).val) / 2048 % 4096 = n.val; omega
    | ⟨2, _⟩ => show ((i 0).val * 2048 + (i 1).val) / 128 % 16 = h.val; omega
    | ⟨3, _⟩ => show ((i 0).val * 2048 + (i 1).val) % 128 = d.val; omega
  rw [val_main_v103_apply, val_main_v102_apply, e, val_main_v101_apply, val_main_v97_apply, val_main_v100_apply, val_main_v99_apply]
  refine congrArg₂ (· + ·) (Finset.sum_congr rfl fun k _ => congrArg₂ (· * ·) ?_ ?_) (Finset.sum_congr rfl fun k _ => congrArg₂ (· * ·) ?_ ?_)
  · rw [val_main_v96_apply, ← v95_ix]; refine congrArg _ (funext fun a => Fin.ext ?_); fin_cases a <;> rfl
  · rw [← v76_ix]; refine congrArg _ (funext fun a => ?_); fin_cases a <;> rfl
  · rw [← v15_ix]; refine congrArg _ (funext fun a => ?_); fin_cases a <;> rfl
  · rw [val_main_v98_apply, ← v95_ix]; refine congrArg _ (funext fun a => Fin.ext ?_); fin_cases a <;> rfl

end

end Cert.Ref
-- ==== Proof.Bias.lean ====
/- What the bias scratch holds after the stores of a grid point that loads it: the closed form of the 96 tiles. -/
module

public import proofs.«01_k».proof.Proof.Gen.KernelIdeal.Value
public import Idealize.ShloMosaic.Lib.Pointwise
public import Idealize.ShloMosaic.Lib.Writes

@[expose] public section

set_option maxRecDepth 16384

noncomputable section

namespace Cert.Bias

open Cert.KernelIdeal Cert.KernelIdeal.Gen Idealize.ShloMosaic Idealize.ShloMosaic.TcCoe Idealize.SL.Sem
open Idealize.ShloMosaic.Pointwise

/-- The first window row of the band, for query row `a` of the group, in a pattern of band. -/
def lo (p a : ℕ) : ℕ := if p = 0 then 0 else if p = 1 then a else 4

/-- A tile's pattern, from its number. -/
def tp (q : ℕ) : Fin 3 := Fin.ofNat 3 (q / 720)
/-- A tile's query row in the group, from its number. -/
def ta (q : ℕ) : Fin 4 := Fin.ofNat 4 (q / 180)
/-- A tile's band row, from its number. -/
def ti (q : ℕ) : Fin 12 := Fin.ofNat 12 (q / 15)
/-- A tile's table row, from its number. -/
def tr (q : ℕ) : Fin 15 := Fin.ofNat 15 q

/-- The 96 stored tiles, by number: `((pattern * 4 + query row) * 12 + band row) * 15 + table row`, the last stored first. -/
def tab : List ℕ := [
   2152, 2136, 2120, 2104, 2088, 2072, 2056, 2040, 1973, 1957, 1941, 1925, 1909, 1893, 1877, 1861,
   1794, 1778, 1762, 1746, 1730, 1714, 1698, 1682, 1615, 1599, 1583, 1567, 1551, 1535, 1519, 1503,
   1420, 1404, 1388, 1372, 1356, 1340, 1324, 1308, 1225, 1209, 1193, 1177, 1161, 1145, 1129, 1113,
   1030, 1014, 998, 982, 966, 950, 934, 918, 835, 819, 803, 787, 771, 755, 739, 723,
   656, 640, 624, 608, 592, 576, 560, 544, 477, 461, 445, 429, 413, 397, 381, 365,
   298, 282, 266, 250, 234, 218, 202, 186, 119, 103, 87, 71, 55, 39, 23, 7]

/-- Every tile of the list is one inside its window, and its table row is the distance of the band row from the query row. -/
theorem tab_ok : ∀ q ∈ tab, lo (tp q).val (ta q).val ≤ (ti q).val ∧ (ti q).val < lo (tp q).val (ta q).val + 8
    ∧ (tr q).val + 4 * (tp q).val + (ta q).val = (ti q).val + 7 := by decide +kernel

/-- Every tile inside its window is in the list. -/
theorem tab_cover : ∀ (p : Fin 3) (a : Fin 4) (i : Fin 12), lo p.val a.val ≤ i.val → i.val < lo p.val a.val + 8 →
    ((p.val * 4 + a.val) * 12 + i.val) * 15 + (i.val + 7 - 4 * p.val - a.val) ∈ tab := by decide +kernel

/-- A tile's number gives its parts back. -/
theorem parts (p a i o : ℕ) (hp : p < 3) (ha : a < 4) (hi : i < 12) (ho : o < 15) :
    (tp (((p * 4 + a) * 12 + i) * 15 + o)).val = p ∧ (ta (((p * 4 + a) * 12 + i) * 15 + o)).val = a
    ∧ (ti (((p * 4 + a) * 12 + i) * 15 + o)).val = i := by
  refine ⟨?_, ?_, ?_⟩
  · show (((p * 4 + a) * 12 + i) * 15 + o) / 720 % 3 = p; omega
  · show (((p * 4 + a) * 12 + i) * 15 + o) / 180 % 4 = a; omega
  · show (((p * 4 + a) * 12 + i) * 15 + o) / 15 % 12 = i; omega

/-- The bias of query row and column `y1` against band row and column `y2` in pattern `p`: the table's entry at the
    distance of the rows if the band row is in the window, and the mask's value `⊥` if it is not. -/
def bias (x5 : Vec Ideal S1x15x64x64 .f32) (p : Fin 3) (y1 : Fin 256) (y2 : Fin 768) : EReal :=
  if lo p.val (y1.val / 64) ≤ y2.val / 64 ∧ y2.val / 64 < lo p.val (y1.val / 64) + 8 then
    x5 (ix4 0 (Fin.ofNat 15 (y2.val / 64 + 7 - 4 * p.val - y1.val / 64)) (Fin.ofNat 64 y1.val) (Fin.ofNat 64 y2.val))
  else ⊥

/-- The bias, as a function on the scratch's indices. -/
def biasV (x5 : Vec Ideal S1x15x64x64 .f32) : S3x256x768.Idx → EReal := fun y => bias x5 (y 0) (y 1) (y 2)

section
variable {arg7 : Memref sig .tc .vmem S1x15x64x64 .f32} (harg7 : arg7.IsWhole) (x5 : Vec Ideal S1x15x64x64 .f32)

theorem piece_inb (q : ℕ) :
    ∀ a, (![(tp q).val, 64 * (ta q).val, 64 * (ti q).val] : Fin 3 → ℕ) a + S1x64x64.size a ≤ S3x256x768.size a := by
  have := (tp q).isLt; have := (ta q).isLt; have := (ti q).isLt
  intro b; fin_cases b <;> simp [S3x256x768, S1x64x64] <;> omega

theorem load_inb (q : ℕ) :
    ∀ a, (![0, (tr q).val, 0, 0] : Fin 4 → ℕ) a + S1x1x64x64.size a ≤ S1x15x64x64.size a := by
  have := (tr q).isLt
  intro b; fin_cases b <;> simp [S1x15x64x64, S1x1x64x64] <;> omega

/-- One stored tile: its place in the scratch, and the table's tile it holds. -/
def piece (q : ℕ) : View.Piece (Elt Ideal) S3x256x768 .f32 :=
  ⟨Rect.unit (s := S3x256x768) ![(tp q).val, 64 * (ta q).val, 64 * (ti q).val] S1x64x64.size (piece_inb q),
    k0_pay2 (F := Ideal) (View.readAt (Elt Ideal) arg7.view (Rect.unit (s := S1x15x64x64) ![0, (tr q).val, 0, 0] S1x1x64x64.size (load_inb q)).toLoadRect (harg7.unread x5))⟩

/-- A tile reshaped with one unit axis less and one more is itself. -/
theorem pay2_apply (v : Vec Ideal S1x1x64x64 .f32) (a b : Fin 64) : k0_pay2 (F := Ideal) v (ix3 0 a b) = v (ix4 0 0 a b) := by
  pointwise [k0_pay2]

/-- What one tile holds at an index: the bias there. -/
theorem tile_apply (p : Fin 3) (a : Fin 4) (i : Fin 12) (o : Fin 15) (h1 : lo p.val a.val ≤ i.val) (h2 : i.val < lo p.val a.val + 8)
    (h3 : o.val + 4 * p.val + a.val = i.val + 7)
    (hs : ∀ b, (![p.val, 64 * a.val, 64 * i.val] : Fin 3 → ℕ) b + S1x64x64.size b ≤ S3x256x768.size b)
    (hl : ∀ b, (![0, o.val, 0, 0] : Fin 4 → ℕ) b + S1x1x64x64.size b ≤ S1x15x64x64.size b) (x : S1x64x64.Idx) :
    k0_pay2 (F := Ideal) (View.readAt (Elt Ideal) arg7.view (Rect.unit (s := S1x15x64x64) ![0, o.val, 0, 0] S1x1x64x64.size hl).toLoadRect (harg7.unread x5)) x
      = biasV x5 ((Rect.unit (s := S3x256x768) ![p.val, 64 * a.val, 64 * i.val] S1x64x64.size hs).emb x) := by
  obtain ⟨u, v, rfl⟩ : ∃ u v : Fin 64, x = ix3 (0 : Fin 1) u v := by
    refine ⟨x 1, x 2, ?_⟩
    funext b; apply Fin.ext
    have h0 : (x 0).val < 1 := (x 0).isLt
    fin_cases b
    · show (x 0).val = 0; omega
    · rfl
    · rfl
  have he : (Rect.unit (s := S3x256x768) ![p.val, 64 * a.val, 64 * i.val] S1x64x64.size hs).emb (ix3 (0 : Fin 1) u v)
      = (ix3 p (⟨64 * a.val + u.val, by omega⟩ : Fin 256) (⟨64 * i.val + v.val, by omega⟩ : Fin 768) : S3x256x768.Idx) := by
    funext b; apply Fin.ext
    fin_cases b
    · show p.val + 1 * 0 = p.val; omega
    · show 64 * a.val + 1 * u.val = 64 * a.val + u.val; omega
    · show 64 * i.val + 1 * v.val = 64 * i.val + v.val; omega
  rw [he, pay2_apply]
  show _ = bias x5 p ⟨64 * a.val + u.val, _⟩ ⟨64 * i.val + v.val, _⟩
  have e1 : (64 * a.val + u.val) / 64 = a.val := by omega
  have e2 : (64 * i.val + v.val) / 64 = i.val := by omega
  unfold bias
  rw [e1, e2, if_pos ⟨h1, h2⟩, View.readAt_rect]
  show arg7.view.read (Elt Ideal) (harg7.unread x5) _ = _
  rw [harg7.read_unread]
  congr 1
  funext b; apply Fin.ext
  fin_cases b
  · rfl
  · show o.val + 1 * 0 = (i.val + 7 - 4 * p.val - a.val) % 15; omega
  · show 0 + 1 * u.val = (64 * a.val + u.val) % 64; omega
  · show 0 + 1 * v.val = (64 * i.val + v.val) % 64; omega

/-- The tiles in order. -/
def pieces : List (View.Piece (Elt Ideal) S3x256x768 .f32) := tab.map (piece harg7 x5)

theorem pieces_val : ∀ p ∈ pieces harg7 x5, ∀ x : p.1.shape.Idx, p.2 x = biasV x5 (p.1.emb x) := by
  intro p hp x
  obtain ⟨q, hq, rfl⟩ := List.mem_map.mp hp
  obtain ⟨h1, h2, h3⟩ := tab_ok q hq
  exact tile_apply harg7 x5 _ _ _ _ h1 h2 h3 (piece_inb q) (load_inb q) x

/-- An index inside its window lies in one of the tiles. -/
theorem pieces_cover (p : Fin 3) (y1 : Fin 256) (y2 : Fin 768) (h1 : lo p.val (y1.val / 64) ≤ y2.val / 64)
    (h2 : y2.val / 64 < lo p.val (y1.val / 64) + 8) : ∃ pc ∈ pieces harg7 x5, (ix3 p y1 y2 : S3x256x768.Idx) ∈ pc.1.set := by
  have ha : y1.val / 64 < 4 := by omega
  have hi : y2.val / 64 < 12 := by omega
  have hm := tab_cover p ⟨_, ha⟩ ⟨_, hi⟩ h1 h2
  simp only at hm
  have hlo : lo p.val (y1.val / 64) ≤ 4 := by unfold lo; split_ifs <;> omega
  have hlo' : 4 * p.val + y1.val / 64 ≤ lo p.val (y1.val / 64) + 7 ∧ lo p.val (y1.val / 64) ≤ 4 * p.val + y1.val / 64:= by unfold lo; have := p.isLt; split_ifs <;> omega
  refine ⟨_, List.mem_map.mpr ⟨_, hm, rfl⟩, ?_⟩
  show _ ∈ (Rect.unit (s := S3x256x768) _ _ (piece_inb _)).set
  rw [Rect.mem_set_unit]
  obtain ⟨e0, e1, e2⟩ := parts p.val (y1.val / 64) (y2.val / 64) (y2.val / 64 + 7 - 4 * p.val - y1.val / 64) p.isLt ha hi (by omega)
  intro b
  fin_cases b
  · show (tp _).val ≤ p.val ∧ p.val < (tp _).val + 1
    rw [e0]; omega
  · show 64 * (ta _).val ≤ y1.val ∧ y1.val < 64 * (ta _).val + 64
    rw [e1]; omega
  · show 64 * (ti _).val ≤ y2.val ∧ y2.val < 64 * (ti _).val + 64
    rw [e2]; omega

/-- An index outside its window lies in none of the tiles. -/
theorem pieces_miss (p : Fin 3) (y1 : Fin 256) (y2 : Fin 768) (h : ¬(lo p.val (y1.val / 64) ≤ y2.val / 64 ∧ y2.val / 64 < lo p.val (y1.val / 64) + 8)) :
    ∀ pc ∈ pieces harg7 x5, (ix3 p y1 y2 : S3x256x768.Idx) ∉ pc.1.set := by
  intro pc hp hy
  obtain ⟨q, hq, rfl⟩ := List.mem_map.mp hp
  obtain ⟨h1, h2, -⟩ := tab_ok q hq
  change _ ∈ (Rect.unit (s := S3x256x768) _ _ (piece_inb q)).set at hy
  rw [Rect.mem_set_unit] at hy
  have y0 : (tp q).val ≤ p.val ∧ p.val < (tp q).val + 1 := hy 0
  have y1' : 64 * (ta q).val ≤ y1.val ∧ y1.val < 64 * (ta q).val + 64 := hy 1
  have y2' : 64 * (ti q).val ≤ y2.val ∧ y2.val < 64 * (ti q).val + 64 := hy 2
  have e0 : (tp q).val = p.val := by omega
  have e1 : y1.val / 64 = (ta q).val := by omega
  have e2 : y2.val / 64 = (ti q).val := by omega
  rw [e0] at h1 h2
  exact h (by rw [e1, e2]; exact ⟨h1, h2⟩)

end

/-- At a point that only reloads the table, the scratch's stores are the tiles. -/
theorem run_C (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole)
    (arg5 : Memref sig .tc .vmem S256x128 .bf16) (harg5 : arg5.IsWhole) (arg6 : Memref sig .tc .vmem S256x128 .bf16) (harg6 : arg6.IsWhole) (arg7 : Memref sig .tc .vmem S1x15x64x64 .f32) (harg7 : arg7.IsWhole)
    (arg8 : Memref sig .tc .vmem S4096x128 .bf16) (harg8 : arg8.IsWhole) (arg9 : Memref sig .tc .vmem S3x256x768 .f32) (harg9 : arg9.IsWhole) (hc0 : ¬cond0_0 i) (hc1 : cond0_1 i)
    (x0 x1 x2 : Vec Ideal S4096x128 .bf16) (x3 x4 : Vec Ideal S256x128 .bf16) (x5 : Vec Ideal S1x15x64x64 .f32) (xs0 : Vec Ideal S3x256x768 .f32) :
    (kernelRun0_C (F := Ideal) c i arg2 harg2 arg3 harg3 arg4 harg4 arg5 harg5 arg6 harg6 arg7 harg7 arg8 harg8 arg9 harg9 hc0 hc1 x0 x1 x2 x3 x4 x5 xs0).2.1 = pieces harg7 x5 := by
  unfold kernelRun0_C
  rfl

/-- At the first point, they are the tiles over one store of the mask's value. -/
theorem run_A (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole)
    (arg5 : Memref sig .tc .vmem S256x128 .bf16) (harg5 : arg5.IsWhole) (arg6 : Memref sig .tc .vmem S256x128 .bf16) (harg6 : arg6.IsWhole) (arg7 : Memref sig .tc .vmem S1x15x64x64 .f32) (harg7 : arg7.IsWhole)
    (arg8 : Memref sig .tc .vmem S4096x128 .bf16) (harg8 : arg8.IsWhole) (arg9 : Memref sig .tc .vmem S3x256x768 .f32) (harg9 : arg9.IsWhole) (hc0 : cond0_0 i) (hc1 : cond0_1 i)
    (x0 x1 x2 : Vec Ideal S4096x128 .bf16) (x3 x4 : Vec Ideal S256x128 .bf16) (x5 : Vec Ideal S1x15x64x64 .f32) :
    (kernelRun0_A (F := Ideal) c i arg2 harg2 arg3 harg3 arg4 harg4 arg5 harg5 arg6 harg6 arg7 harg7 arg8 harg8 arg9 harg9 hc0 hc1 x0 x1 x2 x3 x4 x5).2.1
      = pieces harg7 x5 ++ [⟨Rect.unit (s := S3x256x768) ![0, 0, 0] S3x256x768.size inb_S3x256x768_S3x256x768_0_0_0, k0_pay1 (F := Ideal)⟩] := by
  unfold kernelRun0_A
  rfl

section
variable {arg7 : Memref sig .tc .vmem S1x15x64x64 .f32} (harg7 : arg7.IsWhole) (x5 : Vec Ideal S1x15x64x64 .f32)
  (arg9 : Memref sig .tc .vmem S3x256x768 .f32)

/-- The mask's value is `⊥`. -/
theorem pay1_apply (y : S3x256x768.Idx) : k0_pay1 (F := Ideal) y = (⊥ : EReal) := by
  have h : (Named.named κ "mask" 0xF149F2CA#32 : Ideal .f32) = (⊥ : EReal) := IdealRules.named_const.ideal_named_scalar _ _ _ _ rfl
  pointwise [k0_pay1]
  exact h

/-- The scratch after the tiles, over contents that hold the mask's value outside the windows, holds the bias. -/
theorem read_pieces (f : arg9.view.ty.Contents (Elt Ideal))
    (hf : ∀ (p : Fin 3) (y1 : Fin 256) (y2 : Fin 768), ¬(lo p.val (y1.val / 64) ≤ y2.val / 64 ∧ y2.val / 64 < lo p.val (y1.val / 64) + 8) →
      arg9.view.read (Elt Ideal) f (ix3 p y1 y2) = (⊥ : EReal)) :
    arg9.view.read (Elt Ideal) (arg9.view.writes (Elt Ideal) f (pieces harg7 x5)) = biasV x5 := by
  funext y
  obtain ⟨p, y1, y2, rfl⟩ : ∃ (p : Fin 3) (y1 : Fin 256) (y2 : Fin 768), y = ix3 p y1 y2 :=
    ⟨y 0, y 1, y 2, by funext b; fin_cases b <;> rfl⟩
  by_cases h : lo p.val (y1.val / 64) ≤ y2.val / 64 ∧ y2.val / 64 < lo p.val (y1.val / 64) + 8
  · exact View.read_writes_apply_of_pieces arg9.view f (biasV x5) _ (pieces_val harg7 x5) _ (pieces_cover harg7 x5 p y1 y2 h.1 h.2)
  · rw [View.read_writes_apply_of_forall_not_mem arg9.view f _ _ (pieces_miss harg7 x5 p y1 y2 h), hf p y1 y2 h]
    exact (if_neg h).symm

/-- The bias outside the windows is the mask's value. -/
theorem biasV_miss (p : Fin 3) (y1 : Fin 256) (y2 : Fin 768) (h : ¬(lo p.val (y1.val / 64) ≤ y2.val / 64 ∧ y2.val / 64 < lo p.val (y1.val / 64) + 8)) :
    biasV x5 (ix3 p y1 y2) = ⊥ := if_neg h

/-- After the first point's stores the scratch holds the bias. -/
theorem read_A (f : arg9.view.ty.Contents (Elt Ideal)) :
    arg9.view.read (Elt Ideal) (arg9.view.writes (Elt Ideal) f (pieces harg7 x5 ++ [⟨Rect.unit (s := S3x256x768) ![0, 0, 0] S3x256x768.size inb_S3x256x768_S3x256x768_0_0_0, k0_pay1 (F := Ideal)⟩]))
      = biasV x5 := by
  rw [View.writes_append]
  refine read_pieces harg7 x5 arg9 _ fun p y1 y2 _ => ?_
  rw [View.read_writes_cons_hit_of_coords (x := (ix3 p y1 y2 : S3x256x768.Idx)) (hx := fun a => by fin_cases a <;> simp [Rect.unit])]
  exact pay1_apply _

end

end Cert.Bias

end
-- ==== Proof.Out.lean ====
/- What each grid point leaves: the block of the attention, and the bias in the scratch. -/
module

public import proofs.«01_k».proof.Proof.Trip
public import proofs.«01_k».proof.Proof.Bias

@[expose] public section

set_option maxRecDepth 16384

noncomputable section

namespace Cert.Out

open Cert.KernelIdeal Cert.KernelIdeal.Gen Cert.KernelIdeal.Value Cert.Trip Cert.Bias Idealize.ShloMosaic Idealize.ShloMosaic.TcCoe Idealize.SL.Sem
open Idealize.ShloMosaic.Pointwise

section
variable (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole)
    (arg5 : Memref sig .tc .vmem S256x128 .bf16) (harg5 : arg5.IsWhole) (arg6 : Memref sig .tc .vmem S256x128 .bf16) (harg6 : arg6.IsWhole) (arg7 : Memref sig .tc .vmem S1x15x64x64 .f32) (harg7 : arg7.IsWhole)
    (arg8 : Memref sig .tc .vmem S4096x128 .bf16) (harg8 : arg8.IsWhole) (arg9 : Memref sig .tc .vmem S3x256x768 .f32) (harg9 : arg9.IsWhole)
    (x0 x1 x2 : Vec Ideal S4096x128 .bf16) (x3 x4 : Vec Ideal S256x128 .bf16) (x5 : Vec Ideal S1x15x64x64 .f32) (xs0 : Vec Ideal S3x256x768 .f32)

/-- A block loaded whole is the block. -/
theorem load_whole {arg : Memref sig .tc .vmem S256x128 .bf16} (harg : arg.IsWhole) (x : Vec Ideal S256x128 .bf16) (inb : ∀ a, (![0, 0] : Fin 2 → ℕ) a + S256x128.size a ≤ S256x128.size a) :
    View.readAt (Elt Ideal) arg.view (Rect.unit (s := S256x128) ![0, 0] S256x128.size inb).toLoadRect (harg.unread x) = x := by
  rw [View.readAt_rect]
  funext y
  show arg.view.read (Elt Ideal) (harg.unread x) _ = _
  rw [harg.read_unread]
  congr 1
  funext b; apply Fin.ext
  fin_cases b
  · show 0 + 1 * (y 0).val = (y 0).val; omega
  · show 0 + 1 * (y 1).val = (y 1).val; omega

/-- What an odd point leaves in the output block. -/
theorem out_B (hc0 : ¬cond0_0 i) (hc1 : ¬cond0_1 i) :
    out0_B_6 (F := Ideal) c i arg2 harg2 arg3 harg3 arg4 harg4 arg5 harg5 arg6 harg6 arg7 harg7 arg8 harg8 arg9 harg9 hc0 hc1 x0 x1 x2 x3 x4 x5 xs0
      = attV x0 x1 x2 x3 x4 xs0 := by
  funext y
  unfold out0_B_6
  refine View.read_writes_apply_of_pieces VO0_6 _ (attV x0 x1 x2 x3 x4 xs0) _ ?_ y (cover0_B_6 c i arg2 harg2 arg3 harg3 arg4 harg4 arg5 harg5 arg6 harg6 arg7 harg7 arg8 harg8 arg9 harg9 hc0 hc1 x0 x1 x2 x3 x4 x5 xs0 y)
  unfold kernelRun0_B
  dsimp only
  intro p hp
  rw [load_whole harg5 x3, load_whole harg6 x4] at hp
  exact pb_val x0 x1 x2 x3 x4 xs0 c i arg2 harg2 arg3 harg3 arg4 harg4 arg5 harg5 arg6 harg6 arg7 harg7 arg8 harg8 arg9 harg9 _ _ _ (by exact (harg9.read_unread xs0)) _ le_rfl p hp

/-- What an even point after the first leaves in the output block. -/
theorem out_C (hc0 : ¬cond0_0 i) (hc1 : cond0_1 i)
    (hB : arg9.view.read (Elt Ideal) (arg9.view.writes (Elt Ideal) (harg9.unread xs0) (pieces harg7 x5)) = biasV x5) :
    out0_C_6 (F := Ideal) c i arg2 harg2 arg3 harg3 arg4 harg4 arg5 harg5 arg6 harg6 arg7 harg7 arg8 harg8 arg9 harg9 hc0 hc1 x0 x1 x2 x3 x4 x5 xs0
      = attV x0 x1 x2 x3 x4 (biasV x5) := by
  funext y
  unfold out0_C_6
  refine View.read_writes_apply_of_pieces VO0_6 _ (attV x0 x1 x2 x3 x4 (biasV x5)) _ ?_ y (cover0_C_6 c i arg2 harg2 arg3 harg3 arg4 harg4 arg5 harg5 arg6 harg6 arg7 harg7 arg8 harg8 arg9 harg9 hc0 hc1 x0 x1 x2 x3 x4 x5 xs0 y)
  unfold kernelRun0_C
  dsimp only
  intro p hp
  rw [load_whole harg5 x3, load_whole harg6 x4] at hp
  exact pb_val x0 x1 x2 x3 x4 (biasV x5) c i arg2 harg2 arg3 harg3 arg4 harg4 arg5 harg5 arg6 harg6 arg7 harg7 arg8 harg8 arg9 harg9 _ _ _ (by exact hB) _ le_rfl p hp

/-- What the first point leaves in the output block. -/
theorem out_A (hc0 : cond0_0 i) (hc1 : cond0_1 i) :
    out0_A_6 (F := Ideal) c i arg2 harg2 arg3 harg3 arg4 harg4 arg5 harg5 arg6 harg6 arg7 harg7 arg8 harg8 arg9 harg9 hc0 hc1 x0 x1 x2 x3 x4 x5
      = attV x0 x1 x2 x3 x4 (biasV x5) := by
  funext y
  unfold out0_A_6
  refine View.read_writes_apply_of_pieces VO0_6 _ (attV x0 x1 x2 x3 x4 (biasV x5)) _ ?_ y (cover0_A_6 c i arg2 harg2 arg3 harg3 arg4 harg4 arg5 harg5 arg6 harg6 arg7 harg7 arg8 harg8 arg9 harg9 hc0 hc1 x0 x1 x2 x3 x4 x5 y)
  unfold kernelRun0_A
  dsimp only
  intro p hp
  rw [load_whole harg5 x3, load_whole harg6 x4] at hp
  exact pb_val x0 x1 x2 x3 x4 (biasV x5) c i arg2 harg2 arg3 harg3 arg4 harg4 arg5 harg5 arg6 harg6 arg7 harg7 arg8 harg8 arg9 harg9 _ _ _ (by exact (read_A harg7 x5 arg9 _)) _ le_rfl p hp

end

/-- The index maps of the seven windows: point `t` is head `t / 2` of batch `t % 2`. -/
theorem index_facts : ∀ t : Fin grid0.N,
    (win0_0.index t (0 : Fin 2) = t.val % 2 ∧ win0_0.index t (1 : Fin 2) = t.val / 2)
    ∧ (win0_1.index t (0 : Fin 2) = t.val % 2 ∧ win0_1.index t (1 : Fin 2) = 16 + t.val / 2)
    ∧ (win0_2.index t (0 : Fin 2) = t.val % 2 ∧ win0_2.index t (1 : Fin 2) = 32 + t.val / 2)
    ∧ (win0_3.index t (0 : Fin 2) = 32 + t.val % 2 ∧ win0_3.index t (1 : Fin 2) = 16 + t.val / 2)
    ∧ (win0_4.index t (0 : Fin 2) = 32 + t.val % 2 ∧ win0_4.index t (1 : Fin 2) = 32 + t.val / 2)
    ∧ (win0_5.index t (0 : Fin 4) = t.val / 2 ∧ win0_5.index t (1 : Fin 4) = 0 ∧ win0_5.index t (2 : Fin 4) = 0 ∧ win0_5.index t (3 : Fin 4) = 0) := by
  decide +kernel

section
variable (m : (ℓ : Loc nD τ sig) → Buf (Elt Ideal) ℓ) (c : Dev nD)

theorem lt32 (t : Fin cfg0.N) : t.val < 32 := lt_of_lt_of_eq t.isLt N_0

/-- The first argument: the projection's rows. -/
def A0 : S8704x18432.Idx → EReal := m ((c : Thread nD τ).loc main_arg0)
/-- The bias table the launch finds. -/
def T0 : S16x15x64x64.Idx → EReal := V m c main_v33

/-- The queries of a point. -/
theorem x0_apply (t : Fin cfg0.N) (r : Fin 4096) (l : Fin 128) :
    X0_0 m c t (ix2 r l) = A0 m c (ix2 ⟨4096 * (t.val % 2) + r.val, by omega⟩ ⟨128 * (t.val / 2) + l.val, by have := lt32 t; omega⟩) := by
  unfold X0_0 Pipeline.Window.fill
  rw [dif_pos (moved0_0 t _)]
  unfold iblk
  show V m c main_arg0 (((cfg0.win 0).blk t).view.emb _) = _
  rw [V_main_arg0]
  unfold A0
  congr 1
  have h := (index_facts t).1
  funext b; apply Fin.ext
  fin_cases b
  · show win0_0.index t (0 : Fin 2) * 4096 + 1 * r.val = _; rw [h.1]; show _ = 4096 * (t.val % 2) + r.val; omega
  · show win0_0.index t (1 : Fin 2) * 128 + 1 * l.val = _; rw [h.2]; show _ = 128 * (t.val / 2) + l.val; omega

/-- The keys of a point. -/
theorem x1_apply (t : Fin cfg0.N) (r : Fin 4096) (l : Fin 128) :
    X0_1 m c t (ix2 r l) = A0 m c (ix2 ⟨4096 * (t.val % 2) + r.val, by omega⟩ ⟨2048 + 128 * (t.val / 2) + l.val, by have := lt32 t; omega⟩) := by
  unfold X0_1 Pipeline.Window.fill
  rw [dif_pos (moved0_1 t _)]
  unfold iblk
  show V m c main_arg0 (((cfg0.win 1).blk t).view.emb _) = _
  rw [V_main_arg0]
  unfold A0
  congr 1
  have h := (index_facts t).2.1
  funext b; apply Fin.ext
  fin_cases b
  · show win0_1.index t (0 : Fin 2) * 4096 + 1 * r.val = _; rw [h.1]; show _ = 4096 * (t.val % 2) + r.val; omega
  · show win0_1.index t (1 : Fin 2) * 128 + 1 * l.val = _; rw [h.2]; show _ = 2048 + 128 * (t.val / 2) + l.val; omega

/-- The values of a point. -/
theorem x2_apply (t : Fin cfg0.N) (r : Fin 4096) (l : Fin 128) :
    X0_2 m c t (ix2 r l) = A0 m c (ix2 ⟨4096 * (t.val % 2) + r.val, by omega⟩ ⟨4096 + 128 * (t.val / 2) + l.val, by have := lt32 t; omega⟩) := by
  unfold X0_2 Pipeline.Window.fill
  rw [dif_pos (moved0_2 t _)]
  unfold iblk
  show V m c main_arg0 (((cfg0.win 2).blk t).view.emb _) = _
  rw [V_main_arg0]
  unfold A0
  congr 1
  have h := (index_facts t).2.2.1
  funext b; apply Fin.ext
  fin_cases b
  · show win0_2.index t (0 : Fin 2) * 4096 + 1 * r.val = _; rw [h.1]; show _ = 4096 * (t.val % 2) + r.val; omega
  · show win0_2.index t (1 : Fin 2) * 128 + 1 * l.val = _; rw [h.2]; show _ = 4096 + 128 * (t.val / 2) + l.val; omega

/-- The context's keys of a point. -/
theorem x3_apply (t : Fin cfg0.N) (r : Fin 256) (l : Fin 128) :
    (iblk m c 3 t : Vec Ideal S256x128 .bf16) (ix2 r l) = A0 m c (ix2 ⟨8192 + 256 * (t.val % 2) + r.val, by omega⟩ ⟨2048 + 128 * (t.val / 2) + l.val, by have := lt32 t; omega⟩) := by
  unfold iblk
  show V m c main_arg0 (((cfg0.win 3).blk t).view.emb _) = _
  rw [V_main_arg0]
  unfold A0
  congr 1
  have h := (index_facts t).2.2.2.1
  funext b; apply Fin.ext
  fin_cases b
  · show win0_3.index t (0 : Fin 2) * 256 + 1 * r.val = _; rw [h.1]; show _ = 8192 + 256 * (t.val % 2) + r.val; omega
  · show win0_3.index t (1 : Fin 2) * 128 + 1 * l.val = _; rw [h.2]; show _ = 2048 + 128 * (t.val / 2) + l.val; omega

/-- The context's values of a point. -/
theorem x4_apply (t : Fin cfg0.N) (r : Fin 256) (l : Fin 128) :
    (iblk m c 4 t : Vec Ideal S256x128 .bf16) (ix2 r l) = A0 m c (ix2 ⟨8192 + 256 * (t.val % 2) + r.val, by omega⟩ ⟨4096 + 128 * (t.val / 2) + l.val, by have := lt32 t; omega⟩) := by
  unfold iblk
  show V m c main_arg0 (((cfg0.win 4).blk t).view.emb _) = _
  rw [V_main_arg0]
  unfold A0
  congr 1
  have h := (index_facts t).2.2.2.2.1
  funext b; apply Fin.ext
  fin_cases b
  · show win0_4.index t (0 : Fin 2) * 256 + 1 * r.val = _; rw [h.1]; show _ = 8192 + 256 * (t.val % 2) + r.val; omega
  · show win0_4.index t (1 : Fin 2) * 128 + 1 * l.val = _; rw [h.2]; show _ = 4096 + 128 * (t.val / 2) + l.val; omega

/-- One head of the bias table. -/
def head (h : ℕ) (hh : h < 16) : Vec Ideal S1x15x64x64 .f32 := fun y => T0 m c (ix4 ⟨h, hh⟩ (y 1) (y 2) (y 3))

/-- The bias table's block of a point is its head. -/
theorem x5_eq (t : Fin cfg0.N) (h : ℕ) (hh : h < 16) (e : t.val / 2 = h) : (iblk m c 5 t : Vec Ideal S1x15x64x64 .f32) = head m c h hh := by
  funext y
  unfold iblk head
  show V m c main_v33 (((cfg0.win 5).blk t).view.emb y) = V m c main_v33 _
  congr 1
  have hx := (index_facts t).2.2.2.2.2
  funext b; apply Fin.ext
  have y0 : (y 0).val = 0 := by have : (y 0).val < 1 := (y 0).isLt; omega
  fin_cases b
  · show win0_5.index t (0 : Fin 4) * 1 + 1 * (y 0).val = _; rw [hx.1, y0, e]; show h * 1 + 1 * 0 = h; omega
  · show win0_5.index t (1 : Fin 4) * 15 + 1 * (y 1).val = (y 1).val; rw [hx.2.1]; omega
  · show win0_5.index t (2 : Fin 4) * 64 + 1 * (y 2).val = (y 2).val; rw [hx.2.2.1]; omega
  · show win0_5.index t (3 : Fin 4) * 64 + 1 * (y 3).val = (y 3).val; rw [hx.2.2.2]; omega

theorem half_lt (t : Fin cfg0.N) : t.val / 2 < 16 := by have := lt32 t; omega

/-- The bias of a point: that of its head. -/
def Bt (t : Fin cfg0.N) : S3x256x768.Idx → EReal := biasV (head m c (t.val / 2) (half_lt t))

/-- What a point leaves: the attention of its head and batch, and its head's bias. -/
theorem state (n : ℕ) : ∀ t : Fin cfg0.N, t.val = n → outsAt0 m c t.val t.isLt
    = (attV (X0_0 m c t) (X0_1 m c t) (X0_2 m c t) (iblk m c 3 t) (iblk m c 4 t) (Bt m c t), Bt m c t) := by
  induction n with
  | zero =>
    intro t ht
    have h0 : t.val % 32 = 0 := by omega
    have h1 : t.val % 2 = 0 := by omega
    rw [outsAt0_A m c t h0 h1, out_A]
    unfold sout0_A_0
    rw [run_A, read_A, x5_eq m c t _ (half_lt t) rfl]
    rfl
  | succ n ih =>
    intro t ht
    have hN := lt32 t
    have hpt : t.val - 1 < cfg0.N := Nat.lt_of_le_of_lt (Nat.sub_le _ _) t.isLt
    have hp := ih ⟨t.val - 1, hpt⟩ (by show t.val - 1 = n; omega)
    have h0 : ¬t.val % 32 = 0 := by omega
    by_cases h1 : t.val % 2 = 0
    · have hs : (outsAt0 m c (t.val - 1) hpt).2 = Bt m c ⟨t.val - 1, hpt⟩ := by
        rw [show outsAt0 m c (t.val - 1) hpt = _ from hp]
      have hB : scM0_0.view.read (Elt Ideal) (scM0_0.view.writes (Elt Ideal) ((Memref.isWhole_whole _ : scM0_0.IsWhole).unread (outsAt0 m c (t.val - 1) hpt).2) (pieces (hs0_5 t) (iblk m c 5 t)))
          = biasV (iblk m c 5 t) := by
        refine read_pieces _ _ _ _ fun p y1 y2 hy => ?_
        rw [Memref.IsWhole.read_unread, hs]
        exact biasV_miss _ p y1 y2 hy
      rw [outsAt0_C m c t h0 h1, out_C (hB := hB)]
      unfold sout0_C_0
      rw [run_C, hB, x5_eq m c t _ (half_lt t) rfl]
      rfl
    · have hs : (outsAt0 m c (t.val - 1) hpt).2 = Bt m c t := by
        rw [show outsAt0 m c (t.val - 1) hpt = _ from hp]
        show biasV (head m c ((t.val - 1) / 2) _) = biasV (head m c (t.val / 2) _)
        congr 2
        omega
      rw [outsAt0_B m c t h0 h1, out_B]
      unfold sout0_B_0
      rw [hs]

/-- The result array at an index. -/
theorem G6_apply (i : S8192x2048.Idx) (t : Fin cfg0.N) (ht : t.val = (i 0).val / 4096 + 2 * ((i 1).val / 128)) :
    G6 m c i = att (X0_0 m c t) (X0_1 m c t) (X0_2 m c t) (iblk m c 3 t) (iblk m c 4 t) (Bt m c t) ⟨(i 0).val % 4096, Nat.mod_lt _ (by decide)⟩ ⟨(i 1).val % 128, Nat.mod_lt _ (by decide)⟩ := by
  have hp : pt6Of i = t.val := by rw [ht]; show 1 * ((i 0).val / 4096 - 0) + 2 * ((i 1).val / 128 - 0) = _; omega
  unfold G6
  rw [dif_pos (by rw [hp]; exact t.isLt), fold0_congr m c _ _ t.val (by rw [Nat.zero_add]; exact t.isLt) hp, ← outsAt0_sweep m c t.val t.isLt, state m c t.val t rfl]
  rfl

end

end Cert.Out

end
-- ==== Proof.Table.lean ====
/- The bias table the launch finds, at an index. -/
module

public import proofs.«01_k».proof.Proof.Trip
public import Idealize.ShloMosaic.Lib.StableHlo.Run

@[expose] public section

set_option maxRecDepth 16384

noncomputable section

namespace Cert.Table

open Cert.KernelIdeal Cert.KernelIdeal.Gen Idealize.ShloMosaic Idealize.ShloMosaic.TcCoe Idealize.SL.Sem Idealize.ShloMosaic.StableHlo
open Idealize.ShloMosaic.Pointwise

variable (m : (ℓ : Loc nD τ sig) → Buf (Elt Ideal) ℓ) (c : Dev nD)

/-- The first column of the window of each query column. -/
def csT : IVec S64 32 :=
  minsi (broadcastInDim S64 ![] bcast_S_S64 (constantI S_ 32 48#32))
    (maxsi (broadcastInDim S64 ![] bcast_S_S64 (constantI S_ 32 0#32)) (subi (iotaInDim S64 32 0) (broadcastInDim S64 ![] bcast_S_S64 (constantI S_ 32 8#32))))
/-- Which key columns lie in the window of a query column. -/
def okT : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 csT)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi (broadcastInDim S64x1 ![0] bcast_S64_S64x1_0 csT) (broadcastInDim S64x1 ![] bcast_S_S64x1 (constantI S_ 32 16#32)))))
/-- The column offset of a query column and a key column. -/
def offT : IVec S64x64 32 :=
  addi (subi (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 (iotaInDim S64 32 0))))
    (broadcastInDim S64x64 ![] bcast_S_S64x64 (constantI S_ 32 15#32))
/-- One where the offset is `j`, else zero. -/
def pickT : FVec Ideal S31x64x64 .f32 :=
  uitofp .f32 (cmpi .eq (broadcastInDim S31x64x64 ![0, 1, 2] bcast_S1x64x64_S31x64x64_0_1_2 (broadcastInDim S1x64x64 ![1, 2] bcast_S64x64_S1x64x64_1_2 offT))
    (broadcastInDim S31x64x64 ![0, 1, 2] bcast_S31x1x1_S31x64x64_0_1_2 (broadcastInDim S31x1x1 ![0] bcast_S31_S31x1x1_0 (iotaInDim S31 32 0))))
/-- The table from the relative biases. -/
def tabT (x : FVec Ideal S16x15x31 .f32) : FVec Ideal S16x15x64x64 .f32 :=
  select (broadcastInDim S16x15x64x64 ![0, 1, 2, 3] bcast_S1x1x64x64_S16x15x64x64_0_1_2_3 (broadcastInDim S1x1x64x64 ![2, 3] bcast_S64x64_S1x1x64x64_2_3 okT))
    (Host.dotGeneral dot_S16x15x31_S31x64x64_S16x15x64x64_2_0_01_12_n_n (some .fp32) x pickT)
    (broadcastInDim S16x15x64x64 ![] bcast_S_S16x15x64x64 (constant S_ .f32 0xFF800000#32))

/-- The launch finds the table of the relative biases. -/
theorem V_table : (V m c main_v33 : S16x15x64x64.Idx → EReal) = tabT (m ((c : Thread nD τ).loc main_arg1)) := by
  show StableHlo.after (List.flatten [hostOps0, hostOps0_1, hostOps0_2, hostOps0_3]) (fun b => m (c, b)) (Proc.devRef .tc main_v33) = _
  simp only [List.flatten_cons, List.flatten_nil, List.append_nil, List.cons_append, List.nil_append]
  after_results
  rfl

/-- The window's columns. -/
theorem ok_dec : ∀ q k : Fin 64, okT (ix2 q k) = if min (q.val - 8) 48 ≤ k.val ∧ k.val < min (q.val - 8) 48 + 16 then 1#1 else 0#1 := by
  decide +kernel

/-- The column offset inside the window. -/
theorem off_dec : ∀ q k : Fin 64, min (q.val - 8) 48 ≤ k.val ∧ k.val < min (q.val - 8) 48 + 16 → offT (ix2 q k) = BitVec.ofNat 32 (k.val + 15 - q.val) := by
  decide +kernel

/-- The pick inside the window. -/
theorem pick_apply (j : Fin 31) (q k : Fin 64) (h : min (q.val - 8) 48 ≤ k.val ∧ k.val < min (q.val - 8) 48 + 16) (hb : k.val + 15 - q.val < 31) :
    pickT (ix3 j q k) = if j = ⟨k.val + 15 - q.val, hb⟩ then (1 : EReal) else 0 := by
  pointwise [pickT]
  rw [off_dec q k h]
  have hd : ∀ a b : Fin 31, IntOp.cmpi CmpIPredicate.eq (BitVec.ofNat 32 a.val) (BitVec.ofNat 32 b.val) = if b = a then 1#1 else 0#1 := by decide +kernel
  rw [hd ⟨_, hb⟩ j]
  split_ifs
  · show ((((1#1 : BitVec 1).toNat : ℝ)) : EReal) = 1
    simp
  · show ((((0#1 : BitVec 1).toNat : ℝ)) : EReal) = 0
    simp

/-- The table at an index: inside the window the relative bias, elsewhere minus infinity. -/
theorem tab_apply (x : FVec Ideal S16x15x31 .f32) (h : Fin 16) (r : Fin 15) (q k : Fin 64) :
    tabT x (ix4 h r q k) = if min (q.val - 8) 48 ≤ k.val ∧ k.val < min (q.val - 8) 48 + 16 then x (ix3 h r (Fin.ofNat 31 (k.val + 15 - q.val))) else ⊥ := by
  pointwise [tabT]
  rw [ok_dec q k]
  rw [Trip.ofBits_ninf]
  split_ifs with hw
  · have hb : k.val + 15 - q.val < 31 := by omega
    show (∑ j : Fin 31, x (ix3 h r j) * pickT (ix3 j q k)) = _
    rw [Finset.sum_eq_single (⟨_, hb⟩ : Fin 31)]
    · rw [pick_apply _ q k hw hb, if_pos rfl, mul_one]
      congr 2
      exact Fin.ext (Nat.mod_eq_of_lt hb).symm
    · intro j _ hj
      rw [pick_apply _ q k hw hb, if_neg hj, mul_zero]
    · intro hn
      exact absurd (Finset.mem_univ _) hn
  · rfl

end Cert.Table

end
-- ==== Proof.Soft.lean ====
/- Softmax attention over a band of keys, most of them masked, against the same attention over the keys that are not. -/
module

public import Idealize.ShloMosaic.PureOps.Ideal
public import Idealize.ShloMosaic.PureOps.Ideal.Laws

@[expose] public section

noncomputable section

namespace Cert.Soft

open Idealize.ShloMosaic

/-- The exponential of a difference of two reals is the real exponential. -/
theorem exp_sub_coe (x y : ℝ) : Ideal.exp ((x : EReal) - (y : EReal)) = ((Real.exp (x - y) : ℝ) : EReal) := by
  rw [← EReal.coe_sub]; rfl

/-- A masked score has weight zero, whatever real is taken off it. -/
theorem exp_bot_sub (y : ℝ) : Ideal.exp ((⊥ : EReal) - (y : EReal)) = 0 := by
  rw [EReal.bot_sub]; rfl

/-- A sum of reals, read in the extended reals. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A factor that is a nonnegative real goes inside a sum of any extended reals. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, EReal.left_distrib_of_nonneg_of_ne_top (EReal.coe_nonneg.mpr hc) (EReal.coe_ne_top _), mul_comm (c : EReal), mul_comm (c : EReal)]

/-- A sum over a range of indices where the terms off the image of an injection vanish is the sum over its source. -/
theorem sum_band {n N : ℕ} (e : Fin n → Fin N) (he : Function.Injective e) (f : Fin N → EReal)
    (h0 : ∀ k, (∀ j, e j ≠ k) → f k = 0) : ∑ k, f k = ∑ j, f (e j) := by
  classical
  rw [← Finset.sum_image (s := Finset.univ) (g := e) (f := f) (fun a _ b _ h => he h)]
  refine (Finset.sum_subset (Finset.subset_univ _) fun k _ hk => h0 k fun j hj => hk ?_).symm
  exact Finset.mem_image.mpr ⟨j, Finset.mem_univ _, hj⟩

/-- The greatest element of a list of extended reals, as a fold from the least one, is their supremum. -/
theorem fold_max_eq_sup {n : ℕ} (f : Fin n → EReal) : Finset.univ.fold max ⊥ f = Finset.univ.sup f := rfl

/-- ATTENTION OVER A MASKED BAND. `L` are the scores of the `N` keys of a band, those off the image of `e` masked (`⊥`); `W`
    are the scores of the `n` keys that are left, `C` those of further keys that are never masked, all real; `X` is `W`
    and `C` in one row. The weighted sum of the values over the sum of the weights, taken over the band, is the sum of
    the values at the normalised weights, taken over the keys that are left. The values are any extended reals. -/
theorem attention_band {n N c T : ℕ} (hT : T = n + c) (hn : 0 < n) (e : Fin n → Fin N) (he : Function.Injective e)
    (L VL : Fin N → EReal) (W VW : Fin n → EReal) (C VC : Fin c → EReal) (X : Fin T → EReal)
    (hLe : ∀ j, L (e j) = W j) (hL : ∀ k, (∀ j, e j ≠ k) → L k = ⊥) (hV : ∀ j, VL (e j) = VW j)
    (hX1 : ∀ (j : Fin n) (h : j.val < T), X ⟨j.val, h⟩ = W j) (hX2 : ∀ (j : Fin c) (h : n + j.val < T), X ⟨n + j.val, h⟩ = C j)
    (hW : ∀ j, ∃ r : ℝ, W j = (r : EReal)) (hC : ∀ j, ∃ r : ℝ, C j = (r : EReal))
    (m m' dk dr : EReal) (hm : m = max (Finset.univ.fold max ⊥ L) (Finset.univ.fold max ⊥ C))
    (hm' : m' = max ⊥ (Finset.univ.fold max ⊥ X))
    (hdk : dk = (∑ k, Ideal.exp (L k - m)) + ∑ k, Ideal.exp (C k - m)) (hdr : dr = ∑ i, Ideal.exp (X i - m')) :
    Ideal.div ((∑ k, Ideal.exp (L k - m) * VL k) + ∑ k, Ideal.exp (C k - m) * VC k) dk
      = (∑ j, Ideal.div (Ideal.exp (W j - m')) dr * VW j) + ∑ k, VC k * Ideal.div (Ideal.exp (C k - m')) dr := by
  subst hT
  have hX1' : ∀ j, X (Fin.castAdd c j) = W j := fun j => hX1 j _
  have hX2' : ∀ j, X (Fin.natAdd n j) = C j := fun j => hX2 j (by have := j.isLt; omega)
  have hXr : ∀ i, ∃ r : ℝ, X i = (r : EReal) := by
    intro i
    refine Fin.addCases (fun j => ?_) (fun j => ?_) i
    · rw [hX1' j]; exact hW j
    · rw [hX2' j]; exact hC j
  have hmm : m = m' := by
    rw [hm, hm', show ∀ a : EReal, max ⊥ a = a from fun a => max_eq_right bot_le, fold_max_eq_sup, fold_max_eq_sup, fold_max_eq_sup]
    apply le_antisymm
    · refine max_le (Finset.sup_le fun k _ => ?_) (Finset.sup_le fun k _ => ?_)
      · by_cases hk : ∃ j, e j = k
        · obtain ⟨j, rfl⟩ := hk
          rw [hLe, ← hX1']; exact Finset.le_sup (f := X) (Finset.mem_univ _)
        · rw [hL k fun j hj => hk ⟨j, hj⟩]; exact bot_le
      · rw [← hX2']; exact Finset.le_sup (f := X) (Finset.mem_univ _)
    · refine Finset.sup_le fun i _ => ?_
      refine Fin.addCases (fun j => ?_) (fun j => ?_) i
      · rw [hX1' j, ← hLe]; exact le_max_of_le_left (Finset.le_sup (f := L) (Finset.mem_univ _))
      · rw [hX2' j]; exact le_max_of_le_right (Finset.le_sup (f := C) (Finset.mem_univ _))
  have hM : ∃ M : ℝ, m' = (M : EReal) := by
    rw [hm', show ∀ a : EReal, max ⊥ a = a from fun a => max_eq_right bot_le, fold_max_eq_sup]
    obtain ⟨i, -, hi⟩ := Finset.exists_mem_eq_sup Finset.univ ⟨(⟨0, by omega⟩ : Fin (n + c)), Finset.mem_univ _⟩ X
    rw [hi]; exact hXr i
  obtain ⟨M, hM⟩ := hM
  subst hmm
  choose w hw using hW
  choose y hy using hC
  have eW : ∀ j, Ideal.exp (W j - m) = ((Real.exp (w j - M) : ℝ) : EReal) := fun j => by rw [hw, hM, exp_sub_coe]
  have eC : ∀ j, Ideal.exp (C j - m) = ((Real.exp (y j - M) : ℝ) : EReal) := fun j => by rw [hy, hM, exp_sub_coe]
  have e0 : ∀ k, (∀ j, e j ≠ k) → Ideal.exp (L k - m) = 0 := fun k hk => by rw [hL k hk, hM, exp_bot_sub]
  have hD : dr = (((∑ j, Real.exp (w j - M)) + ∑ j, Real.exp (y j - M) : ℝ) : EReal) := by
    rw [hdr, Fin.sum_univ_add]
    simp only [hX1', hX2', eW, eC]
    rw [sum_coe, sum_coe, EReal.coe_add]
  have hDk : dk = dr := by
    rw [hdk, hD, sum_band e he _ e0]
    simp only [hLe, eW, eC]
    rw [sum_coe, sum_coe, EReal.coe_add]
  have hpos : 0 < (∑ j, Real.exp (w j - M)) + ∑ j, Real.exp (y j - M) := by
    have h1 : 0 < ∑ j, Real.exp (w j - M) := Finset.sum_pos (fun j _ => Real.exp_pos _) ⟨⟨0, hn⟩, Finset.mem_univ _⟩
    have h2 : 0 ≤ ∑ j, Real.exp (y j - M) := Finset.sum_nonneg fun j _ => (Real.exp_pos _).le
    linarith
  rw [hDk, hD]
  simp only [Ideal.div_coe hpos.ne']
  have hc : (0 : ℝ) ≤ 1 / ((∑ j, Real.exp (w j - M)) + ∑ j, Real.exp (y j - M)) := (one_div_pos.mpr hpos).le
  generalize 1 / ((∑ j, Real.exp (w j - M)) + ∑ j, Real.exp (y j - M)) = κ at hc ⊢
  have hadd : ∀ a b : EReal, (a + b) * (κ : EReal) = a * (κ : EReal) + b * (κ : EReal) := fun a b => by
    rw [mul_comm, EReal.left_distrib_of_nonneg_of_ne_top (EReal.coe_nonneg.mpr hc) (EReal.coe_ne_top _), mul_comm (κ : EReal), mul_comm (κ : EReal)]
  rw [hadd, sum_mul_coe _ _ _ hc, sum_mul_coe _ _ _ hc,
    sum_band e he (fun k => Ideal.exp (L k - m) * VL k * (κ : EReal)) (fun k hk => by rw [e0 k hk, zero_mul, zero_mul])]
  congr 1
  · refine Finset.sum_congr rfl fun j _ => ?_
    rw [hLe, hV, mul_right_comm]
  · refine Finset.sum_congr rfl fun j _ => ?_
    rw [mul_right_comm, mul_comm]

/-- Attention with no mask: the weighted sum of the values over the sum of the weights is the sum of the values at the
    normalised weights. -/
theorem attention_plain {n : ℕ} (hn : 0 < n) (X V : Fin n → EReal) (hX : ∀ j, ∃ r : ℝ, X j = (r : EReal)) (m m' : EReal)
    (hm : m = Finset.univ.fold max ⊥ X) (hm' : m' = max ⊥ (Finset.univ.fold max ⊥ X)) :
    Ideal.div (∑ k, Ideal.exp (X k - m) * V k) (∑ k, Ideal.exp (X k - m))
      = ∑ k, V k * Ideal.div (Ideal.exp (X k - m')) (∑ i, Ideal.exp (X i - m')) := by
  have key := attention_band (n := n) (N := n) (c := 0) (T := n) rfl hn id Function.injective_id X V X V (fun k => k.elim0) (fun k => k.elim0) X
    (fun _ => rfl) (fun k hk => absurd rfl (hk k)) (fun _ => rfl) (fun _ _ => rfl) (fun j _ => j.elim0) hX (fun j => j.elim0) m m' _ _
    (by rw [hm, fold_max_eq_sup, fold_max_eq_sup]; simp) hm' rfl rfl
  simp only [Finset.univ_eq_empty, Finset.sum_empty, add_zero] at key
  rw [key]
  exact Finset.sum_congr rfl fun k _ => mul_comm _ _

end Cert.Soft

end
-- ==== Proof.Final.lean ====
/- The kernel's result and the reference's are one array. -/
module

public import proofs.«01_k».proof.Proof.Ref
public import proofs.«01_k».proof.Proof.Out
public import proofs.«01_k».proof.Proof.Table
public import proofs.«01_k».proof.Proof.Soft
public import proofs.«01_k».proof.Proof.Gen.Pre_finite_scores

@[expose] public section

set_option maxRecDepth 16384

noncomputable section

namespace Cert.Final

open Cert.Ref Cert.Trip Cert.Bias Idealize.ShloMosaic Idealize.ShloMosaic.TcCoe Idealize.SL.Sem
open Idealize.ShloMosaic.Pointwise
open Cert.ReferenceIdeal (S8704x18432 S16x15x31 S8192x2048)
open Cert.KernelIdeal (S4096x128 S256x128 S3x256x768 S1x15x64x64)
open Cert.RefInt (keyN)

/-! ## The window inside the band -/

/-- The first row of a query's window, from the first row of its group's band. -/
theorem lo_eq (n : Fin 4096) : lo (pat (n.val / 256)).val (n.val % 256 / 64) + min (4 * (n.val / 256) - 4) 52 = min (n.val / 64 - 4) 56 := by
  unfold lo pat
  have hn := n.isLt
  by_cases h0 : n.val / 256 = 0
  · simp only [h0, if_true]; simp; omega
  · by_cases h1 : n.val / 256 = 15
    · simp only [h1]; simp; omega
    · simp only [h0, h1, if_false]; simp; omega

/-- The pattern's number, four times it, as the bias row needs it. -/
theorem pat_eq (n : Fin 4096) : 4 * (pat (n.val / 256)).val + n.val % 256 / 64 + min (4 * (n.val / 256) - 4) 52 = n.val / 64 := by
  unfold pat
  have hn := n.isLt
  by_cases h0 : n.val / 256 = 0
  · simp only [h0, if_true]; simp; omega
  · by_cases h1 : n.val / 256 = 15
    · simp only [h1]; simp; omega
    · simp only [h0, h1, if_false]; simp; omega

/-- The place of a window's key in the band. -/
def emb (n : Fin 4096) (j : Fin 128) : Fin 768 :=
  ⟨(min (n.val / 64 - 4) 56 - min (4 * (n.val / 256) - 4) 52 + j.val / 16) * 64 + (min (n.val % 64 - 8) 48 + j.val % 16), by
    have := lo_eq n
    have hlo : lo (pat (n.val / 256)).val (n.val % 256 / 64) ≤ 4 := by unfold lo; split_ifs <;> omega
    omega⟩

theorem emb_inj (n : Fin 4096) : Function.Injective (emb n) := by
  intro a b h
  have h' : (emb n a).val = (emb n b).val := congrArg Fin.val h
  unfold emb at h'
  simp only at h'
  refine Fin.ext ?_
  omega

/-- The band's row at the place of a window's key is the key's token. -/
theorem keyRow_emb (n : Fin 4096) (j : Fin 128) : keyRow n (emb n j) = keyN n j := by
  refine Fin.ext ?_
  have := lo_eq n
  show band (n.val / 256) + (emb n j).val = (keyN n j).val
  unfold band emb keyN
  simp only
  omega

section
variable (rpb : S16x15x31.Idx → EReal) (h : Fin 16) (y : Vec Ideal S1x15x64x64 .f32)
variable (hy : ∀ (r : Fin 15) (q k : Fin 64), y (ix4 0 r q k) = if min (q.val - 8) 48 ≤ k.val ∧ k.val < min (q.val - 8) 48 + 16 then rpb (ix3 h r (Fin.ofNat 31 (k.val + 15 - q.val))) else (⊥ : EReal))
include hy

/-- The bias at the place of a window's key is the relative bias. -/
theorem bias_emb (n : Fin 4096) (j : Fin 128) :
    biasV y (ix3 (pat (n.val / 256)) (Fin.ofNat 256 n.val) (emb n j)) = rpb (ix3 h (rIx n j) (cIx n j)) := by
  have hlo := lo_eq n
  have hpt := pat_eq n
  have hn := n.isLt
  have hj := j.isLt
  have hl4 : lo (pat (n.val / 256)).val (n.val % 256 / 64) ≤ 4 := by unfold lo; split_ifs <;> omega
  show bias y (pat (n.val / 256)) (Fin.ofNat 256 n.val) (emb n j) = _
  have hq : (Fin.ofNat 256 n.val).val = n.val % 256 := rfl
  have he : (emb n j).val = (min (n.val / 64 - 4) 56 - min (4 * (n.val / 256) - 4) 52 + j.val / 16) * 64 + (min (n.val % 64 - 8) 48 + j.val % 16) := rfl
  unfold bias
  rw [hq, if_pos (by omega), hy]
  have e1 : (Fin.ofNat 64 (n.val % 256)).val = n.val % 64 := by show n.val % 256 % 64 = _; omega
  have e2 : (Fin.ofNat 64 (emb n j).val).val = min (n.val % 64 - 8) 48 + j.val % 16 := by show (emb n j).val % 64 = _; omega
  rw [e1, e2, if_pos (by omega)]
  congr 2
  · refine Fin.ext ?_
    show ((emb n j).val / 64 + 7 - 4 * (pat (n.val / 256)).val - n.val % 256 / 64) % 15 = min (n.val / 64 - 4) 56 + j.val / 16 + 7 - n.val / 64
    omega
  · refine Fin.ext ?_
    show (min (n.val % 64 - 8) 48 + j.val % 16 + 15 - n.val % 64) % 31 = min (n.val % 64 - 8) 48 + j.val % 16 + 15 - n.val % 64
    omega

/-- The bias outside the window is minus infinity. -/
theorem bias_out (n : Fin 4096) (k : Fin 768) (hk : ∀ j, emb n j ≠ k) :
    biasV y (ix3 (pat (n.val / 256)) (Fin.ofNat 256 n.val) k) = (⊥ : EReal) := by
  have hlo := lo_eq n
  have hn := n.isLt
  have hk' := k.isLt
  show bias y (pat (n.val / 256)) (Fin.ofNat 256 n.val) k = _
  have hq : (Fin.ofNat 256 n.val).val = n.val % 256 := rfl
  unfold bias
  rw [hq]
  by_cases h1 : lo (pat (n.val / 256)).val (n.val % 256 / 64) ≤ k.val / 64 ∧ k.val / 64 < lo (pat (n.val / 256)).val (n.val % 256 / 64) + 8
  · rw [if_pos h1, hy]
    have e1 : (Fin.ofNat 64 (n.val % 256)).val = n.val % 64 := by show n.val % 256 % 64 = _; omega
    have e2 : (Fin.ofNat 64 k.val).val = k.val % 64 := rfl
    rw [e1, e2]
    refine if_neg fun h2 => ?_
    refine hk ⟨(k.val / 64 - lo (pat (n.val / 256)).val (n.val % 256 / 64)) * 16 + (k.val % 64 - min (n.val % 64 - 8) 48), by omega⟩ (Fin.ext ?_)
    unfold emb
    simp only
    omega
  · exact if_neg h1

end

/-! ## The two attentions -/

/-- A finite sum of products of reals is a real. -/
theorem sum_mul_real {ι : Type*} (s : Finset ι) (f g : ι → EReal) (hf : ∀ i, ∃ r : ℝ, f i = r) (hg : ∀ i, ∃ r : ℝ, g i = r) :
    ∃ r : ℝ, (∑ i ∈ s, f i * g i) = r := by
  choose a ha using hf
  choose b hb using hg
  refine ⟨∑ i ∈ s, a i * b i, ?_⟩
  rw [← Cert.Soft.sum_coe]
  exact Finset.sum_congr rfl fun i _ => by rw [ha, hb, EReal.coe_mul]

/-- The kernel's attention of a query is the reference's. -/
theorem att_eq (x : S8704x18432.Idx → EReal) (rpb : S16x15x31.Idx → EReal) (X0 X1 X2 : Vec Ideal S4096x128 .bf16) (X3 X4 : Vec Ideal S256x128 .bf16)
    (y : Vec Ideal S1x15x64x64 .f32) (b : Fin 2) (h : Fin 16) (n : Fin 4096) (d : Fin 128)
    (h0 : ∀ r l, X0 (ix2 r l) = tok x 0 b r h l) (h1 : ∀ r l, X1 (ix2 r l) = tok x 1 b r h l) (h2 : ∀ r l, X2 (ix2 r l) = tok x 2 b r h l)
    (h3 : ∀ r l, X3 (ix2 r l) = ctx x 1 b r h l) (h4 : ∀ r l, X4 (ix2 r l) = ctx x 2 b r h l)
    (hy : ∀ (r : Fin 15) (q k : Fin 64), y (ix4 0 r q k) = if min (q.val - 8) 48 ≤ k.val ∧ k.val < min (q.val - 8) 48 + 16 then rpb (ix3 h r (Fin.ofNat 31 (k.val + 15 - q.val))) else (⊥ : EReal))
    (hx : ∀ (a : Fin 8704) (l : Fin 18432), l.val < 4096 → ∃ r : ℝ, x (ix2 a l) = r) (hr : ∀ i, ∃ r : ℝ, rpb i = r) :
    att X0 X1 X2 X3 X4 (biasV y) n d
      = (∑ j : Fin 128, Ideal.div (rE x rpb b n h ⟨j.val, by omega⟩) (rD x rpb b n h) * tok x 2 b (keyN n j) h d)
        + ∑ c : Fin 256, ctx x 2 b c h d * Ideal.div (rE x rpb b n h ⟨128 + c.val, by omega⟩) (rD x rpb b n h) := by
  have ht : ∀ (p : Fin 3) (n : Fin 4096) (l : Fin 128), p.val < 2 → ∃ r : ℝ, tok x p b n h l = r := fun p n l hp => hx _ _ (by show 2048 * p.val + 128 * h.val + l.val < 4096; omega)
  have hc : ∀ (p : Fin 3) (n : Fin 256) (l : Fin 128), p.val < 2 → ∃ r : ℝ, ctx x p b n h l = r := fun p n l hp => hx _ _ (by show 2048 * p.val + 128 * h.val + l.val < 4096; omega)
  have hC : sC X0 X3 n = rC x b n h := by
    funext k; unfold sC rC
    exact Finset.sum_congr rfl fun l _ => by rw [h0, h3]
  have hX1 : ∀ (j : Fin 128) (hj : j.val < 384), rX x rpb b n h ⟨j.val, hj⟩ = rW x rpb b n h j := fun j hj => dif_pos j.isLt
  have hX2 : ∀ (j : Fin 256) (hj : 128 + j.val < 384), rX x rpb b n h ⟨128 + j.val, hj⟩ = rC x b n h j := fun j hj => by
    unfold rX
    rw [dif_neg (by show ¬ 128 + j.val < 128; omega)]
    congr 1
    exact Fin.ext (by show 128 + j.val - 128 = j.val; omega)
  have key := Cert.Soft.attention_band (n := 128) (N := 768) (c := 256) (T := 384) rfl (by decide) (emb n) (emb_inj n)
    (sL X0 X1 (biasV y) n) (fun k => X2 (ix2 (keyRow n k) d)) (rW x rpb b n h) (fun j => tok x 2 b (keyN n j) h d) (rC x b n h) (fun k => ctx x 2 b k h d) (rX x rpb b n h)
    (fun j => by
      unfold sL rW
      rw [keyRow_emb, bias_emb rpb h y hy]
      exact congrArg (· + _) (Finset.sum_congr rfl fun l _ => by rw [h0, h1]))
    (fun k hk => by
      unfold sL
      rw [bias_out rpb h y hy n k hk, EReal.add_bot])
    (fun j => by simp only [keyRow_emb, h2]) hX1 hX2
    (fun j => by
      obtain ⟨r1, e1⟩ := sum_mul_real Finset.univ (fun l => tok x 0 b n h l) (fun l => tok x 1 b (keyN n j) h l) (fun l => ht 0 n l (by decide)) (fun l => ht 1 _ l (by decide))
      obtain ⟨r2, e2⟩ := hr (ix3 h (rIx n j) (cIx n j))
      exact ⟨r1 + r2, by unfold rW; rw [e1, e2, EReal.coe_add]⟩)
    (fun j => sum_mul_real Finset.univ (fun l => tok x 0 b n h l) (fun l => ctx x 1 b j h l) (fun l => ht 0 n l (by decide)) (fun l => hc 1 _ l (by decide)))
    (sM X0 X1 X3 (biasV y) n) (rM x rpb b n h) _ (rD x rpb b n h) (by unfold sM; rw [hC]) rfl rfl rfl
  have e1 : ∀ (j : Fin 128) (hj : j.val < 384), rE x rpb b n h ⟨j.val, hj⟩ = Ideal.exp (rW x rpb b n h j - rM x rpb b n h) := fun j hj => by unfold rE; rw [hX1]
  have e2 : ∀ (j : Fin 256) (hj : 128 + j.val < 384), rE x rpb b n h ⟨128 + j.val, hj⟩ = Ideal.exp (rC x b n h j - rM x rpb b n h) := fun j hj => by unfold rE; rw [hX2]
  simp only [e1, e2]
  rw [← key]
  unfold att
  rw [hC]
  simp only [h4]

/-! ## The precondition -/

/-- A value whose magnitude is below plus infinity is a real. -/
theorem real_of_abs (x : EReal) (h : FloatOps.cmpf (F := Ideal) (φ := .f32) .olt (FloatOps.absf (F := Ideal) (φ := .f32) x) (FloatOps.ofBits .f32 0x7F800000#32) = 1#1) : ∃ r : ℝ, x = r := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x with
  | bot => simp [Ideal.cmp] at h'
  | top => simp [Ideal.cmp] at h'
  | coe r => exact ⟨r, rfl⟩

/-- Under the precondition every query and key is a real. -/
theorem pre_x (x : S8704x18432.Idx → EReal) (rpb : S16x15x31.Idx → EReal) (hp : (Cert.Pre_finite_scores.fn (F := Ideal) x rpb).1 = fun _ => 1#1)
    (a : Fin 8704) (l : Fin 18432) (hl : l.val < 4096) : ∃ r : ℝ, x (ix2 a l) = r := by
  have h := congrFun hp (ix2 a ⟨l.val, hl⟩)
  refine real_of_abs _ (Eq.trans ?_ h)
  unfold Cert.Pre_finite_scores.fn
  pointwise []

/-- Under the precondition every relative bias is a real. -/
theorem pre_r (x : S8704x18432.Idx → EReal) (rpb : S16x15x31.Idx → EReal) (hp : (Cert.Pre_finite_scores.fn (F := Ideal) x rpb).2 = fun _ => 1#1)
    (i : S16x15x31.Idx) : ∃ r : ℝ, rpb i = r := by
  have h := congrFun hp i
  refine real_of_abs _ (Eq.trans ?_ h)
  unfold Cert.Pre_finite_scores.fn
  pointwise []

/-! ## The result arrays -/

/-- The kernel's result array is the reference's. -/
theorem result_eq (m : (ℓ : Loc Cert.KernelIdeal.nD Cert.KernelIdeal.τ Cert.KernelIdeal.sig) → Buf (Elt Ideal) ℓ) (c : Dev Cert.KernelIdeal.nD)
    (x : S8704x18432.Idx → EReal) (rpb : S16x15x31.Idx → EReal)
    (ex : x = m ((c.tc : Thread Cert.KernelIdeal.nD Cert.KernelIdeal.τ).loc Cert.KernelIdeal.main_arg0))
    (er : rpb = m ((c.tc : Thread Cert.KernelIdeal.nD Cert.KernelIdeal.τ).loc Cert.KernelIdeal.main_arg1))
    (hx : ∀ (a : Fin 8704) (l : Fin 18432), l.val < 4096 → ∃ r : ℝ, x (ix2 a l) = r) (hr : ∀ i, ∃ r : ℝ, rpb i = r) :
    (Cert.KernelIdeal.Value.G6 m c : S8192x2048.Idx → EReal) = Cert.ReferenceIdeal.Read.val_main_v103 (F := Ideal) x rpb := by
  funext i
  have hi0 : (i 0).val < 8192 := (i 0).isLt
  have hi1 : (i 1).val < 2048 := (i 1).isLt
  have hN : Cert.KernelIdeal.cfg0.N = 32 := Cert.KernelIdeal.Gen.N_0
  have ht : (i 0).val / 4096 + 2 * ((i 1).val / 128) < Cert.KernelIdeal.cfg0.N := by omega
  rw [Cert.Out.G6_apply m c i ⟨_, ht⟩ rfl]
  rw [v103_ix x rpb i ⟨(i 0).val / 4096, by omega⟩ ⟨(i 0).val % 4096, by omega⟩ ⟨(i 1).val / 128, by omega⟩ ⟨(i 1).val % 128, by omega⟩
    (by show (i 0).val = 4096 * ((i 0).val / 4096) + (i 0).val % 4096; omega) (by show (i 1).val = 128 * ((i 1).val / 128) + (i 1).val % 128; omega)]
  have hb : ((i 0).val / 4096 + 2 * ((i 1).val / 128)) % 2 = (i 0).val / 4096 := by omega
  have hh : ((i 0).val / 4096 + 2 * ((i 1).val / 128)) / 2 = (i 1).val / 128 := by omega
  have ex' : Cert.Out.A0 m c = x := ex.symm
  refine att_eq x rpb _ _ _ _ _ _ _ _ _ _ (fun r l => ?_) (fun r l => ?_) (fun r l => ?_) (fun r l => ?_) (fun r l => ?_) (fun r q k => ?_) hx hr
  · rw [Cert.Out.x0_apply, ex']
    refine congrArg x (funext fun a => Fin.ext ?_)
    fin_cases a
    · show 4096 * (((i 0).val / 4096 + 2 * ((i 1).val / 128)) % 2) + r.val = 4096 * ((i 0).val / 4096) + r.val; omega
    · show 128 * (((i 0).val / 4096 + 2 * ((i 1).val / 128)) / 2) + l.val = 2048 * 0 + 128 * ((i 1).val / 128) + l.val; omega
  · rw [Cert.Out.x1_apply, ex']
    refine congrArg x (funext fun a => Fin.ext ?_)
    fin_cases a
    · show 4096 * (((i 0).val / 4096 + 2 * ((i 1).val / 128)) % 2) + r.val = 4096 * ((i 0).val / 4096) + r.val; omega
    · show 2048 + 128 * (((i 0).val / 4096 + 2 * ((i 1).val / 128)) / 2) + l.val = 2048 * 1 + 128 * ((i 1).val / 128) + l.val; omega
  · rw [Cert.Out.x2_apply, ex']
    refine congrArg x (funext fun a => Fin.ext ?_)
    fin_cases a
    · show 4096 * (((i 0).val / 4096 + 2 * ((i 1).val / 128)) % 2) + r.val = 4096 * ((i 0).val / 4096) + r.val; omega
    · show 4096 + 128 * (((i 0).val / 4096 + 2 * ((i 1).val / 128)) / 2) + l.val = 2048 * 2 + 128 * ((i 1).val / 128) + l.val; omega
  · rw [Cert.Out.x3_apply, ex']
    refine congrArg x (funext fun a => Fin.ext ?_)
    fin_cases a
    · show 8192 + 256 * (((i 0).val / 4096 + 2 * ((i 1).val / 128)) % 2) + r.val = 8192 + 256 * ((i 0).val / 4096) + r.val; omega
    · show 2048 + 128 * (((i 0).val / 4096 + 2 * ((i 1).val / 128)) / 2) + l.val = 2048 * 1 + 128 * ((i 1).val / 128) + l.val; omega
  · rw [Cert.Out.x4_apply, ex']
    refine congrArg x (funext fun a => Fin.ext ?_)
    fin_cases a
    · show 8192 + 256 * (((i 0).val / 4096 + 2 * ((i 1).val / 128)) % 2) + r.val = 8192 + 256 * ((i 0).val / 4096) + r.val; omega
    · show 4096 + 128 * (((i 0).val / 4096 + 2 * ((i 1).val / 128)) / 2) + l.val = 2048 * 2 + 128 * ((i 1).val / 128) + l.val; omega
  · have eT : Cert.Out.T0 m c = Cert.Table.tabT rpb := by rw [er]; exact Cert.Table.V_table m c
    show Cert.Out.T0 m c (ix4 ⟨((i 0).val / 4096 + 2 * ((i 1).val / 128)) / 2, _⟩ r q k) = _
    rw [eT, Cert.Table.tab_apply]
    have eh : (⟨((i 0).val / 4096 + 2 * ((i 1).val / 128)) / 2, by omega⟩ : Fin 16) = ⟨(i 1).val / 128, by omega⟩ := Fin.ext hh
    rw [eh]

end Cert.Final
-- ==== Proof.Blk.lean ====
/- A block loaded from its first index on is the block, and what a store of a whole block leaves. -/
module

public import Idealize.ShloMosaic.Lib.Writes
public import Idealize.ShloMosaic.Lib.Pipeline.FrameBody
public import Idealize.ShloMosaic.Lib.Pointwise

@[expose] public section

noncomputable section

namespace Cert.Blk

open Idealize.ShloMosaic Idealize.ShloMosaic.TcCoe Idealize.SL.Sem
open Idealize.ShloMosaic.Pointwise

variable {sig : RefSig} {s : Shape} {e : EltTy}

/-- A load of a whole array that reads as `x` is `x`. -/
theorem load_whole_of (v : View sig .tc .vmem s e) (f : v.ty.Contents (Elt Ideal)) (x : s.Idx → Elt Ideal e) (hx : v.read (Elt Ideal) f = x)
    (off : Fin s.rank → ℕ) (hoff : ∀ a, off a = 0) (inb : ∀ a, off a + s.size a ≤ s.size a) :
    View.readAt (Elt Ideal) v (Rect.unit (s := s) off s.size inb).toLoadRect f = x := by
  rw [View.readAt_rect]
  funext y
  show v.read (Elt Ideal) f _ = _
  rw [hx]
  congr 1
  funext b; apply Fin.ext
  show off b + 1 * (y b).val = (y b).val
  rw [hoff]; omega

/-- A store of a whole array, at an index. -/
theorem emb_whole (off : Fin s.rank → ℕ) (hoff : ∀ a, off a = 0) (inb : ∀ a, off a + s.size a ≤ s.size a) (y : s.Idx) :
    (Rect.unit (s := s) off s.size inb).emb y = y := by
  funext b; apply Fin.ext
  show off b + 1 * (y b).val = (y b).val
  rw [hoff]; omega

/-- A whole load of an array that stores cover, each of which holds its part of `g`, is `g`. -/
theorem readCov_whole (v : View sig .tc .vmem s e) (L : List (View.Piece (Elt Ideal) s e)) (g : s.Idx → Elt Ideal e)
    (hL : ∀ p ∈ L, ∀ x : p.1.shape.Idx, p.2 x = g (p.1.emb x)) (hc : ∀ y, ∃ pc ∈ L, y ∈ pc.1.set)
    (off : Fin s.rank → ℕ) (hoff : ∀ a, off a = 0) (inb : ∀ a, off a + s.size a ≤ s.size a) :
    v.readCov L (Rect.unit (s := s) off s.size inb).toLoadRect = g := by
  rw [← View.readAt_writes_of_cover v v.junk L _ (fun j => hc _)]
  exact load_whole_of v _ g (funext fun y => View.read_writes_apply_of_pieces v _ g L hL y (hc y)) off hoff inb

/-- Rows from row `o` on of a block with a leading unit axis. -/
theorem load_rows {K n N : ℕ} (v : View sig .tc .vmem ⟨3, ![1, K, N]⟩ e) (f : v.ty.Contents (Elt Ideal)) (x : (⟨3, ![1, K, N]⟩ : Shape).Idx → Elt Ideal e)
    (hx : v.read (Elt Ideal) f = x) (off : Fin 3 → ℕ) (o : ℕ) (hoff : off = ![0, o, 0])
    (inb : ∀ a, off a + (⟨3, ![1, n, N]⟩ : Shape).size a ≤ (⟨3, ![1, K, N]⟩ : Shape).size a) (r : Fin n) (l : Fin N) (h : o + r.val < K) :
    View.readAt (Elt Ideal) v (Rect.unit (s := ⟨3, ![1, K, N]⟩) off (⟨3, ![1, n, N]⟩ : Shape).size inb).toLoadRect f (ix3 0 r l) = x (ix3 0 ⟨o + r.val, h⟩ l) := by
  subst hoff
  rw [View.readAt_rect]
  show v.read (Elt Ideal) f _ = _
  rw [hx]
  congr 1
  funext b; apply Fin.ext
  fin_cases b
  · rfl
  · show o + 1 * r.val = o + r.val; omega
  · show 0 + 1 * l.val = l.val; omega

/-- Where rows stored from row `o` on lie. -/
theorem emb_rows {K n N : ℕ} (off : Fin 2 → ℕ) (o : ℕ) (hoff : off = ![o, 0])
    (inb : ∀ a, off a + (⟨2, ![n, N]⟩ : Shape).size a ≤ (⟨2, ![K, N]⟩ : Shape).size a) (r : Fin n) (l : Fin N) (h : o + r.val < K) :
    (Rect.unit (s := ⟨2, ![K, N]⟩) off (⟨2, ![n, N]⟩ : Shape).size inb).emb (ix2 r l) = ix2 ⟨o + r.val, h⟩ l := by
  subst hoff
  funext b; apply Fin.ext
  fin_cases b
  · show o + 1 * r.val = o + r.val; omega
  · show 0 + 1 * l.val = l.val; omega

/-- A load of a whole block, named by what the block holds, is the block. -/
theorem ld_whole (x : s.Idx → Elt Ideal e) (off : Fin s.rank → ℕ) (hoff : ∀ a, off a = 0) (inb : ∀ a, off a + s.size a ≤ s.size a) :
    View.ld x (Rect.unit (s := s) off s.size inb) = x :=
  funext fun y => congrArg x (emb_whole off hoff inb y)

/-- Where stores that each hold their part of `g` have been, `g` is what they leave. -/
theorem canon_of_pieces [∀ e, Nonempty (Elt Ideal e)] (g : s.Idx → Elt Ideal e) (y : s.Idx) : ∀ L : List (View.Piece (Elt Ideal) s e),
    (∀ p ∈ L, ∀ x : p.1.shape.Idx, p.2 x = g (p.1.emb x)) → (∃ p ∈ L, y ∈ p.1.set) → View.canon L y = g y
  | [], _, h => by obtain ⟨_, hm, _⟩ := h; exact absurd hm List.not_mem_nil
  | p :: L, hL, h => by
    by_cases hy : y ∈ p.1.set
    · obtain ⟨x, rfl⟩ : ∃ x, p.1.emb x = y := p.1.exists_idx_of_mem hy
      exact (View.canon_cons_emb p.1 p.2 L x).trans (hL p List.mem_cons_self x)
    · rw [View.canon_cons_of_not_mem p L hy]
      refine canon_of_pieces g y L (fun q hq => hL q (List.mem_cons_of_mem _ hq)) ?_
      obtain ⟨q, hq, hm⟩ := h
      rcases List.mem_cons.mp hq with rfl | hq
      · exact absurd hm hy
      · exact ⟨q, hq, hm⟩

end Cert.Blk

end
-- ==== Proof.Ctx.lean ====
/- What the context attention's run leaves: the attention of the context's rows among themselves, head by head. -/
module

public import proofs.«01_k».proof.Proof.Gen.Kernel6Ideal.Value
public import proofs.«01_k».proof.Proof.Blk
public import Idealize.ShloMosaic.Lib.Pointwise

@[expose] public section

set_option maxRecDepth 16384

noncomputable section

namespace Cert.Ctx

open Cert.Kernel6Ideal Cert.Kernel6Ideal.Gen Cert.Kernel6Ideal.Value Idealize.ShloMosaic Idealize.ShloMosaic.TcCoe Idealize.SL.Sem
open Idealize.ShloMosaic.Pointwise

section
variable (q k v : Fin 256 → Fin 128 → EReal)

/-- The scores of a query. -/
def cS (r j : Fin 256) : EReal := ∑ l : Fin 128, q r l * k j l
/-- Their maximum. -/
def cM (r : Fin 256) : EReal := Finset.univ.fold max ⊥ (cS q k r)
/-- The attention of a query. -/
def cA (r : Fin 256) (d : Fin 128) : EReal :=
  Ideal.div (∑ j : Fin 256, Ideal.exp (cS q k r j - cM q k r) * v j d) (∑ j : Fin 256, Ideal.exp (cS q k r j - cM q k r))

end

/-- The first value of a maximum. -/
theorem ninf : Ideal.ofBits FTy.f32 0xFF800000#32 = ⊥ := by simp [Ideal.ofBits, Ideal.ieee]

/-- A point's block at an index. -/
theorem pay1_apply (q k v : Vec Ideal S256x128 .bf16) (r : Fin 256) (d : Fin 128) :
    k0_pay1 (F := Ideal) q k v (ix2 r d) = cA (fun a b => q (ix2 a b)) (fun a b => k (ix2 a b)) (fun a b => v (ix2 a b)) r d := by
  unfold cA cM cS
  pointwise [k0_pay1]
  rw [ninf]

/-- What a point leaves. -/
theorem out_eq (q k v : Vec Ideal S256x128 .bf16) : out0_3 (F := Ideal) q k v = k0_pay1 (F := Ideal) q k v := by
  unfold out0_3
  rw [Blk.ld_whole q _ (by decide), Blk.ld_whole k _ (by decide), Blk.ld_whole v _ (by decide)]
  funext y
  have h := View.canon_cons_emb (Val := Elt Ideal) (e := .bf16) r0_0 (k0_pay1 (F := Ideal) q k v) [] y
  rwa [Blk.emb_whole _ (by decide)] at h

/-- Point `t` is head `t % 16` of batch `t / 16`. -/
theorem index_facts : ∀ t : Fin grid0.N,
    (win0_0.index t (0 : Fin 2) = 32 + t.val / 16 ∧ win0_0.index t (1 : Fin 2) = t.val % 16)
    ∧ (win0_1.index t (0 : Fin 2) = 32 + t.val / 16 ∧ win0_1.index t (1 : Fin 2) = 16 + t.val % 16)
    ∧ (win0_2.index t (0 : Fin 2) = 32 + t.val / 16 ∧ win0_2.index t (1 : Fin 2) = 32 + t.val % 16)
    ∧ (win0_3.index t (0 : Fin 2) = t.val / 16 ∧ win0_3.index t (1 : Fin 2) = t.val % 16)
    ∧ (cfg0.win 3).flush t = true := by
  decide +kernel

section
variable (m : (ℓ : Loc nD τ sig) → Buf (Elt Ideal) ℓ) (c : Dev nD)

theorem lt32 (t : Fin cfg0.N) : t.val < 32 := lt_of_lt_of_eq t.isLt N_0

/-- The projection's rows. -/
def A0 : S8704x18432.Idx → EReal := m ((c : Thread nD τ).loc main_arg0)

end

/-- Part `p` (queries, keys, values) of the context's rows of batch `b`, head `h`. -/
def part (x : S8704x18432.Idx → EReal) (p : Fin 3) (b : Fin 2) (h : Fin 16) (r : Fin 256) (l : Fin 128) : EReal :=
  x (ix2 ⟨8192 + 256 * b.val + r.val, by omega⟩ ⟨2048 * p.val + 128 * h.val + l.val, by omega⟩)

section
variable (m : (ℓ : Loc nD τ sig) → Buf (Elt Ideal) ℓ) (c : Dev nD)

/-- The batch of a point. -/
def bt (t : Fin cfg0.N) : Fin 2 := ⟨t.val / 16, by have := lt32 t; omega⟩
/-- The head of a point. -/
def hd (t : Fin cfg0.N) : Fin 16 := ⟨t.val % 16, by omega⟩

theorem x0_apply (t : Fin cfg0.N) (r : Fin 256) (l : Fin 128) :
    (iblk m c 0 t : Vec Ideal S256x128 .bf16) (ix2 r l) = part (A0 m c) 0 (bt t) (hd t) r l := by
  unfold iblk part
  show V m c main_arg0 (((cfg0.win 0).blk t).view.emb _) = _
  rw [V_main_arg0]
  unfold A0
  congr 1
  have h := (index_facts t).1
  funext b; apply Fin.ext
  fin_cases b
  · show win0_0.index t (0 : Fin 2) * 256 + 1 * r.val = 8192 + 256 * (t.val / 16) + r.val; rw [h.1]; omega
  · show win0_0.index t (1 : Fin 2) * 128 + 1 * l.val = 2048 * 0 + 128 * (t.val % 16) + l.val; rw [h.2]; omega

theorem x1_apply (t : Fin cfg0.N) (r : Fin 256) (l : Fin 128) :
    (iblk m c 1 t : Vec Ideal S256x128 .bf16) (ix2 r l) = part (A0 m c) 1 (bt t) (hd t) r l := by
  unfold iblk part
  show V m c main_arg0 (((cfg0.win 1).blk t).view.emb _) = _
  rw [V_main_arg0]
  unfold A0
  congr 1
  have h := (index_facts t).2.1
  funext b; apply Fin.ext
  fin_cases b
  · show win0_1.index t (0 : Fin 2) * 256 + 1 * r.val = 8192 + 256 * (t.val / 16) + r.val; rw [h.1]; omega
  · show win0_1.index t (1 : Fin 2) * 128 + 1 * l.val = 2048 * 1 + 128 * (t.val % 16) + l.val; rw [h.2]; omega

theorem x2_apply (t : Fin cfg0.N) (r : Fin 256) (l : Fin 128) :
    (iblk m c 2 t : Vec Ideal S256x128 .bf16) (ix2 r l) = part (A0 m c) 2 (bt t) (hd t) r l := by
  unfold iblk part
  show V m c main_arg0 (((cfg0.win 2).blk t).view.emb _) = _
  rw [V_main_arg0]
  unfold A0
  congr 1
  have h := (index_facts t).2.2.1
  funext b; apply Fin.ext
  fin_cases b
  · show win0_2.index t (0 : Fin 2) * 256 + 1 * r.val = 8192 + 256 * (t.val / 16) + r.val; rw [h.1]; omega
  · show win0_2.index t (1 : Fin 2) * 128 + 1 * l.val = 2048 * 2 + 128 * (t.val % 16) + l.val; rw [h.2]; omega

/-- The attention of the context's rows. -/
def G : S512x2048.Idx → EReal := fun i =>
  cA (part (A0 m c) 0 (Fin.ofNat 2 ((i 0).val / 256)) (Fin.ofNat 16 ((i 1).val / 128))) (part (A0 m c) 1 (Fin.ofNat 2 ((i 0).val / 256)) (Fin.ofNat 16 ((i 1).val / 128)))
    (part (A0 m c) 2 (Fin.ofNat 2 ((i 0).val / 256)) (Fin.ofNat 16 ((i 1).val / 128))) (Fin.ofNat 256 (i 0).val) (Fin.ofNat 128 (i 1).val)

/-- What a point writes back is its block of the attention. -/
theorem flushed_eq (t : Fin cfg0.N) : (dats m 0 c).flushed 3 t = ((cfg0.win 3).blk t).view.read (Elt Ideal) (G m c) := by
  rw [flushed3, out_eq]
  have h := (index_facts t).2.2.2.1
  have ht := lt32 t
  funext (y : S256x128.Idx)
  obtain ⟨r, l, rfl⟩ : ∃ (r : Fin 256) (l : Fin 128), y = ix2 r l := ⟨y 0, y 1, by funext b; fin_cases b <;> rfl⟩
  have e : ((cfg0.win 3).blk t).view.emb (ix2 r l) = (ix2 ⟨256 * (t.val / 16) + r.val, by omega⟩ ⟨128 * (t.val % 16) + l.val, by omega⟩ : S512x2048.Idx) := by
    funext b; apply Fin.ext
    fin_cases b
    · show win0_3.index t (0 : Fin 2) * 256 + 1 * r.val = 256 * (t.val / 16) + r.val; rw [h.1]; omega
    · show win0_3.index t (1 : Fin 2) * 128 + 1 * l.val = 128 * (t.val % 16) + l.val; rw [h.2]; omega
  show k0_pay1 (F := Ideal) _ _ _ (ix2 r l) = G m c (((cfg0.win 3).blk t).view.emb (ix2 r l))
  rw [e]
  refine (pay1_apply _ _ _ r l).trans ?_
  have e1 : Fin.ofNat 2 ((256 * (t.val / 16) + r.val) / 256) = bt t := by apply Fin.ext; show (256 * (t.val / 16) + r.val) / 256 % 2 = t.val / 16; omega
  have e2 : Fin.ofNat 16 ((128 * (t.val % 16) + l.val) / 128) = hd t := by apply Fin.ext; show (128 * (t.val % 16) + l.val) / 128 % 16 = t.val % 16; omega
  have e3 : Fin.ofNat 256 (256 * (t.val / 16) + r.val) = r := by apply Fin.ext; show (256 * (t.val / 16) + r.val) % 256 = r.val; omega
  have e4 : Fin.ofNat 128 (128 * (t.val % 16) + l.val) = l := by apply Fin.ext; show (128 * (t.val % 16) + l.val) % 128 = l.val; omega
  show _ = cA (part (A0 m c) 0 (Fin.ofNat 2 ((256 * (t.val / 16) + r.val) / 256)) (Fin.ofNat 16 ((128 * (t.val % 16) + l.val) / 128)))
    (part (A0 m c) 1 (Fin.ofNat 2 ((256 * (t.val / 16) + r.val) / 256)) (Fin.ofNat 16 ((128 * (t.val % 16) + l.val) / 128)))
    (part (A0 m c) 2 (Fin.ofNat 2 ((256 * (t.val / 16) + r.val) / 256)) (Fin.ofNat 16 ((128 * (t.val % 16) + l.val) / 128)))
    (Fin.ofNat 256 (256 * (t.val / 16) + r.val)) (Fin.ofNat 128 (128 * (t.val % 16) + l.val))
  rw [e1, e2, e3, e4]
  have f0 : (fun a b => (iblk m c 0 t : Vec Ideal S256x128 .bf16) (ix2 a b)) = part (A0 m c) 0 (bt t) (hd t) := funext fun a => funext fun b => x0_apply m c t a b
  have f1 : (fun a b => (iblk m c 1 t : Vec Ideal S256x128 .bf16) (ix2 a b)) = part (A0 m c) 1 (bt t) (hd t) := funext fun a => funext fun b => x1_apply m c t a b
  have f2 : (fun a b => (iblk m c 2 t : Vec Ideal S256x128 .bf16) (ix2 a b)) = part (A0 m c) 2 (bt t) (hd t) := funext fun a => funext fun b => x2_apply m c t a b
  rw [← f0, ← f1, ← f2]

theorem mem_blk (t : Fin cfg0.N) (i : S512x2048.Idx) :
    i ∈ ((cfg0.win 3).blk t).view.set ↔ ∀ a : Fin 2, win0_3.index t a * S256x128.size a ≤ (i a).val ∧ (i a).val < win0_3.index t a * S256x128.size a + S256x128.size a := by
  show i ∈ ((View.whole main_v0).slice (win0_3.rect t)).set ↔ _
  rw [View.set_slice_whole, Rect.mem_set_unit]
  exact Iff.rfl

/-- The result array after the run. -/
theorem final : (dats m 0 c).arrAt 3 cfg0.N = G m c :=
  (dats m 0 c).arrAt_eq_of_cover 3 _ (fun t _ => flushed_eq m c t) (fun (i : S512x2048.Idx) => by
    have h0 : (i 0).val < 512 := (i 0).isLt
    have h1 : (i 1).val < 2048 := (i 1).isLt
    obtain ⟨t, ht⟩ : ∃ t : Fin cfg0.N, t.val = 16 * ((i 0).val / 256) + (i 1).val / 128 := ⟨⟨16 * ((i 0).val / 256) + (i 1).val / 128, lt_of_lt_of_eq (by omega) (show 32 = cfg0.N from N_0.symm)⟩, rfl⟩
    obtain ⟨e0, e1⟩ := (index_facts t).2.2.2.1
    refine ⟨t, (index_facts t).2.2.2.2, ?_⟩
    rw [mem_blk]
    intro a
    match a with
    | ⟨0, _⟩ => show win0_3.index t (0 : Fin 2) * 256 ≤ (i 0).val ∧ (i 0).val < win0_3.index t (0 : Fin 2) * 256 + 256; rw [e0]; omega
    | ⟨1, _⟩ => show win0_3.index t (1 : Fin 2) * 128 ≤ (i 1).val ∧ (i 1).val < win0_3.index t (1 : Fin 2) * 128 + 128; rw [e1]; omega)

/-- The run, with its result named. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0) :=
  (θ_run defs _ _).mono (fun _ h c => ⟨(h c).1.trans (final m c), (h c).2⟩) (run_blocks m ρ)

end

end Cert.Ctx

end
-- ==== Proof.CtxRef.lean ====
/- The context attention and its reference end with equal results where the scores are finite. -/
module

public import proofs.«01_k».proof.Proof.Ctx
public import proofs.«01_k».proof.Proof.Final
public import proofs.«01_k».proof.Proof.Gen.Reference6Ideal.Read
public import proofs.«01_k».proof.Proof.Gen.Pre_finite_context

@[expose] public section

set_option maxRecDepth 16384

noncomputable section

namespace Cert.CtxRef

open Idealize.ShloMosaic Idealize.ShloMosaic.TcCoe Idealize.SL.Sem
open Idealize.ShloMosaic.Pointwise
open Cert.Reference6Ideal Cert.Reference6Ideal.Gen Cert.Reference6Ideal.Read
open Cert.Ctx (part cS cM cA)

variable (x0 : (⟨S8704x18432, .bf16⟩ : BufTy).Contents (Elt Ideal))

/-- The context's rows by batch. -/
theorem v2_ix (b : Fin 2) (r : Fin 256) (l : Fin 18432) : val_main_v2 (F := Ideal) x0 (ix3 b r l) = x0 (ix2 ⟨8192 + (b.val * 256 + r.val), by omega⟩ l) := by
  pointwise [val_main_v2, val_main_v1, val_main_v0]

theorem row_eq (b : Fin 2) (r : Fin 256) : (⟨8192 + (b.val * 256 + r.val), by omega⟩ : Fin 8704) = ⟨8192 + 256 * b.val + r.val, by omega⟩ :=
  Fin.ext (by show 8192 + (b.val * 256 + r.val) = 8192 + 256 * b.val + r.val; omega)

theorem v4_ix (b : Fin 2) (r : Fin 256) (h : Fin 16) (l : Fin 128) : val_main_v4 (F := Ideal) x0 (ix4 b r h l) = part x0 0 b h r l := by
  have h2 := v2_ix x0
  unfold part val_main_v4 val_main_v3
  generalize val_main_v2 (F := Ideal) x0 = y at h2 ⊢
  pointwise []
  refine (h2 _ _ _).trans ?_
  exact congrArg₂ (fun z w => x0 (ix2 z w)) (row_eq b r) (Fin.ext (by show h.val * 128 + l.val = 128 * h.val + l.val; omega))

theorem v6_ix (b : Fin 2) (r : Fin 256) (h : Fin 16) (l : Fin 128) : val_main_v6 (F := Ideal) x0 (ix4 b r h l) = part x0 1 b h r l := by
  have h2 := v2_ix x0
  unfold part val_main_v6 val_main_v5
  generalize val_main_v2 (F := Ideal) x0 = y at h2 ⊢
  pointwise []
  refine (h2 _ _ _).trans ?_
  exact congrArg₂ (fun z w => x0 (ix2 z w)) (row_eq b r) (Fin.ext (by show 2048 + (h.val * 128 + l.val) = 2048 * 1 + 128 * h.val + l.val; omega))

theorem v8_ix (b : Fin 2) (r : Fin 256) (h : Fin 16) (l : Fin 128) : val_main_v8 (F := Ideal) x0 (ix4 b r h l) = part x0 2 b h r l := by
  have h2 := v2_ix x0
  unfold part val_main_v8 val_main_v7
  generalize val_main_v2 (F := Ideal) x0 = y at h2 ⊢
  pointwise []
  refine (h2 _ _ _).trans ?_
  exact congrArg₂ (fun z w => x0 (ix2 z w)) (row_eq b r) (Fin.ext (by show 4096 + (h.val * 128 + l.val) = 2048 * 2 + 128 * h.val + l.val; omega))

/-- The scores. -/
theorem v9_ix (b : Fin 2) (h : Fin 16) (r j : Fin 256) : val_main_v9 (F := Ideal) x0 (ix4 b h r j) = cS (part x0 0 b h) (part x0 1 b h) r j := by
  have h4 := v4_ix x0
  have h6 := v6_ix x0
  unfold cS val_main_v9
  generalize val_main_v4 (F := Ideal) x0 = y at h4 ⊢
  generalize val_main_v6 (F := Ideal) x0 = z at h6 ⊢
  pointwise []
  simp only [h4, h6]

/-- The greatest score. -/
def rM (b : Fin 2) (h : Fin 16) (r : Fin 256) : EReal := max ⊥ (Finset.univ.fold max ⊥ (cS (part x0 0 b h) (part x0 1 b h) r))

theorem v12_ix (b : Fin 2) (h : Fin 16) (r : Fin 256) : val_main_v12 (F := Ideal) x0 (ix3 b h r) = rM x0 b h r := by
  rw [val_main_v12_apply, val_main_v11_apply, val_main_cst_0_apply]
  have e : val_main_v10 (F := Ideal) x0 (ix3 b h r) = Finset.univ.fold max ⊥ (cS (part x0 0 b h) (part x0 1 b h) r) := by
    have h9 := v9_ix x0
    unfold val_main_v10 val_main_cst
    generalize val_main_v9 (F := Ideal) x0 = y at h9 ⊢
    pointwise []
    rw [Cert.Ctx.ninf]
    simp only [h9]
  rw [e]
  exact congrArg₂ max Cert.Ctx.ninf rfl

/-- The exponentials. -/
theorem v16_ix (b : Fin 2) (h : Fin 16) (r j : Fin 256) : val_main_v16 (F := Ideal) x0 (ix4 b h r j)
    = Ideal.exp (cS (part x0 0 b h) (part x0 1 b h) r j - rM x0 b h r) := by
  have h9 := v9_ix x0
  have h12 := v12_ix x0
  unfold val_main_v16 val_main_v15 val_main_v14 val_main_v13
  generalize val_main_v9 (F := Ideal) x0 = y at h9 ⊢
  generalize val_main_v12 (F := Ideal) x0 = z at h12 ⊢
  pointwise []
  simp only [h9, h12]

/-- The normalised weights. -/
theorem v20_ix (b : Fin 2) (h : Fin 16) (r j : Fin 256) : val_main_v20 (F := Ideal) x0 (ix4 b h r j)
    = Ideal.div (Ideal.exp (cS (part x0 0 b h) (part x0 1 b h) r j - rM x0 b h r))
        (∑ i : Fin 256, Ideal.exp (cS (part x0 0 b h) (part x0 1 b h) r i - rM x0 b h r)) := by
  have h16 := v16_ix x0
  unfold val_main_v20 val_main_v19 val_main_v18 val_main_v17 val_main_cst_1
  generalize val_main_v16 (F := Ideal) x0 = y at h16 ⊢
  pointwise []
  simp only [h16]

/-- The values at the normalised weights. -/
theorem v21_ix (b : Fin 2) (h : Fin 16) (d : Fin 128) (r : Fin 256) : val_main_v21 (F := Ideal) x0 (ix4 b h d r)
    = ∑ j : Fin 256, part x0 2 b h j d * Ideal.div (Ideal.exp (cS (part x0 0 b h) (part x0 1 b h) r j - rM x0 b h r))
        (∑ i : Fin 256, Ideal.exp (cS (part x0 0 b h) (part x0 1 b h) r i - rM x0 b h r)) := by
  have h8 := v8_ix x0
  have h20 := v20_ix x0
  unfold val_main_v21
  generalize val_main_v8 (F := Ideal) x0 = y at h8 ⊢
  generalize val_main_v20 (F := Ideal) x0 = z at h20 ⊢
  pointwise []
  simp only [h8, h20]

/-- The reference at an index. -/
theorem v24_ix (a : Fin 512) (l : Fin 2048) : val_main_v24 (F := Ideal) x0 (ix2 a l)
    = val_main_v21 (F := Ideal) x0 (ix4 ⟨a.val / 256, by omega⟩ ⟨l.val / 128, by omega⟩ ⟨l.val % 128, by omega⟩ ⟨a.val % 256, by omega⟩) := by
  unfold val_main_v24 val_main_v23 val_main_v22
  generalize val_main_v21 (F := Ideal) x0 = y
  pointwise []

/-- Under the precondition every query and key of the context's rows is a real. -/
theorem pre_x (x : S8704x18432.Idx → EReal) (hp : Cert.Pre_finite_context.fn (F := Ideal) x = fun _ => 1#1)
    (a : Fin 512) (l : Fin 4096) : ∃ r : ℝ, x (ix2 ⟨8192 + a.val, by omega⟩ ⟨l.val, by omega⟩) = r := by
  have h := congrFun hp (ix2 a l)
  refine Cert.Final.real_of_abs _ (Eq.trans ?_ h)
  unfold Cert.Pre_finite_context.fn
  pointwise []

/-- From equal arguments with finite scores, the kernel's result is the reference's. -/
theorem result_eq (m : (ℓ : Loc Cert.Kernel6Ideal.nD Cert.Kernel6Ideal.τ Cert.Kernel6Ideal.sig) → Buf (Elt Ideal) ℓ) (c : Dev Cert.Kernel6Ideal.nD)
    (h0 : x0 = Cert.Ctx.A0 m c)
    (hx : ∀ (a : Fin 512) (l : Fin 4096), ∃ r : ℝ, x0 (ix2 ⟨8192 + a.val, by omega⟩ ⟨l.val, by omega⟩) = r) :
    (Cert.Ctx.G m c : S512x2048.Idx → EReal) = val_main_v24 (F := Ideal) x0 := by
  subst h0
  funext i
  obtain ⟨a, l, rfl⟩ : ∃ (a : Fin 512) (l : Fin 2048), i = ix2 a l := ⟨i 0, i 1, by funext b; fin_cases b <;> rfl⟩
  have e1 : Fin.ofNat 2 (a.val / 256) = (⟨a.val / 256, by omega⟩ : Fin 2) := by apply Fin.ext; show a.val / 256 % 2 = a.val / 256; omega
  have e2 : Fin.ofNat 16 (l.val / 128) = (⟨l.val / 128, by omega⟩ : Fin 16) := by apply Fin.ext; show l.val / 128 % 16 = l.val / 128; omega
  rw [v24_ix, v21_ix]
  show cA (part (Cert.Ctx.A0 m c) 0 (Fin.ofNat 2 (a.val / 256)) (Fin.ofNat 16 (l.val / 128))) (part (Cert.Ctx.A0 m c) 1 (Fin.ofNat 2 (a.val / 256)) (Fin.ofNat 16 (l.val / 128)))
    (part (Cert.Ctx.A0 m c) 2 (Fin.ofNat 2 (a.val / 256)) (Fin.ofNat 16 (l.val / 128))) ⟨a.val % 256, by omega⟩ ⟨l.val % 128, by omega⟩ = _
  rw [e1, e2]
  have hr : ∀ (p : Fin 3) (b : Fin 2) (h : Fin 16) (r : Fin 256) (l : Fin 128), p.val < 2 → ∃ z : ℝ, part (Cert.Ctx.A0 m c) p b h r l = z := fun p b h r l hp => by
    obtain ⟨z, hz⟩ := hx ⟨256 * b.val + r.val, by omega⟩ ⟨2048 * p.val + 128 * h.val + l.val, by omega⟩
    refine ⟨z, Eq.trans ?_ hz⟩
    exact congrArg (fun w => Cert.Ctx.A0 m c (ix2 w _)) (Fin.ext (by show 8192 + 256 * b.val + r.val = 8192 + (256 * b.val + r.val); omega))
  exact Cert.Soft.attention_plain (by decide) _ (fun j => part (Cert.Ctx.A0 m c) 2 _ _ j _)
    (fun j => Cert.Final.sum_mul_real Finset.univ _ _ (fun k => hr 0 _ _ _ k (by decide)) (fun k => hr 1 _ _ _ k (by decide))) _ _ rfl rfl

end Cert.CtxRef

end
-- ==== Proof.Gmlp.lean ====
/- What the spatial gating's run leaves: gelu of the gate's first half, times the normalised second half mixed along each chunk of rows. -/
module

public import proofs.«01_k».proof.Proof.Gen.Kernel7Ideal.Value
public import proofs.«01_k».proof.Proof.Blk
public import Idealize.ShloMosaic.Lib.Pointwise
public import Idealize.ShloMosaic.Lib.Writes

@[expose] public section

set_option maxRecDepth 16384

noncomputable section

namespace Cert.Gmlp

open Cert.Kernel7Ideal Cert.Kernel7Ideal.Gen Cert.Kernel7Ideal.Value Idealize.ShloMosaic Idealize.ShloMosaic.TcCoe Idealize.SL.Sem
open Idealize.ShloMosaic.Pointwise

/-- The tanh form of gelu. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-- The mean of a row. -/
def mean (v : Fin 2048 → EReal) : EReal := Ideal.div (∑ k : Fin 2048, v k) (Ideal.ofBits .f32 0x45000000#32)

/-- An entry of a row without its mean, over the root of the variance, times the gain. -/
def normV (v : Fin 2048 → EReal) (g : EReal) (l : Fin 2048) : EReal :=
  (v l - mean v) * Ideal.rsqrt (mean (fun k => (v k - mean v) * (v k - mean v)) + Ideal.ofBits .f32 0x358637BD#32) * g

/-- The normalised rows of a chunk. -/
theorem pay1_apply (v : Vec Ideal S128x2048 .bf16) (g : Vec Ideal S1x1x2048 .f32) (r : Fin 128) (l : Fin 2048) :
    k0_pay1 (F := Ideal) v g (ix2 r l) = normV (fun k => gelu (v (ix2 r k))) (g (ix3 0 0 l)) l := by
  unfold normV mean gelu
  pointwise [k0_pay1]

/-- One store: gelu of `u`, times the normalised columns mixed by `w`, with its bias. -/
def mixP (y : FVec Ideal S128x128 .bf16) (w : Vec Ideal S1x1x128x128 .f32) (b : Vec Ideal S128x1 .f32) (u : Vec Ideal S128x128 .bf16) : FVec Ideal S128x128 .bf16 :=
  have v911 : FVec Ideal S128x128 .bf16 := truncf .bf16 (shapeCast S128x128 w shapeCasts_S1x1x128x128_S128x128 : FVec Ideal S128x128 .f32) bitsLt_bf16_f32
  have cst_465 : FVec Ideal S128x128 .f32 := constant S128x128 .f32 0x00000000#32
  have v913 : FVec Ideal S128x128 .f32 := matmul dot_S128x128_S128x128_S128x128_1_0_0_1_n_n none v911 y cst_465
  have v915 : FVec Ideal S128x1 .f32 := shapeCast S128x1 b shapeCasts_S128x1_S128x1
  have v916 : FVec Ideal S128x128 .f32 := broadcastTo S128x128 v915 broadcasts_S128x1_S128x128
  have v917 : FVec Ideal S128x128 .f32 := addf v913 v916
  have v919 : FVec Ideal S128x128 .f32 := extf .f32 u bitsLt_bf16_f32
  have v920 : FVec Ideal S128x128 .f32 := mulf v919 v919
  have v921 : FVec Ideal S128x128 .f32 := mulf v919 v920
  have cst_470 : Ideal .f32 := Scalar.ofBits .f32 0x3D372713#32
  have v922 : FVec Ideal S128x128 .f32 := broadcast S128x128 cst_470
  have v923 : FVec Ideal S128x128 .f32 := mulf v922 v921
  have v924 : FVec Ideal S128x128 .f32 := addf v919 v923
  have cst_471 : Ideal .f32 := Scalar.ofBits .f32 0x3F4C422A#32
  have v925 : FVec Ideal S128x128 .f32 := broadcast S128x128 cst_471
  have v926 : FVec Ideal S128x128 .f32 := mulf v925 v924
  have v927 : FVec Ideal S128x128 .f32 := tanh v926
  have cst_472 : Ideal .f32 := Scalar.ofBits .f32 0x3F800000#32
  have v928 : FVec Ideal S128x128 .f32 := broadcast S128x128 cst_472
  have v929 : FVec Ideal S128x128 .f32 := addf v928 v927
  have cst_473 : Ideal .f32 := Scalar.ofBits .f32 0x3F000000#32
  have v930 : FVec Ideal S128x128 .f32 := broadcast S128x128 cst_473
  have v931 : FVec Ideal S128x128 .f32 := mulf v930 v929
  have v932 : FVec Ideal S128x128 .f32 := mulf v919 v931
  have v933 : FVec Ideal S128x128 .f32 := mulf v932 v917
  truncf .bf16 v933 bitsLt_bf16_f32

theorem mixP_apply (y : FVec Ideal S128x128 .bf16) (w : Vec Ideal S1x1x128x128 .f32) (b : Vec Ideal S128x1 .f32) (u : Vec Ideal S128x128 .bf16) (r d : Fin 128) :
    mixP y w b u (ix2 r d) = gelu (u (ix2 r d)) * ((∑ k : Fin 128, w (ix4 0 0 r k) * y (ix2 k d)) + b (ix2 r 0)) := by
  unfold gelu
  pointwise [mixP]

/-- Store `n` covers chunk `n / 16`'s rows and group `n % 16`'s columns. -/
abbrev rcg (n : ℕ) : Rect S256x2048 := Rect.unit (s := S256x2048) ![128 * (n / 16 % 2), 128 * (n % 16)] S128x128.size (fun a => by
  fin_cases a
  · show 128 * (n / 16 % 2) + 128 ≤ 256; omega
  · show 128 * (n % 16) + 128 ≤ 2048; omega)
/-- Its chunk's rows. -/
abbrev rch (n : ℕ) : Rect S256x2048 := Rect.unit (s := S256x2048) ![128 * (n / 16 % 2), 0] S128x2048.size (fun a => by
  fin_cases a
  · show 128 * (n / 16 % 2) + 128 ≤ 256; omega
  · show 0 + 2048 ≤ 2048; omega)
/-- Its group's weights. -/
abbrev rws (n : ℕ) : Rect S1x16x128x128 := Rect.unit (s := S1x16x128x128) ![0, n % 16, 0, 0] S1x1x128x128.size (fun a => by
  fin_cases a
  · show 0 + 1 ≤ 1; omega
  · show n % 16 + 1 ≤ 16; omega
  · show 0 + 128 ≤ 128; omega
  · show 0 + 128 ≤ 128; omega)
/-- Its group's bias. -/
abbrev rbs (n : ℕ) : Rect S128x16 := Rect.unit (s := S128x16) ![0, n % 16] S128x1.size (fun a => by
  fin_cases a
  · show 0 + 128 ≤ 128; omega
  · show n % 16 + 1 ≤ 16; omega)

theorem hsl (n : ℕ) : S128x2048.Slices ![0, 128 * (n % 16)] S128x128 := ⟨rfl, fun a => by
  fin_cases a
  · show 0 + 128 ≤ 128; omega
  · show 128 * (n % 16) + 128 ≤ 2048; omega⟩

variable (x0 x1 : Vec Ideal S256x2048 .bf16) (x2 : Vec Ideal S1x1x2048 .f32) (x3 : Vec Ideal S1x16x128x128 .f32) (x4 : Vec Ideal S128x16 .f32)

/-- Store `n`. -/
def piece (n : ℕ) : View.Piece (Elt Ideal) S256x2048 .bf16 :=
  ⟨rcg n, mixP (extractStridedSlice S128x128 ![0, 128 * (n % 16)] (k0_pay1 (F := Ideal) (View.ld x1 (rch n)) (View.ld x2 r0_1)) (hsl n))
    (View.ld x3 (rws n)) (View.ld x4 (rbs n)) (View.ld x0 (rcg n))⟩

/-- The first `n` stores, the last first. -/
def pieces : ℕ → List (View.Piece (Elt Ideal) S256x2048 .bf16)
  | 0 => []
  | n + 1 => piece x0 x1 x2 x3 x4 n :: pieces n

/-- A point's stores are the thirty-two. -/
theorem out_pieces : out0_5 (F := Ideal) x0 x1 x2 x3 x4 = View.canon (pieces x0 x1 x2 x3 x4 32) := by
  unfold out0_5
  refine congrArg View.canon ?_
  simp only [pieces]
  repeat' (refine congrArg₂ List.cons ?_ ?_)
  all_goals rfl

/-- The block a point leaves. -/
def gB : S256x2048.Idx → EReal := fun y =>
  gelu (x0 y) * ((∑ k : Fin 128, x3 (ix4 0 ⟨(y 1).val / 128, by have h : (y 1).val < 2048 := (y 1).isLt; omega⟩ ⟨(y 0).val % 128, by omega⟩ k)
      * normV (fun l => gelu (x1 (ix2 ⟨128 * ((y 0).val / 128) + k.val, by have h : (y 0).val < 256 := (y 0).isLt; omega⟩ l))) (x2 (ix3 0 0 (y 1))) (y 1))
    + x4 (ix2 ⟨(y 0).val % 128, by omega⟩ ⟨(y 1).val / 128, by have h : (y 1).val < 2048 := (y 1).isLt; omega⟩))

theorem piece_val (n : ℕ) (x : (piece x0 x1 x2 x3 x4 n).1.shape.Idx) :
    (piece x0 x1 x2 x3 x4 n).2 x = gB x0 x1 x2 x3 x4 ((piece x0 x1 x2 x3 x4 n).1.emb x) := by
  change S128x128.Idx at x
  obtain ⟨r, d, rfl⟩ : ∃ (r d : Fin 128), x = ix2 r d := ⟨x 0, x 1, by funext b; fin_cases b <;> rfl⟩
  have hn : n % 16 < 16 := by omega
  have hc : n / 16 % 2 < 2 := by omega
  have e : (rcg n).emb (ix2 r d) = (ix2 ⟨128 * (n / 16 % 2) + r.val, by omega⟩ ⟨128 * (n % 16) + d.val, by omega⟩ : S256x2048.Idx) := by
    funext b; apply Fin.ext
    fin_cases b
    · show 128 * (n / 16 % 2) + 1 * r.val = 128 * (n / 16 % 2) + r.val; omega
    · show 128 * (n % 16) + 1 * d.val = 128 * (n % 16) + d.val; omega
  show mixP _ _ _ _ (ix2 r d) = gB x0 x1 x2 x3 x4 ((rcg n).emb (ix2 r d))
  rw [mixP_apply, e]
  unfold gB
  refine congrArg₂ (fun a b : EReal => a * b) (congrArg (fun z => gelu (x0 z)) e)
    (congrArg₂ (fun a b : EReal => a + b) (Finset.sum_congr rfl fun k _ => congrArg₂ (fun a b : EReal => a * b) (congrArg x3 ?_) ?_) (congrArg x4 ?_))
  · funext b; apply Fin.ext
    fin_cases b
    · rfl
    · show n % 16 + 1 * 0 = (128 * (n % 16) + d.val) / 128; omega
    · show 0 + 1 * r.val = (128 * (n / 16 % 2) + r.val) % 128; omega
    · show 0 + 1 * k.val = k.val; omega
  · rw [extractStridedSlice_apply _ _ _ _ (ix2 k ⟨128 * (n % 16) + d.val, by omega⟩ : S128x2048.Idx) (fun a => by
      fin_cases a
      · show k.val = 0 + k.val; omega
      · rfl)]
    rw [pay1_apply]
    refine congrArg₂ (fun v g => normV v g _) (funext fun l => congrArg (fun z => gelu (x1 z)) ?_) (congrArg x2 ?_)
    · funext b; apply Fin.ext
      fin_cases b
      · show 128 * (n / 16 % 2) + 1 * k.val = 128 * ((128 * (n / 16 % 2) + r.val) / 128) + k.val; omega
      · show 0 + 1 * l.val = l.val; omega
    · funext b; apply Fin.ext
      fin_cases b
      · rfl
      · rfl
      · show 0 + 1 * (128 * (n % 16) + d.val) = 128 * (n % 16) + d.val; omega
  · funext b; apply Fin.ext
    fin_cases b
    · show 0 + 1 * r.val = (128 * (n / 16 % 2) + r.val) % 128; omega
    · show n % 16 + 1 * 0 = (128 * (n % 16) + d.val) / 128; omega

theorem mem_pieces : ∀ (N : ℕ) (p : View.Piece (Elt Ideal) S256x2048 .bf16), p ∈ pieces x0 x1 x2 x3 x4 N ↔ ∃ n, n < N ∧ p = piece x0 x1 x2 x3 x4 n
  | 0, p => ⟨fun h => absurd h List.not_mem_nil, fun ⟨_, h, _⟩ => absurd h (Nat.not_lt_zero _)⟩
  | N + 1, p => by
    rw [pieces, List.mem_cons, mem_pieces N p]
    constructor
    · rintro (rfl | ⟨n, hn, rfl⟩)
      · exact ⟨N, by omega, rfl⟩
      · exact ⟨n, by omega, rfl⟩
    · rintro ⟨n, hn, rfl⟩
      rcases Nat.lt_or_ge n N with h | h
      · exact Or.inr ⟨n, h, rfl⟩
      · obtain rfl : n = N := by omega
        exact Or.inl rfl

/-- What a point leaves. -/
theorem out_eq : out0_5 (F := Ideal) x0 x1 x2 x3 x4 = gB x0 x1 x2 x3 x4 := by
  rw [out_pieces]
  funext y
  refine Blk.canon_of_pieces (e := .bf16) (gB x0 x1 x2 x3 x4) y _ (fun p hp x => ?_) ?_
  · obtain ⟨n, _, rfl⟩ := (mem_pieces x0 x1 x2 x3 x4 32 p).mp hp
    exact piece_val x0 x1 x2 x3 x4 n x
  · have h0 : (y 0).val < 256 := (y 0).isLt
    have h1 : (y 1).val < 2048 := (y 1).isLt
    refine ⟨_, (mem_pieces x0 x1 x2 x3 x4 32 _).mpr ⟨16 * ((y 0).val / 128) + (y 1).val / 128, by omega, rfl⟩, ?_⟩
    show y ∈ (rcg (16 * ((y 0).val / 128) + (y 1).val / 128)).set
    rw [Rect.mem_set_unit]
    intro a
    fin_cases a
    · show 128 * ((16 * ((y 0).val / 128) + (y 1).val / 128) / 16 % 2) ≤ (y 0).val ∧ (y 0).val < 128 * ((16 * ((y 0).val / 128) + (y 1).val / 128) / 16 % 2) + 128; omega
    · show 128 * ((16 * ((y 0).val / 128) + (y 1).val / 128) % 16) ≤ (y 1).val ∧ (y 1).val < 128 * ((16 * ((y 0).val / 128) + (y 1).val / 128) % 16) + 128; omega

/-- Point `t` is row block `t`. -/
theorem index_facts : ∀ t : Fin grid0.N,
    (win0_0.index t (0 : Fin 2) = t.val ∧ win0_0.index t (1 : Fin 2) = 3)
    ∧ (win0_1.index t (0 : Fin 2) = t.val ∧ win0_1.index t (1 : Fin 2) = 4)
    ∧ (win0_2.index t (0 : Fin 3) = 0 ∧ win0_2.index t (1 : Fin 3) = 0 ∧ win0_2.index t (2 : Fin 3) = 0)
    ∧ (win0_3.index t (0 : Fin 4) = 0 ∧ win0_3.index t (1 : Fin 4) = 0 ∧ win0_3.index t (2 : Fin 4) = 0 ∧ win0_3.index t (3 : Fin 4) = 0)
    ∧ (win0_4.index t (0 : Fin 2) = 0 ∧ win0_4.index t (1 : Fin 2) = 0)
    ∧ (win0_5.index t (0 : Fin 2) = t.val ∧ win0_5.index t (1 : Fin 2) = 0)
    ∧ (cfg0.win 5).flush t = true := by
  decide +kernel

section
variable (m : (ℓ : Loc nD τ sig) → Buf (Elt Ideal) ℓ) (c : Dev nD)

theorem lt34 (t : Fin cfg0.N) : t.val < 34 := lt_of_lt_of_eq t.isLt N_0

/-- The projections. -/
def A0 : S8704x18432.Idx → EReal := m ((c : Thread nD τ).loc main_arg0)
/-- The gains. -/
def A1 : S2x2048.Idx → EReal := m ((c : Thread nD τ).loc main_arg1)
/-- The mixing weights. -/
def A2 : S2x16x128x128.Idx → EReal := m ((c : Thread nD τ).loc main_arg2)
/-- The mixing biases. -/
def A3 : S2x16x128.Idx → EReal := m ((c : Thread nD τ).loc main_arg3)

/-- The launch finds the gains with a unit axis. -/
theorem V_gain : (V m c main_v3 : S2x1x2048.Idx → EReal) = shapeCast S2x1x2048 (A1 m c : Vec Ideal S2x2048 .f32) shapeCasts_S2x2048_S2x1x2048 := by
  show StableHlo.after (List.flatten [hostOps0]) (fun b => m (c, b)) (Proc.devRef .tc main_v3) = _
  simp only [List.flatten_cons, List.flatten_nil, List.append_nil, List.cons_append, List.nil_append]
  after_results
  rfl

theorem V_gain_apply (r : Fin 2) (l : Fin 2048) : (V m c main_v3 : S2x1x2048.Idx → EReal) (ix3 r 0 l) = A1 m c (ix2 r l) := by
  rw [V_gain]
  generalize A1 m c = y
  pointwise []

/-- The launch finds the first layer's biases by row. -/
theorem V_bias : (V m c main_v2 : S128x16.Idx → EReal) = transpose S128x16 [1, 0] (shapeCast S16x128 (extractStridedSlice S1x16x128 ![0, 0, 0] (A3 m c : Vec Ideal S2x16x128 .f32) slices_S2x16x128_S1x16x128_0_0_0) shapeCasts_S1x16x128_S16x128) transposes_S16x128_S128x16_1_0 := by
  show StableHlo.after (List.flatten [hostOps0]) (fun b => m (c, b)) (Proc.devRef .tc main_v2) = _
  simp only [List.flatten_cons, List.flatten_nil, List.append_nil, List.cons_append, List.nil_append]
  after_results
  rfl

theorem V_bias_apply (r : Fin 128) (g : Fin 16) : (V m c main_v2 : S128x16.Idx → EReal) (ix2 r g) = A3 m c (ix3 0 g r) := by
  rw [V_bias]
  generalize A3 m c = y
  pointwise []

theorem x0_apply (t : Fin cfg0.N) (r : Fin 256) (l : Fin 2048) :
    (iblk m c 0 t : Vec Ideal S256x2048 .bf16) (ix2 r l) = A0 m c (ix2 ⟨256 * t.val + r.val, by have := lt34 t; omega⟩ ⟨6144 + l.val, by omega⟩) := by
  unfold iblk
  show V m c main_arg0 (((cfg0.win 0).blk t).view.emb _) = _
  rw [V_main_arg0]
  unfold A0
  congr 1
  have h := (index_facts t).1
  funext b; apply Fin.ext
  fin_cases b
  · show win0_0.index t (0 : Fin 2) * 256 + 1 * r.val = 256 * t.val + r.val; rw [h.1]; omega
  · show win0_0.index t (1 : Fin 2) * 2048 + 1 * l.val = 6144 + l.val; rw [h.2]; omega

theorem x1_apply (t : Fin cfg0.N) (r : Fin 256) (l : Fin 2048) :
    (iblk m c 1 t : Vec Ideal S256x2048 .bf16) (ix2 r l) = A0 m c (ix2 ⟨256 * t.val + r.val, by have := lt34 t; omega⟩ ⟨8192 + l.val, by omega⟩) := by
  unfold iblk
  show V m c main_arg0 (((cfg0.win 1).blk t).view.emb _) = _
  rw [V_main_arg0]
  unfold A0
  congr 1
  have h := (index_facts t).2.1
  funext b; apply Fin.ext
  fin_cases b
  · show win0_1.index t (0 : Fin 2) * 256 + 1 * r.val = 256 * t.val + r.val; rw [h.1]; omega
  · show win0_1.index t (1 : Fin 2) * 2048 + 1 * l.val = 8192 + l.val; rw [h.2]; omega

theorem x2_apply (t : Fin cfg0.N) (l : Fin 2048) :
    (iblk m c 2 t : Vec Ideal S1x1x2048 .f32) (ix3 0 0 l) = A1 m c (ix2 0 l) := by
  rw [← V_gain_apply]
  unfold iblk
  show V m c main_v3 (((cfg0.win 2).blk t).view.emb _) = _
  congr 1
  have h := (index_facts t).2.2.1
  funext b; apply Fin.ext
  fin_cases b
  · show win0_2.index t (0 : Fin 3) * 1 + 1 * 0 = 0; rw [h.1]
  · show win0_2.index t (1 : Fin 3) * 1 + 1 * 0 = 0; rw [h.2.1]
  · show win0_2.index t (2 : Fin 3) * 2048 + 1 * l.val = l.val; rw [h.2.2]; omega

theorem x3_apply (t : Fin cfg0.N) (g : Fin 16) (r k : Fin 128) :
    (iblk m c 3 t : Vec Ideal S1x16x128x128 .f32) (ix4 0 g r k) = A2 m c (ix4 0 g r k) := by
  unfold iblk
  show V m c main_arg2 (((cfg0.win 3).blk t).view.emb _) = _
  rw [V_main_arg2]
  unfold A2
  congr 1
  have h := (index_facts t).2.2.2.1
  funext b; apply Fin.ext
  fin_cases b
  · show win0_3.index t (0 : Fin 4) * 1 + 1 * 0 = 0; rw [h.1]
  · show win0_3.index t (1 : Fin 4) * 16 + 1 * g.val = g.val; rw [h.2.1]; omega
  · show win0_3.index t (2 : Fin 4) * 128 + 1 * r.val = r.val; rw [h.2.2.1]; omega
  · show win0_3.index t (3 : Fin 4) * 128 + 1 * k.val = k.val; rw [h.2.2.2]; omega

theorem x4_apply (t : Fin cfg0.N) (r : Fin 128) (g : Fin 16) :
    (iblk m c 4 t : Vec Ideal S128x16 .f32) (ix2 r g) = A3 m c (ix3 0 g r) := by
  rw [← V_bias_apply]
  unfold iblk
  show V m c main_v2 (((cfg0.win 4).blk t).view.emb _) = _
  congr 1
  have h := (index_facts t).2.2.2.2.1
  funext b; apply Fin.ext
  fin_cases b
  · show win0_4.index t (0 : Fin 2) * 128 + 1 * r.val = r.val; rw [h.1]; omega
  · show win0_4.index t (1 : Fin 2) * 16 + 1 * g.val = g.val; rw [h.2]; omega

/-- The gate at row `R` and column `C`. -/
def gV (R : Fin 8704) (C : Fin 2048) : EReal :=
  gelu (A0 m c (ix2 R ⟨6144 + C.val, by omega⟩)) * ((∑ k : Fin 128, A2 m c (ix4 0 ⟨C.val / 128, by omega⟩ ⟨R.val % 128, by omega⟩ k)
      * normV (fun l => gelu (A0 m c (ix2 ⟨128 * (R.val / 128) + k.val, by omega⟩ ⟨8192 + l.val, by omega⟩))) (A1 m c (ix2 0 C)) C)
    + A3 m c (ix3 0 ⟨C.val / 128, by omega⟩ ⟨R.val % 128, by omega⟩))

/-- The gate. -/
def G : S8704x2048.Idx → EReal := fun i => gV m c (i 0) (i 1)

/-- What a point writes back is its block of the gate. -/
theorem flushed_eq (t : Fin cfg0.N) : (dats m 0 c).flushed 5 t = ((cfg0.win 5).blk t).view.read (Elt Ideal) (G m c) := by
  rw [flushed5, out_eq]
  have h := (index_facts t).2.2.2.2.2.1
  have ht := lt34 t
  funext (y : S256x2048.Idx)
  obtain ⟨r, l, rfl⟩ : ∃ (r : Fin 256) (l : Fin 2048), y = ix2 r l := ⟨y 0, y 1, by funext b; fin_cases b <;> rfl⟩
  have e : ((cfg0.win 5).blk t).view.emb (ix2 r l) = (ix2 ⟨256 * t.val + r.val, by omega⟩ l : S8704x2048.Idx) := by
    funext b; apply Fin.ext
    fin_cases b
    · show win0_5.index t (0 : Fin 2) * 256 + 1 * r.val = 256 * t.val + r.val; rw [h.1]; omega
    · show win0_5.index t (1 : Fin 2) * 2048 + 1 * l.val = l.val; rw [h.2]; omega
  show gB _ _ _ _ _ (ix2 r l) = G m c (((cfg0.win 5).blk t).view.emb (ix2 r l))
  rw [e]
  have er : (⟨r.val % 128, by omega⟩ : Fin 128) = ⟨(256 * t.val + r.val) % 128, by omega⟩ := Fin.ext (by show r.val % 128 = (256 * t.val + r.val) % 128; omega)
  refine congrArg₂ (fun a b : EReal => gelu a * b) (x0_apply m c t r l)
    (congrArg₂ (fun a b : EReal => a + b) (Finset.sum_congr rfl fun k _ => congrArg₂ (fun a b : EReal => a * b) ?_ ?_) ?_)
  · refine (x3_apply m c t _ _ k).trans ?_
    exact congrArg (fun z => A2 m c (ix4 0 _ z k)) er
  · refine congrArg₂ (fun v g => normV v g l) (funext fun j => congrArg gelu ?_) (x2_apply m c t l)
    refine (x1_apply m c t _ j).trans ?_
    exact congrArg (fun z => A0 m c (ix2 z _)) (Fin.ext (by show 256 * t.val + (128 * (r.val / 128) + k.val) = 128 * ((256 * t.val + r.val) / 128) + k.val; omega))
  · refine (x4_apply m c t _ _).trans ?_
    exact congrArg (fun z => A3 m c (ix3 0 _ z)) er

theorem mem_blk (t : Fin cfg0.N) (i : S8704x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v4).slice (win0_5.rect t)).set ↔ _
  rw [View.set_slice_whole, Rect.mem_set_unit]
  exact Iff.rfl

/-- The result array after the run. -/
theorem final : (dats m 0 c).arrAt 5 cfg0.N = G m c :=
  (dats m 0 c).arrAt_eq_of_cover 5 _ (fun t _ => flushed_eq m c t) (fun (i : S8704x2048.Idx) => by
    have h0 : (i 0).val < 8704 := (i 0).isLt
    have h1 : (i 1).val < 2048 := (i 1).isLt
    obtain ⟨t, ht⟩ : ∃ t : Fin cfg0.N, t.val = (i 0).val / 256 := ⟨⟨(i 0).val / 256, lt_of_lt_of_eq (by omega) (show 34 = cfg0.N from N_0.symm)⟩, rfl⟩
    obtain ⟨e0, e1⟩ := (index_facts t).2.2.2.2.2.1
    refine ⟨t, (index_facts t).2.2.2.2.2.2, ?_⟩
    rw [mem_blk]
    intro a
    match a with
    | ⟨0, _⟩ => show win0_5.index t (0 : Fin 2) * 256 ≤ (i 0).val ∧ (i 0).val < win0_5.index t (0 : Fin 2) * 256 + 256; rw [e0]; omega
    | ⟨1, _⟩ => show win0_5.index t (1 : Fin 2) * 2048 ≤ (i 1).val ∧ (i 1).val < win0_5.index t (1 : Fin 2) * 2048 + 2048; rw [e1]; omega)

/-- The run, with its result named. -/
theorem run (ρ : Dev nD → PrngReg) : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end

end Cert.Gmlp

end
-- ==== Proof.GmlpRef.lean ====
/- The spatial gating and its reference end with equal results. -/
module

public import proofs.«01_k».proof.Proof.Gmlp
public import proofs.«01_k».proof.Proof.Gen.Reference7Ideal.Read

@[expose] public section

set_option maxRecDepth 16384

noncomputable section

namespace Cert.GmlpRef

open Idealize.ShloMosaic Idealize.ShloMosaic.TcCoe Idealize.SL.Sem
open Idealize.ShloMosaic.Pointwise
open Cert.Reference7Ideal Cert.Reference7Ideal.Gen Cert.Reference7Ideal.Read
open Cert.Gmlp (gelu mean normV)

variable (x0 : (⟨S8704x18432, .bf16⟩ : BufTy).Contents (Elt Ideal)) (x1 : (⟨S2x2048, .f32⟩ : BufTy).Contents (Elt Ideal))
  (x2 : (⟨S2x16x128x128, .f32⟩ : BufTy).Contents (Elt Ideal)) (x3 : (⟨S2x16x128, .f32⟩ : BufTy).Contents (Elt Ideal))

/-- Gelu of the gate's first half. -/
theorem v16_ix (R : Fin 8704) (C : Fin 2048) : val_main_v16 (F := Ideal) x0 (ix2 R C) = gelu (x0 (ix2 R ⟨6144 + C.val, by omega⟩)) := by
  have h1 : ∀ (R : Fin 8704) (C : Fin 2048), val_main_v1 (F := Ideal) x0 (ix2 R C) = x0 (ix2 R ⟨6144 + C.val, by omega⟩) := fun R C => by
    pointwise [val_main_v1, val_main_v0]
  unfold val_main_v16 val_main_v15 val_main_v14 val_main_v13 val_main_v12 val_main_v11 val_main_v10 val_main_v9 val_main_v8 val_main_v7 val_main_v6
    val_main_v5 val_main_v4 val_main_cst val_main_cst_0 val_main_cst_1 val_main_cst_2
  generalize val_main_v1 (F := Ideal) x0 = y at h1 ⊢
  pointwise []
  simp only [h1]
  generalize x0 (ix2 R ⟨6144 + C.val, by omega⟩) = z
  unfold gelu
  rw [mul_comm (z * z) z]

/-- Gelu of the gate's second half. -/
theorem v29_ix (R : Fin 8704) (C : Fin 2048) : val_main_v29 (F := Ideal) x0 (ix2 R C) = gelu (x0 (ix2 R ⟨8192 + C.val, by omega⟩)) := by
  have h1 : ∀ (R : Fin 8704) (C : Fin 2048), val_main_v3 (F := Ideal) x0 (ix2 R C) = x0 (ix2 R ⟨8192 + C.val, by omega⟩) := fun R C => by
    pointwise [val_main_v3, val_main_v2]
  unfold val_main_v29 val_main_v28 val_main_v27 val_main_v26 val_main_v25 val_main_v24 val_main_v23 val_main_v22 val_main_v21 val_main_v20 val_main_v19
    val_main_v18 val_main_v17 val_main_cst_3 val_main_cst_4 val_main_cst_5 val_main_cst_6
  generalize val_main_v3 (F := Ideal) x0 = y at h1 ⊢
  pointwise []
  simp only [h1]
  generalize x0 (ix2 R ⟨8192 + C.val, by omega⟩) = z
  unfold gelu
  rw [mul_comm (z * z) z]

/-- The row without its mean. -/
theorem v37_ix (R : Fin 8704) (C : Fin 2048) : val_main_v37 (F := Ideal) x0 (ix2 R C)
    = gelu (x0 (ix2 R ⟨8192 + C.val, by omega⟩)) - mean (fun l : Fin 2048 => gelu (x0 (ix2 R ⟨8192 + l.val, by omega⟩))) := by
  have h29 := v29_ix x0
  unfold val_main_v37 val_main_v36 val_main_v35 val_main_v34 val_main_v33 val_main_v32 val_main_cst_7 val_main_cst_8
  generalize val_main_v29 (F := Ideal) x0 = y at h29 ⊢
  pointwise []
  simp only [h29]
  rfl

/-- The normalised row. -/
theorem v50_ix (R : Fin 8704) (C : Fin 2048) : val_main_v50 (F := Ideal) x0 x1 (ix2 R C)
    = normV (fun l => gelu (x0 (ix2 R ⟨8192 + l.val, by omega⟩))) (x1 (ix2 0 C)) C := by
  have h37 := v37_ix x0
  unfold val_main_v50 val_main_v49 val_main_v48 val_main_v47 val_main_v46 val_main_v45 val_main_v44 val_main_v43 val_main_v42 val_main_v41 val_main_v40
    val_main_v39 val_main_v38 val_main_v31 val_main_v30 val_main_cst_9 val_main_cst_10 val_main_cst_11
  generalize val_main_v37 (F := Ideal) x0 = y at h37 ⊢
  pointwise []
  simp only [h37]
  rfl

/-- The mixed chunks, with the bias. -/
theorem v62_ix (a : Fin 68) (e : Fin 128) (g : Fin 16) (d : Fin 128) : val_main_v62 (F := Ideal) x0 x1 x2 x3 (ix4 a e g d)
    = (∑ k : Fin 128, x2 (ix4 0 g e k) * val_main_v50 (F := Ideal) x0 x1 (ix2 ⟨a.val * 128 + k.val, by omega⟩ ⟨g.val * 128 + d.val, by omega⟩)) + x3 (ix3 0 g e) := by
  unfold val_main_v62 val_main_v61 val_main_v60 val_main_v59 val_main_v58 val_main_v57 val_main_v56 val_main_v55 val_main_v54 val_main_v53 val_main_v52 val_main_v51
  generalize val_main_v50 (F := Ideal) x0 x1 = y
  pointwise []
  simp only [mul_comm]

/-- The reference at an index. -/
theorem v65_ix (R : Fin 8704) (C : Fin 2048) : val_main_v65 (F := Ideal) x0 x1 x2 x3 (ix2 R C)
    = gelu (x0 (ix2 R ⟨6144 + C.val, by omega⟩))
      * val_main_v62 (F := Ideal) x0 x1 x2 x3 (ix4 ⟨R.val / 128, by omega⟩ ⟨R.val % 128, by omega⟩ ⟨C.val / 128, by omega⟩ ⟨C.val % 128, by omega⟩) := by
  have h16 := v16_ix x0
  unfold val_main_v65 val_main_v64 val_main_v63
  generalize val_main_v62 (F := Ideal) x0 x1 x2 x3 = y
  generalize val_main_v16 (F := Ideal) x0 = z at h16 ⊢
  pointwise []
  simp only [h16]

/-- From equal arguments, the kernel's result is the reference's. -/
theorem result_eq (m : (ℓ : Loc Cert.Kernel7Ideal.nD Cert.Kernel7Ideal.τ Cert.Kernel7Ideal.sig) → Buf (Elt Ideal) ℓ) (c : Dev Cert.Kernel7Ideal.nD)
    (h0 : x0 = Cert.Gmlp.A0 m c) (h1 : x1 = Cert.Gmlp.A1 m c) (h2 : x2 = Cert.Gmlp.A2 m c) (h3 : x3 = Cert.Gmlp.A3 m c) :
    (Cert.Gmlp.G m c : S8704x2048.Idx → EReal) = val_main_v65 (F := Ideal) x0 x1 x2 x3 := by
  subst h0 h1 h2 h3
  funext i
  obtain ⟨R, C, rfl⟩ : ∃ (R : Fin 8704) (C : Fin 2048), i = ix2 R C := ⟨i 0, i 1, by funext b; fin_cases b <;> rfl⟩
  rw [v65_ix, v62_ix]
  show Cert.Gmlp.gV m c R C = _
  unfold Cert.Gmlp.gV
  have eC : (⟨C.val / 128 * 128 + C.val % 128, by omega⟩ : Fin 2048) = C := Fin.ext (by show C.val / 128 * 128 + C.val % 128 = C.val; omega)
  refine congrArg (fun z : EReal => _ * z) (congrArg (fun z : EReal => z + _) (Finset.sum_congr rfl fun k _ => congrArg (fun z : EReal => _ * z) ?_))
  have eR : (⟨128 * (R.val / 128) + k.val, by omega⟩ : Fin 8704) = ⟨R.val / 128 * 128 + k.val, by omega⟩ := Fin.ext (by show 128 * (R.val / 128) + k.val = R.val / 128 * 128 + k.val; omega)
  rw [v50_ix, eR]
  exact congrArg (fun z => normV (fun l => gelu (Cert.Gmlp.A0 m c (ix2 _ ⟨8192 + l.val, by omega⟩))) (Cert.Gmlp.A1 m c (ix2 0 z)) z) eC.symm

end Cert.GmlpRef

end
-- ==== Proof.NormMod.lean ====
/- What the modulated norm's run leaves: each row over the root of its mean square, times the gain, scaled and shifted. -/
module

public import proofs.«01_k».proof.Proof.Gen.Kernel8Ideal.Value
public import proofs.«01_k».proof.Proof.Blk
public import Idealize.ShloMosaic.Lib.Pointwise
public import Idealize.ShloMosaic.Lib.Writes

@[expose] public section

set_option maxRecDepth 16384

noncomputable section

namespace Cert.NormMod

open Cert.Kernel8Ideal Cert.Kernel8Ideal.Gen Cert.Kernel8Ideal.Value Idealize.ShloMosaic Idealize.ShloMosaic.TcCoe Idealize.SL.Sem
open Idealize.ShloMosaic.Pointwise

/-- An entry of a modulated row: the entry over the root of the row's mean square, times the gain, scaled and shifted. -/
def nmV (row : Fin 4096 → EReal) (g sh sc : EReal) (l : Fin 4096) : EReal :=
  row l * Ideal.rsqrt (Ideal.div (∑ k : Fin 4096, row k * row k) (Ideal.ofBits .f32 0x45800000#32) + Ideal.ofBits .f32 0x358637BD#32) * g
    * (1 + sc) + sh

theorem pay1_apply (x : Vec Ideal S512x4096 .f32) (g sc sh : Vec Ideal S1x1x4096 .f32) (r : Fin 512) (l : Fin 4096) :
    k0_pay1 (F := Ideal) x g sc sh (ix2 r l) = nmV (fun k => x (ix2 r k)) (g (ix3 0 0 l)) (sh (ix3 0 0 l)) (sc (ix3 0 0 l)) l := by
  unfold nmV
  pointwise [k0_pay1]

theorem pay2_apply (x : Vec Ideal S512x4096 .f32) (g sc sh : Vec Ideal S1x1x4096 .f32) (r : Fin 512) (l : Fin 4096) :
    k0_pay2 (F := Ideal) x g sc sh (ix2 r l) = nmV (fun k => x (ix2 r k)) (g (ix3 0 0 l)) (sh (ix3 0 0 l)) (sc (ix3 0 0 l)) l :=
  pay1_apply x g sc sh r l

section
variable (c : Dev nD) (i : grid0.Coords) (arg1 : Memref sig .tc .vmem S512x4096 .f32) (harg1 : arg1.IsWhole) (arg2 : Memref sig .tc .vmem S512x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S512x4096 .bf16) (harg6 : arg6.IsWhole)
  (x0 x1 : Vec Ideal S512x4096 .f32) (x2 x3 x4 : Vec Ideal S1x1x4096 .f32)

/-- A block's rows, modulated. -/
def nmB (x : Vec Ideal S512x4096 .f32) (g sh sc : Vec Ideal S1x1x4096 .f32) : S512x4096.Idx → EReal := fun y =>
  nmV (fun k => x (ix2 (y 0) k)) (g (ix3 0 0 (y 1))) (sh (ix3 0 0 (y 1))) (sc (ix3 0 0 (y 1))) (y 1)

/-- A point of the latent rows leaves their block, modulated. -/
theorem out_A (hc0 : cond0_0 i) (hc1 : ¬cond0_1 i) :
    out0_A_5 (F := Ideal) c i arg1 harg1 arg2 harg2 arg3 harg3 arg4 harg4 arg5 harg5 arg6 harg6 hc0 hc1 x0 x1 x2 x3 x4 = nmB x0 x2 x3 x4 := by
  funext y
  unfold out0_A_5
  refine View.read_writes_apply_of_pieces VO0_5 _ (nmB x0 x2 x3 x4) _ ?_ y (cover0_A_5 c i arg1 harg1 arg2 harg2 arg3 harg3 arg4 harg4 arg5 harg5 arg6 harg6 hc0 hc1 x0 x1 x2 x3 x4 y)
  unfold kernelRun0_A
  dsimp only
  intro p hp
  obtain rfl := List.mem_singleton.mp hp
  intro (x : S512x4096.Idx)
  obtain ⟨r, l, rfl⟩ : ∃ (r : Fin 512) (l : Fin 4096), x = ix2 r l := ⟨x 0, x 1, by funext b; fin_cases b <;> rfl⟩
  dsimp only
  rw [Blk.load_whole_of arg1.view _ x0 (harg1.read_unread x0) _ (by decide), Blk.load_whole_of arg3.view _ x2 (harg3.read_unread x2) _ (by decide),
    Blk.load_whole_of arg4.view _ x3 (harg4.read_unread x3) _ (by decide), Blk.load_whole_of arg5.view _ x4 (harg5.read_unread x4) _ (by decide),
    Blk.emb_whole _ (by decide)]
  exact pay1_apply x0 x2 x4 x3 r l

/-- A point of the context's rows leaves their block, modulated. -/
theorem out_B (hc0 : ¬cond0_0 i) (hc1 : cond0_1 i) :
    out0_B_5 (F := Ideal) c i arg1 harg1 arg2 harg2 arg3 harg3 arg4 harg4 arg5 harg5 arg6 harg6 hc0 hc1 x0 x1 x2 x3 x4 = nmB x1 x2 x3 x4 := by
  funext y
  unfold out0_B_5
  refine View.read_writes_apply_of_pieces VO0_5 _ (nmB x1 x2 x3 x4) _ ?_ y (cover0_B_5 c i arg1 harg1 arg2 harg2 arg3 harg3 arg4 harg4 arg5 harg5 arg6 harg6 hc0 hc1 x0 x1 x2 x3 x4 y)
  unfold kernelRun0_B
  dsimp only
  intro p hp
  obtain rfl := List.mem_singleton.mp hp
  intro (x : S512x4096.Idx)
  obtain ⟨r, l, rfl⟩ : ∃ (r : Fin 512) (l : Fin 4096), x = ix2 r l := ⟨x 0, x 1, by funext b; fin_cases b <;> rfl⟩
  dsimp only
  rw [Blk.load_whole_of arg2.view _ x1 (harg2.read_unread x1) _ (by decide), Blk.load_whole_of arg3.view _ x2 (harg3.read_unread x2) _ (by decide),
    Blk.load_whole_of arg4.view _ x3 (harg4.read_unread x3) _ (by decide), Blk.load_whole_of arg5.view _ x4 (harg5.read_unread x4) _ (by decide),
    Blk.emb_whole _ (by decide)]
  exact pay2_apply x1 x2 x4 x3 r l

end

/-- Point `t` is row block `t`; its modulation is that of its batch, the context's that of row 2. -/
theorem index_facts : ∀ t : Fin grid0.N,
    (win0_0.index t (0 : Fin 2) = min t.val 15 ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = 1)
    ∧ (win0_5.index t (0 : Fin 2) = t.val ∧ win0_5.index t (1 : Fin 2) = 0)
    ∧ (cfg0.win 5).flush t = true := by
  decide +kernel

section
variable (m : (ℓ : Loc nD τ sig) → Buf (Elt Ideal) ℓ) (c : Dev nD)

theorem lt17 (t : Fin cfg0.N) : t.val < 17 := lt_of_lt_of_eq t.isLt N_0

/-- The latent rows. -/
def A0 : S8192x4096.Idx → EReal := m ((c : Thread nD τ).loc main_arg0)
/-- The context's rows. -/
def A1 : S512x4096.Idx → EReal := m ((c : Thread nD τ).loc main_arg1)
/-- The gains. -/
def A2 : S2x4096.Idx → EReal := m ((c : Thread nD τ).loc main_arg2)
/-- The modulation. -/
def A3 : S8x24576.Idx → EReal := m ((c : Thread nD τ).loc main_arg3)

/-- The launch finds the modulation with a unit axis. -/
theorem V_mod : (V m c main_v0 : S8x1x24576.Idx → EReal) = shapeCast S8x1x24576 (A3 m c : Vec Ideal S8x24576 .f32) shapeCasts_S8x24576_S8x1x24576 := by
  show StableHlo.after (List.flatten [hostOps0]) (fun b => m (c, b)) (Proc.devRef .tc main_v0) = _
  simp only [List.flatten_cons, List.flatten_nil, List.append_nil, List.cons_append, List.nil_append]
  after_results
  rfl

theorem V_mod_apply (r : Fin 8) (l : Fin 24576) : (V m c main_v0 : S8x1x24576.Idx → EReal) (ix3 r 0 l) = A3 m c (ix2 r l) := by
  rw [V_mod]
  generalize A3 m c = y
  pointwise []

/-- And so it finds the gains. -/
theorem V_gain : (V m c main_v1 : S2x1x4096.Idx → EReal) = shapeCast S2x1x4096 (A2 m c : Vec Ideal S2x4096 .f32) shapeCasts_S2x4096_S2x1x4096 := by
  show StableHlo.after (List.flatten [hostOps0]) (fun b => m (c, b)) (Proc.devRef .tc main_v1) = _
  simp only [List.flatten_cons, List.flatten_nil, List.append_nil, List.cons_append, List.nil_append]
  after_results
  rfl

theorem V_gain_apply (r : Fin 2) (l : Fin 4096) : (V m c main_v1 : S2x1x4096.Idx → EReal) (ix3 r 0 l) = A2 m c (ix2 r l) := by
  rw [V_gain]
  generalize A2 m c = y
  pointwise []

theorem x0_apply (t : Fin cfg0.N) (ht : t.val < 16) (r : Fin 512) (k : Fin 4096) :
    (iblk m c 0 t : Vec Ideal S512x4096 .f32) (ix2 r k) = A0 m c (ix2 ⟨512 * t.val + r.val, by omega⟩ k) := by
  unfold iblk
  show V m c main_arg0 (((cfg0.win 0).blk t).view.emb _) = _
  rw [V_main_arg0]
  unfold A0
  congr 1
  have h := (index_facts t).1
  funext b; apply Fin.ext
  fin_cases b
  · show win0_0.index t (0 : Fin 2) * 512 + 1 * r.val = 512 * t.val + r.val; rw [h.1]; omega
  · show win0_0.index t (1 : Fin 2) * 4096 + 1 * k.val = k.val; rw [h.2]; omega

theorem x1_apply (t : Fin cfg0.N) (r : Fin 512) (k : Fin 4096) :
    (iblk m c 1 t : Vec Ideal S512x4096 .f32) (ix2 r k) = A1 m c (ix2 r k) := by
  unfold iblk
  show V m c main_arg1 (((cfg0.win 1).blk t).view.emb _) = _
  rw [V_main_arg1]
  unfold A1
  congr 1
  have h := (index_facts t).2.1
  funext b; apply Fin.ext
  fin_cases b
  · show win0_1.index t (0 : Fin 2) * 512 + 1 * r.val = r.val; rw [h.1]; omega
  · show win0_1.index t (1 : Fin 2) * 4096 + 1 * k.val = k.val; rw [h.2]; omega

theorem x2_apply (t : Fin cfg0.N) (l : Fin 4096) :
    (iblk m c 2 t : Vec Ideal S1x1x4096 .f32) (ix3 0 0 l) = A2 m c (ix2 0 l) := by
  rw [← V_gain_apply]
  unfold iblk
  show V m c main_v1 (((cfg0.win 2).blk t).view.emb _) = _
  congr 1
  have h := (index_facts t).2.2.1
  funext b; apply Fin.ext
  fin_cases b
  · show win0_2.index t (0 : Fin 3) * 1 + 1 * 0 = 0; rw [h.1]
  · show win0_2.index t (1 : Fin 3) * 1 + 1 * 0 = 0; rw [h.2.1]
  · show win0_2.index t (2 : Fin 3) * 4096 + 1 * l.val = l.val; rw [h.2.2]; omega

theorem x3_apply (t : Fin cfg0.N) (l : Fin 4096) :
    (iblk m c 3 t : Vec Ideal S1x1x4096 .f32) (ix3 0 0 l) = A3 m c (ix2 (Fin.ofNat 8 (t.val / 8)) (Fin.ofNat 24576 l.val)) := by
  rw [← V_mod_apply]
  unfold iblk
  show V m c main_v0 (((cfg0.win 3).blk t).view.emb _) = _
  congr 1
  have h := (index_facts t).2.2.2.1
  have ht := lt17 t
  funext b; apply Fin.ext
  fin_cases b
  · show win0_3.index t (0 : Fin 3) * 1 + 1 * 0 = t.val / 8 % 8; rw [h.1]; omega
  · show win0_3.index t (1 : Fin 3) * 1 + 1 * 0 = 0; rw [h.2.1]
  · show win0_3.index t (2 : Fin 3) * 4096 + 1 * l.val = l.val % 24576; rw [h.2.2]; omega

theorem x4_apply (t : Fin cfg0.N) (l : Fin 4096) :
    (iblk m c 4 t : Vec Ideal S1x1x4096 .f32) (ix3 0 0 l) = A3 m c (ix2 (Fin.ofNat 8 (t.val / 8)) (Fin.ofNat 24576 (4096 + l.val))) := by
  rw [← V_mod_apply]
  unfold iblk
  show V m c main_v0 (((cfg0.win 4).blk t).view.emb _) = _
  congr 1
  have h := (index_facts t).2.2.2.2.1
  have ht := lt17 t
  funext b; apply Fin.ext
  fin_cases b
  · show win0_4.index t (0 : Fin 3) * 1 + 1 * 0 = t.val / 8 % 8; rw [h.1]; omega
  · show win0_4.index t (1 : Fin 3) * 1 + 1 * 0 = 0; rw [h.2.1]
  · show win0_4.index t (2 : Fin 3) * 4096 + 1 * l.val = (4096 + l.val) % 24576; rw [h.2.2]; omega

/-- Row `a` of the latent rows and the context's below them. -/
def rowV (a : ℕ) : Fin 4096 → EReal := fun k =>
  if a < 8192 then A0 m c (ix2 (Fin.ofNat 8192 a) k) else A1 m c (ix2 (Fin.ofNat 512 (a - 8192)) k)

/-- The rows, modulated. -/
def G : S8704x4096.Idx → EReal := fun i =>
  nmV (rowV m c (i 0).val) (A2 m c (ix2 0 (i 1))) (A3 m c (ix2 (Fin.ofNat 8 ((i 0).val / 4096)) (Fin.ofNat 24576 (i 1).val)))
    (A3 m c (ix2 (Fin.ofNat 8 ((i 0).val / 4096)) (Fin.ofNat 24576 (4096 + (i 1).val)))) (i 1)

/-- What a point leaves, at an index. -/
theorem block_apply (t : Fin cfg0.N) (r : Fin 512) (l : Fin 4096) :
    nmB (if t.val < 16 then (iblk m c 0 t : Vec Ideal S512x4096 .f32) else iblk m c 1 t) (iblk m c 2 t) (iblk m c 3 t) (iblk m c 4 t) (ix2 r l)
      = G m c (ix2 ⟨512 * t.val + r.val, by have := lt17 t; omega⟩ l) := by
  have ht := lt17 t
  show nmV (fun k => (if t.val < 16 then (iblk m c 0 t : Vec Ideal S512x4096 .f32) else iblk m c 1 t) (ix2 r k)) ((iblk m c 2 t : Vec Ideal S1x1x4096 .f32) (ix3 0 0 l)) ((iblk m c 3 t : Vec Ideal S1x1x4096 .f32) (ix3 0 0 l)) ((iblk m c 4 t : Vec Ideal S1x1x4096 .f32) (ix3 0 0 l)) l
    = nmV (rowV m c (512 * t.val + r.val)) (A2 m c (ix2 0 l)) (A3 m c (ix2 (Fin.ofNat 8 ((512 * t.val + r.val) / 4096)) (Fin.ofNat 24576 l.val)))
        (A3 m c (ix2 (Fin.ofNat 8 ((512 * t.val + r.val) / 4096)) (Fin.ofNat 24576 (4096 + l.val)))) l
  rw [x2_apply, x3_apply, x4_apply, show (512 * t.val + r.val) / 4096 = t.val / 8 by omega]
  congr 1
  funext k
  unfold rowV
  by_cases h : t.val < 16
  · rw [if_pos h, if_pos (by omega), x0_apply m c t h]
    exact congrArg (fun z => A0 m c (ix2 z k)) (Fin.ext (by show 512 * t.val + r.val = (512 * t.val + r.val) % 8192; omega))
  · rw [if_neg h, if_neg (by omega), x1_apply]
    exact congrArg (fun z => A1 m c (ix2 z k)) (Fin.ext (by show r.val = (512 * t.val + r.val - 8192) % 512; omega))

/-- What a point writes back is its block of the modulated rows. -/
theorem flushed_eq (t : Fin cfg0.N) : (dats m 0 c).flushed 5 t = ((cfg0.win 5).blk t).view.read (Elt Ideal) (G m c) := by
  have ht := lt17 t
  have h := (index_facts t).2.2.2.2.2.1
  have hb : (dats m 0 c).flushed 5 t = (cfg0.win 5).cut (grid0.coords t)
      (nmB (if t.val < 16 then (iblk m c 0 t : Vec Ideal S512x4096 .f32) else iblk m c 1 t) (iblk m c 2 t) (iblk m c 3 t) (iblk m c 4 t)) := by
    by_cases h0 : t.val < 16
    · rw [flushed5_A m c t h0 (by omega), out_A, if_pos h0]
    · rw [flushed5_B m c t h0 (by omega), out_B, if_neg h0]
  rw [hb]
  funext (y : S512x4096.Idx)
  obtain ⟨r, l, rfl⟩ : ∃ (r : Fin 512) (l : Fin 4096), y = ix2 r l := ⟨y 0, y 1, by funext b; fin_cases b <;> rfl⟩
  have e : ((cfg0.win 5).blk t).view.emb (ix2 r l) = (ix2 ⟨512 * t.val + r.val, by omega⟩ l : S8704x4096.Idx) := by
    funext b; apply Fin.ext
    fin_cases b
    · show win0_5.index t (0 : Fin 2) * 512 + 1 * r.val = 512 * t.val + r.val; rw [h.1]; omega
    · show win0_5.index t (1 : Fin 2) * 4096 + 1 * l.val = l.val; rw [h.2]; omega
  show nmB _ _ _ _ (ix2 r l) = G m c (((cfg0.win 5).blk t).view.emb (ix2 r l))
  rw [e]
  exact block_apply m c t r l

theorem mem_blk (t : Fin cfg0.N) (i : S8704x4096.Idx) :
    i ∈ ((cfg0.win 5).blk t).view.set ↔ ∀ a : Fin 2, win0_5.index t a * S512x4096.size a ≤ (i a).val ∧ (i a).val < win0_5.index t a * S512x4096.size a + S512x4096.size a := by
  show i ∈ ((View.whole main_v2).slice (win0_5.rect t)).set ↔ _
  rw [View.set_slice_whole, Rect.mem_set_unit]
  exact Iff.rfl

/-- The result array after the run. -/
theorem final : (dats m 0 c).arrAt 5 cfg0.N = G m c :=
  (dats m 0 c).arrAt_eq_of_cover 5 _ (fun t _ => flushed_eq m c t) (fun (i : S8704x4096.Idx) => by
    have h0 : (i 0).val < 8704 := (i 0).isLt
    have h1 : (i 1).val < 4096 := (i 1).isLt
    obtain ⟨t, ht⟩ : ∃ t : Fin cfg0.N, t.val = (i 0).val / 512 := ⟨⟨(i 0).val / 512, lt_of_lt_of_eq (by omega) (show 17 = cfg0.N from N_0.symm)⟩, rfl⟩
    obtain ⟨e0, e1⟩ := (index_facts t).2.2.2.2.2.1
    refine ⟨t, (index_facts t).2.2.2.2.2.2, ?_⟩
    rw [mem_blk]
    intro a
    match a with
    | ⟨0, _⟩ => show win0_5.index t (0 : Fin 2) * 512 ≤ (i 0).val ∧ (i 0).val < win0_5.index t (0 : Fin 2) * 512 + 512; rw [e0]; omega
    | ⟨1, _⟩ => show win0_5.index t (1 : Fin 2) * 4096 ≤ (i 1).val ∧ (i 1).val < win0_5.index t (1 : Fin 2) * 4096 + 4096; rw [e1]; omega)

/-- The run, with its result named. -/
theorem run (ρ : Dev nD → PrngReg) : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end

end Cert.NormMod

end
-- ==== Proof.NormModRef.lean ====
/- The modulated norm and its reference end with equal results. -/
module

public import proofs.«01_k».proof.Proof.NormMod
public import proofs.«01_k».proof.Proof.Gen.Reference8Ideal.Read

@[expose] public section

set_option maxRecDepth 16384

noncomputable section

namespace Cert.NormModRef

open Idealize.ShloMosaic Idealize.ShloMosaic.TcCoe Idealize.SL.Sem
open Idealize.ShloMosaic.Pointwise
open Cert.Reference8Ideal Cert.Reference8Ideal.Gen Cert.Reference8Ideal.Read
open Cert.NormMod (nmV)

variable (x0 : (⟨S8192x4096, .f32⟩ : BufTy).Contents (Elt Ideal)) (x1 : (⟨S512x4096, .f32⟩ : BufTy).Contents (Elt Ideal))
  (x2 : (⟨S2x4096, .f32⟩ : BufTy).Contents (Elt Ideal)) (x3 : (⟨S8x24576, .f32⟩ : BufTy).Contents (Elt Ideal))

/-- The latent rows by batch, at an index. -/
theorem v2_ix (b : Fin 2) (a : Fin 4096) (l : Fin 4096) : val_main_v2 (F := Ideal) x0 (ix3 b a l) = x0 (ix2 ⟨b.val * 4096 + a.val, by omega⟩ l) := by
  pointwise [val_main_v2]

/-- The root of a latent row's mean square. -/
theorem v12_ix (b : Fin 2) (a : Fin 4096) : val_main_v12 (F := Ideal) x0 (ix3 b a 0)
    = Ideal.rsqrt (Ideal.div (∑ k : Fin 4096, val_main_v2 (F := Ideal) x0 (ix3 b a k) * val_main_v2 (F := Ideal) x0 (ix3 b a k)) (Ideal.ofBits .f32 0x45800000#32) + Ideal.ofBits .f32 0x358637BD#32) := by
  unfold val_main_v12 val_main_v11 val_main_v10 val_main_v9 val_main_v8 val_main_v7 val_main_v6 val_main_v5
  generalize val_main_v2 (F := Ideal) x0 = y
  pointwise [val_main_cst, val_main_cst_0, val_main_cst_1]

/-- A latent row at an index. -/
theorem v27_ix (b : Fin 2) (a : Fin 4096) (l : Fin 4096) : val_main_v27 (F := Ideal) x0 x2 x3 (ix3 b a l)
    = nmV (fun k => x0 (ix2 ⟨b.val * 4096 + a.val, by omega⟩ k)) (x2 (ix2 0 l)) (x3 (ix2 ⟨b.val, by omega⟩ ⟨l.val, by omega⟩)) (x3 (ix2 ⟨b.val, by omega⟩ ⟨4096 + l.val, by omega⟩)) l := by
  have hz := v2_ix x0
  have hy := v12_ix x0
  unfold nmV
  unfold val_main_v27 val_main_v26 val_main_v25 val_main_v24 val_main_v23 val_main_v22 val_main_v21 val_main_v20 val_main_v19 val_main_v18 val_main_v17 val_main_v16 val_main_v15 val_main_v14 val_main_v13
    val_main_v4 val_main_v3 val_main_v1 val_main_v0 val_main_cst_2
  generalize val_main_v12 (F := Ideal) x0 = y at hy ⊢
  generalize val_main_v2 (F := Ideal) x0 = z at hy hz ⊢
  pointwise []
  simp only [hy, hz]

/-- The root of a context row's mean square. -/
theorem v37_ix (a : Fin 512) : val_main_v37 (F := Ideal) x1 (ix2 a 0)
    = Ideal.rsqrt (Ideal.div (∑ k : Fin 4096, x1 (ix2 a k) * x1 (ix2 a k)) (Ideal.ofBits .f32 0x45800000#32) + Ideal.ofBits .f32 0x358637BD#32) := by
  pointwise [val_main_v37, val_main_v36, val_main_v35, val_main_v34, val_main_v33, val_main_v32, val_main_v31, val_main_v30, val_main_cst_3, val_main_cst_4, val_main_cst_5]

/-- A context row at an index. -/
theorem v54_ix (a : Fin 512) (l : Fin 4096) : val_main_v54 (F := Ideal) x1 x2 x3 (ix2 a l)
    = nmV (fun k => x1 (ix2 a k)) (x2 (ix2 0 l)) (x3 (ix2 2 ⟨l.val, by omega⟩)) (x3 (ix2 2 ⟨4096 + l.val, by omega⟩)) l := by
  have hy := v37_ix x1
  unfold nmV
  unfold val_main_v54 val_main_v53 val_main_v52 val_main_v51 val_main_v50 val_main_v49 val_main_v48 val_main_v47 val_main_v46 val_main_v45 val_main_v44 val_main_v43 val_main_v42 val_main_v41 val_main_v40 val_main_v39 val_main_v38
    val_main_v29 val_main_v28 val_main_v1 val_main_v0 val_main_cst_6
  generalize val_main_v37 (F := Ideal) x1 = y at hy ⊢
  pointwise []
  simp only [hy]

/-- The latent rows, one below the other. -/
theorem v55_ix (a : Fin 8192) (l : Fin 4096) : val_main_v55 (F := Ideal) x0 x2 x3 (ix2 a l)
    = val_main_v27 (F := Ideal) x0 x2 x3 (ix3 ⟨a.val / 4096, by omega⟩ ⟨a.val % 4096, by omega⟩ l) := by
  unfold val_main_v55
  generalize val_main_v27 (F := Ideal) x0 x2 x3 = y
  pointwise []

/-- The rows of the two parts. -/
theorem cat_ix (a : Fin 8704) (l : Fin 4096) : val_main_v57 (F := Ideal) x0 x1 x2 x3 (ix2 a l)
    = if h : a.val < 8192 then val_main_v55 (F := Ideal) x0 x2 x3 (ix2 ⟨a.val, h⟩ l) else val_main_v54 (F := Ideal) x1 x2 x3 (ix2 ⟨a.val - 8192, by omega⟩ l) := by
  unfold val_main_v57 val_main_v56
  generalize val_main_v55 (F := Ideal) x0 x2 x3 = y13
  generalize val_main_v54 (F := Ideal) x1 x2 x3 = y20
  pointwise []

/-- From equal arguments, the kernel's result is the reference's. -/
theorem result_eq (m : (ℓ : Loc Cert.Kernel8Ideal.nD Cert.Kernel8Ideal.τ Cert.Kernel8Ideal.sig) → Buf (Elt Ideal) ℓ) (c : Dev Cert.Kernel8Ideal.nD)
    (h0 : x0 = Cert.NormMod.A0 m c) (h1 : x1 = Cert.NormMod.A1 m c) (h2 : x2 = Cert.NormMod.A2 m c) (h3 : x3 = Cert.NormMod.A3 m c) :
    (Cert.NormMod.G m c : S8704x4096.Idx → EReal) = val_main_v57 (F := Ideal) x0 x1 x2 x3 := by
  subst h0 h1 h2 h3
  funext i
  obtain ⟨a, l, rfl⟩ : ∃ (a : Fin 8704) (l : Fin 4096), i = ix2 a l := ⟨i 0, i 1, by funext b; fin_cases b <;> rfl⟩
  show nmV (Cert.NormMod.rowV m c a.val) (Cert.NormMod.A2 m c (ix2 0 l)) (Cert.NormMod.A3 m c (ix2 (Fin.ofNat 8 (a.val / 4096)) (Fin.ofNat 24576 l.val)))
    (Cert.NormMod.A3 m c (ix2 (Fin.ofNat 8 (a.val / 4096)) (Fin.ofNat 24576 (4096 + l.val)))) l = _
  have e1 : Fin.ofNat 24576 l.val = (⟨l.val, by omega⟩ : Fin 24576) := by apply Fin.ext; show l.val % 24576 = l.val; omega
  have e2 : Fin.ofNat 24576 (4096 + l.val) = (⟨4096 + l.val, by omega⟩ : Fin 24576) := by apply Fin.ext; show (4096 + l.val) % 24576 = 4096 + l.val; omega
  rw [cat_ix, e1, e2]
  by_cases h : a.val < 8192
  · rw [dif_pos h, v55_ix, v27_ix]
    have e3 : Fin.ofNat 8 (a.val / 4096) = (⟨a.val / 4096, by omega⟩ : Fin 8) := by apply Fin.ext; show a.val / 4096 % 8 = a.val / 4096; omega
    rw [e3]
    congr 1
    funext k
    unfold Cert.NormMod.rowV
    rw [if_pos h]
    exact congrArg (fun z => Cert.NormMod.A0 m c (ix2 z k)) (Fin.ext (by show a.val % 8192 = a.val / 4096 * 4096 + a.val % 4096; omega))
  · rw [dif_neg h, v54_ix]
    have e3 : Fin.ofNat 8 (a.val / 4096) = (2 : Fin 8) := by apply Fin.ext; show a.val / 4096 % 8 = 2; omega
    rw [e3]
    congr 1
    funext k
    unfold Cert.NormMod.rowV
    rw [if_neg h]
    exact congrArg (fun z => Cert.NormMod.A1 m c (ix2 z k)) (Fin.ext (by show (a.val - 8192) % 512 = a.val - 8192; omega))

end Cert.NormModRef

end
-- ==== Proof.Ada.lean ====
/- What the modulation's run leaves: a row of conditions through silu, times the first layer's weight, plus its bias. -/
module

public import proofs.«01_k».proof.Proof.Gen.Kernel9Ideal.Value
public import proofs.«01_k».proof.Proof.Blk
public import Idealize.ShloMosaic.Lib.Pointwise

@[expose] public section

set_option maxRecDepth 16384

noncomputable section

namespace Cert.Ada

open Cert.Kernel9Ideal Cert.Kernel9Ideal.Gen Cert.Kernel9Ideal.Value Idealize.ShloMosaic Idealize.ShloMosaic.TcCoe Idealize.SL.Sem
open Idealize.ShloMosaic.Pointwise

/-- A point's block at an index. -/
theorem pay1_apply (x : Vec Ideal S8x4096 .f32) (w : Vec Ideal S1x4096x512 .f32) (b : Vec Ideal S1x1x512 .f32) (r : Fin 8) (l : Fin 512) :
    k0_pay1 (F := Ideal) x w b (ix2 r l) = (∑ k : Fin 4096, (x (ix2 r k) * Ideal.logistic (x (ix2 r k))) * w (ix3 0 k l)) + b (ix3 0 0 l) := by
  pointwise [k0_pay1]

/-- What a point leaves. -/
theorem out_eq (x : Vec Ideal S8x4096 .f32) (w : Vec Ideal S1x4096x512 .f32) (b : Vec Ideal S1x1x512 .f32) :
    out0_3 (F := Ideal) x w b = k0_pay1 (F := Ideal) x w b := by
  unfold out0_3
  rw [Blk.ld_whole x _ (by decide), Blk.ld_whole w _ (by decide), Blk.ld_whole b _ (by decide)]
  funext y
  have h := View.canon_cons_emb (Val := Elt Ideal) (e := .f32) r0_3 (k0_pay1 (F := Ideal) x w b) [] y
  rwa [Blk.emb_whole _ (by decide)] at h

/-- Point `t` is column block `t`. -/
theorem index_facts : ∀ t : Fin grid0.N,
    (win0_0.index t (0 : Fin 2) = 0 ∧ win0_0.index t (1 : Fin 2) = 0)
    ∧ (win0_1.index t (0 : Fin 3) = 0 ∧ win0_1.index t (1 : Fin 3) = 0 ∧ win0_1.index t (2 : Fin 3) = t.val)
    ∧ (win0_2.index t (0 : Fin 3) = 0 ∧ win0_2.index t (1 : Fin 3) = 0 ∧ win0_2.index t (2 : Fin 3) = t.val)
    ∧ (win0_3.index t (0 : Fin 2) = 0 ∧ win0_3.index t (1 : Fin 2) = t.val)
    ∧ (cfg0.win 3).flush t = true := by
  decide +kernel

section
variable (m : (ℓ : Loc nD τ sig) → Buf (Elt Ideal) ℓ) (c : Dev nD)

theorem lt48 (t : Fin cfg0.N) : t.val < 48 := lt_of_lt_of_eq t.isLt N_0

/-- The conditions. -/
def A0 : S8x4096.Idx → EReal := m ((c : Thread nD τ).loc main_arg0)
/-- The weights. -/
def A1 : S2x4096x24576.Idx → EReal := m ((c : Thread nD τ).loc main_arg1)
/-- The biases. -/
def A2 : S2x24576.Idx → EReal := m ((c : Thread nD τ).loc main_arg2)

/-- The launch finds the biases with a unit axis. -/
theorem V_bias : (V m c main_v0 : S2x1x24576.Idx → EReal) = shapeCast S2x1x24576 (A2 m c : Vec Ideal S2x24576 .f32) shapeCasts_S2x24576_S2x1x24576 := by
  show StableHlo.after (List.flatten [hostOps0]) (fun b => m (c, b)) (Proc.devRef .tc main_v0) = _
  simp only [List.flatten_cons, List.flatten_nil, List.append_nil, List.cons_append, List.nil_append]
  after_results
  rfl

theorem V_bias_apply (r : Fin 2) (l : Fin 24576) : (V m c main_v0 : S2x1x24576.Idx → EReal) (ix3 r 0 l) = A2 m c (ix2 r l) := by
  rw [V_bias]
  generalize A2 m c = y
  pointwise []

theorem x0_apply (t : Fin cfg0.N) (r : Fin 8) (k : Fin 4096) :
    (iblk m c 0 t : Vec Ideal S8x4096 .f32) (ix2 r k) = A0 m c (ix2 r k) := by
  unfold iblk
  show V m c main_arg0 (((cfg0.win 0).blk t).view.emb _) = _
  rw [V_main_arg0]
  unfold A0
  congr 1
  have h := (index_facts t).1
  funext b; apply Fin.ext
  fin_cases b
  · show win0_0.index t (0 : Fin 2) * 8 + 1 * r.val = r.val; rw [h.1]; omega
  · show win0_0.index t (1 : Fin 2) * 4096 + 1 * k.val = k.val; rw [h.2]; omega

theorem x1_apply (t : Fin cfg0.N) (k : Fin 4096) (l : Fin 512) :
    (iblk m c 1 t : Vec Ideal S1x4096x512 .f32) (ix3 0 k l) = A1 m c (ix3 0 k ⟨512 * t.val + l.val, by have := lt48 t; omega⟩) := by
  unfold iblk
  show V m c main_arg1 (((cfg0.win 1).blk t).view.emb _) = _
  rw [V_main_arg1]
  unfold A1
  congr 1
  have h := (index_facts t).2.1
  funext b; apply Fin.ext
  fin_cases b
  · show win0_1.index t (0 : Fin 3) * 1 + 1 * 0 = 0; rw [h.1]
  · show win0_1.index t (1 : Fin 3) * 4096 + 1 * k.val = k.val; rw [h.2.1]; omega
  · show win0_1.index t (2 : Fin 3) * 512 + 1 * l.val = 512 * t.val + l.val; rw [h.2.2]; omega

theorem x2_apply (t : Fin cfg0.N) (l : Fin 512) :
    (iblk m c 2 t : Vec Ideal S1x1x512 .f32) (ix3 0 0 l) = A2 m c (ix2 0 ⟨512 * t.val + l.val, by have := lt48 t; omega⟩) := by
  rw [← V_bias_apply]
  unfold iblk
  show V m c main_v0 (((cfg0.win 2).blk t).view.emb _) = _
  congr 1
  have h := (index_facts t).2.2.1
  funext b; apply Fin.ext
  fin_cases b
  · show win0_2.index t (0 : Fin 3) * 1 + 1 * 0 = 0; rw [h.1]
  · show win0_2.index t (1 : Fin 3) * 1 + 1 * 0 = 0; rw [h.2.1]
  · show win0_2.index t (2 : Fin 3) * 512 + 1 * l.val = 512 * t.val + l.val; rw [h.2.2]; omega

/-- The modulation: silu of the conditions, times the first layer's weight, plus its bias. -/
def G : S8x24576.Idx → EReal := fun i =>
  (∑ k : Fin 4096, (A0 m c (ix2 (i 0) k) * Ideal.logistic (A0 m c (ix2 (i 0) k))) * A1 m c (ix3 0 k (i 1))) + A2 m c (ix2 0 (i 1))

/-- What a point writes back is its block of the modulation. -/
theorem flushed_eq (t : Fin cfg0.N) : (dats m 0 c).flushed 3 t = ((cfg0.win 3).blk t).view.read (Elt Ideal) (G m c) := by
  rw [flushed3, out_eq]
  have h := (index_facts t).2.2.2.1
  have ht := lt48 t
  funext (y : S8x512.Idx)
  obtain ⟨r, l, rfl⟩ : ∃ (r : Fin 8) (l : Fin 512), y = ix2 r l := ⟨y 0, y 1, by funext b; fin_cases b <;> rfl⟩
  have e : ((cfg0.win 3).blk t).view.emb (ix2 r l) = (ix2 r ⟨512 * t.val + l.val, by omega⟩ : S8x24576.Idx) := by
    funext b; apply Fin.ext
    fin_cases b
    · show win0_3.index t (0 : Fin 2) * 8 + 1 * r.val = r.val; rw [h.1]; omega
    · show win0_3.index t (1 : Fin 2) * 512 + 1 * l.val = 512 * t.val + l.val; rw [h.2]; omega
  show k0_pay1 (F := Ideal) _ _ _ (ix2 r l) = G m c (((cfg0.win 3).blk t).view.emb (ix2 r l))
  rw [e]
  refine (pay1_apply _ _ _ r l).trans ?_
  exact congrArg₂ (fun a b : EReal => a + b)
    (Finset.sum_congr rfl fun k _ => congrArg₂ (fun a b : EReal => (a * Ideal.logistic a) * b) (x0_apply m c t r k) (x1_apply m c t k l)) (x2_apply m c t l)

theorem mem_blk (t : Fin cfg0.N) (i : S8x24576.Idx) :
    i ∈ ((cfg0.win 3).blk t).view.set ↔ ∀ a : Fin 2, win0_3.index t a * S8x512.size a ≤ (i a).val ∧ (i a).val < win0_3.index t a * S8x512.size a + S8x512.size a := by
  show i ∈ ((View.whole main_v1).slice (win0_3.rect t)).set ↔ _
  rw [View.set_slice_whole, Rect.mem_set_unit]
  exact Iff.rfl

/-- The result array after the run. -/
theorem final : (dats m 0 c).arrAt 3 cfg0.N = G m c :=
  (dats m 0 c).arrAt_eq_of_cover 3 _ (fun t _ => flushed_eq m c t) (fun (i : S8x24576.Idx) => by
    have h0 : (i 0).val < 8 := (i 0).isLt
    have h1 : (i 1).val < 24576 := (i 1).isLt
    obtain ⟨t, ht⟩ : ∃ t : Fin cfg0.N, t.val = (i 1).val / 512 := ⟨⟨(i 1).val / 512, lt_of_lt_of_eq (by omega) (show 48 = cfg0.N from N_0.symm)⟩, rfl⟩
    obtain ⟨e0, e1⟩ := (index_facts t).2.2.2.1
    refine ⟨t, (index_facts t).2.2.2.2, ?_⟩
    rw [mem_blk]
    intro a
    match a with
    | ⟨0, _⟩ => show win0_3.index t (0 : Fin 2) * 8 ≤ (i 0).val ∧ (i 0).val < win0_3.index t (0 : Fin 2) * 8 + 8; rw [e0]; omega
    | ⟨1, _⟩ => show win0_3.index t (1 : Fin 2) * 512 ≤ (i 1).val ∧ (i 1).val < win0_3.index t (1 : Fin 2) * 512 + 512; rw [e1]; omega)

/-- The run, with its result named. -/
theorem run (ρ : Dev nD → PrngReg) : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end

end Cert.Ada

end
-- ==== Proof.AdaRef.lean ====
/- The modulation and its reference end with equal results. -/
module

public import proofs.«01_k».proof.Proof.Ada
public import proofs.«01_k».proof.Proof.Gen.Reference9Ideal.Read

@[expose] public section

set_option maxRecDepth 16384

noncomputable section

namespace Cert.AdaRef

open Idealize.ShloMosaic Idealize.ShloMosaic.TcCoe Idealize.SL.Sem
open Idealize.ShloMosaic.Pointwise
open Cert.Reference9Ideal Cert.Reference9Ideal.Gen Cert.Reference9Ideal.Read

variable (x0 : (⟨S8x4096, .f32⟩ : BufTy).Contents (Elt Ideal)) (x1 : (⟨S2x4096x24576, .f32⟩ : BufTy).Contents (Elt Ideal)) (x2 : (⟨S2x24576, .f32⟩ : BufTy).Contents (Elt Ideal))

/-- Silu at an index. -/
theorem silu_ix (a : Fin 8) (k : Fin 4096) : val_main_v0 (F := Ideal) x0 (ix2 a k) = x0 (ix2 a k) * Ideal.logistic (x0 (ix2 a k)) := by
  pointwise [val_main_v0, val_main_call0_v5, val_main_call0_v4, val_main_call0_cst_0, val_main_call0_v3, val_main_call0_v2, val_main_call0_cst, val_main_call0_v1, val_main_call0_v0]
  rfl

/-- The reference at an index. -/
theorem ref_apply (a : Fin 8) (b : Fin 24576) : val_main_v8 (F := Ideal) x0 x1 x2 (ix2 a b)
    = (∑ k : Fin 4096, (x0 (ix2 a k) * Ideal.logistic (x0 (ix2 a k))) * x1 (ix3 0 k b)) + x2 (ix2 0 b) := by
  have hy := silu_ix x0
  unfold val_main_v8 val_main_v7 val_main_v6 val_main_v5 val_main_v4 val_main_v3
  generalize val_main_v0 (F := Ideal) x0 = y at hy ⊢
  pointwise [val_main_v2, val_main_v1]
  simp only [hy]

/-- From equal arguments, the kernel's result is the reference's. -/
theorem result_eq (m : (ℓ : Loc Cert.Kernel9Ideal.nD Cert.Kernel9Ideal.τ Cert.Kernel9Ideal.sig) → Buf (Elt Ideal) ℓ) (c : Dev Cert.Kernel9Ideal.nD)
    (h0 : x0 = Cert.Ada.A0 m c) (h1 : x1 = Cert.Ada.A1 m c) (h2 : x2 = Cert.Ada.A2 m c) :
    (Cert.Ada.G m c : S8x24576.Idx → EReal) = val_main_v8 (F := Ideal) x0 x1 x2 := by
  subst h0 h1 h2
  funext i
  obtain ⟨a, b, rfl⟩ : ∃ (a : Fin 8) (b : Fin 24576), i = ix2 a b := ⟨i 0, i 1, by funext b; fin_cases b <;> rfl⟩
  rw [ref_apply]
  rfl

end Cert.AdaRef

end
-- ==== Proof.Router.lean ====
/- What the second norm's run leaves: the modulated rows, and the router's logits as three products of halves. -/
module

public import proofs.«01_k».proof.Proof.Gen.Kernel10Ideal.Value
public import proofs.«01_k».proof.Proof.Blk
public import proofs.«01_k».proof.Proof.NormMod
public import Idealize.ShloMosaic.Lib.Pointwise

@[expose] public section

set_option maxRecDepth 16384

noncomputable section

namespace Cert.Router

open Cert.Kernel10Ideal Cert.Kernel10Ideal.Gen Cert.Kernel10Ideal.Value Idealize.ShloMosaic Idealize.ShloMosaic.TcCoe Idealize.SL.Sem
open Idealize.ShloMosaic.Pointwise
open Cert.NormMod (nmV)

theorem pay2_apply (x : Vec Ideal S512x4096 .f32) (g sc sh : Vec Ideal S1x1x4096 .f32) (r : Fin 512) (l : Fin 4096) :
    k0_pay2 (F := Ideal) x g sc sh (ix2 r l) = nmV (fun k => x (ix2 r k)) (g (ix3 0 0 l)) (sh (ix3 0 0 l)) (sc (ix3 0 0 l)) l := by
  unfold nmV
  pointwise [k0_pay2]

/-- A logit from a row and an expert's column: the product, and those of what a cast leaves of either. -/
def lgV (h w : Fin 4096 → EReal) : EReal :=
  (∑ k : Fin 4096, h k * w k) + (∑ k : Fin 4096, (h k - h k) * w k) + ∑ k : Fin 4096, h k * (w k - w k)

theorem pay1_apply (x : Vec Ideal S512x4096 .f32) (g sc sh : Vec Ideal S1x1x4096 .f32) (w : Vec Ideal S4096x128 .f32) (e : Fin 16) (r : Fin 512) :
    k0_pay1 (F := Ideal) (k0_pay3 x g sc sh) (k0_pay4 x g sc sh) (k0_pay6 w) (k0_pay7 w) (k0_pay8 x g sc sh w) (constant S512x128 .f32 0x00000000#32) (ix2 e r)
      = lgV (fun k => k0_pay2 (F := Ideal) x g sc sh (ix2 r k)) (fun k => w (ix2 k ⟨e.val, by omega⟩)) := by
  unfold lgV k0_pay8 k0_pay7 k0_pay6 k0_pay5 k0_pay4 k0_pay3
  generalize k0_pay2 (F := Ideal) x g sc sh = h
  pointwise [k0_pay1]

/-- What a point leaves of the rows. -/
theorem out5_eq (x : Vec Ideal S512x4096 .f32) (g sh sc : Vec Ideal S1x1x4096 .f32) (w : Vec Ideal S4096x128 .f32) :
    out0_5 (F := Ideal) x g sh sc w = k0_pay2 (F := Ideal) x g sc sh := by
  unfold out0_5
  rw [Blk.ld_whole x _ (by decide), Blk.ld_whole g _ (by decide), Blk.ld_whole sh _ (by decide), Blk.ld_whole sc _ (by decide)]
  funext y
  have h := View.canon_cons_emb (Val := Elt Ideal) (e := .f32) r0_0 (k0_pay2 (F := Ideal) x g sc sh) [] y
  rwa [Blk.emb_whole _ (by decide)] at h

/-- What a point leaves of the logits. -/
theorem out6_eq (x : Vec Ideal S512x4096 .f32) (g sh sc : Vec Ideal S1x1x4096 .f32) (w : Vec Ideal S4096x128 .f32) :
    out0_6 (F := Ideal) x g sh sc w
      = k0_pay1 (F := Ideal) (k0_pay3 x g sc sh) (k0_pay4 x g sc sh) (k0_pay6 w) (k0_pay7 w) (k0_pay8 x g sc sh w) (constant S512x128 .f32 0x00000000#32) := by
  unfold out0_6
  rw [Blk.ld_whole x _ (by decide), Blk.ld_whole g _ (by decide), Blk.ld_whole sh _ (by decide), Blk.ld_whole sc _ (by decide), Blk.ld_whole w _ (by decide)]
  funext y
  have h := View.canon_cons_emb (Val := Elt Ideal) (e := .f32) r0_3 (k0_pay1 (F := Ideal) (k0_pay3 x g sc sh) (k0_pay4 x g sc sh) (k0_pay6 w) (k0_pay7 w) (k0_pay8 x g sc sh w) (constant S512x128 .f32 0x00000000#32)) [] y
  rwa [Blk.emb_whole _ (by decide)] at h

/-- Point `t` is row block `t`; its modulation is that of its batch, the context's that of row 2. -/
theorem index_facts : ∀ t : Fin grid0.N,
    (win0_0.index t (0 : Fin 2) = t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 3)
    ∧ (win0_3.index t (0 : Fin 3) = t.val / 8 ∧ win0_3.index t (1 : Fin 3) = 0 ∧ win0_3.index t (2 : Fin 3) = 4)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = t.val)
    ∧ (cfg0.win 5).flush t = true ∧ (cfg0.win 6).flush t = true := by
  decide +kernel

section
variable (m : (ℓ : Loc nD τ sig) → Buf (Elt Ideal) ℓ) (c : Dev nD)

theorem lt17 (t : Fin cfg0.N) : t.val < 17 := lt_of_lt_of_eq t.isLt N_0

/-- The rows. -/
def A0 : S8704x4096.Idx → EReal := m ((c : Thread nD τ).loc main_arg0)
/-- The gains. -/
def A1 : S2x4096.Idx → EReal := m ((c : Thread nD τ).loc main_arg1)
/-- The modulation. -/
def A2 : S8x24576.Idx → EReal := m ((c : Thread nD τ).loc main_arg2)
/-- The router's weights. -/
def A3 : S2x4096x16.Idx → EReal := m ((c : Thread nD τ).loc main_arg3)

/-- The launch finds the modulation with a unit axis. -/
theorem V_mod : (V m c main_v0 : S8x1x24576.Idx → EReal) = shapeCast S8x1x24576 (A2 m c : Vec Ideal S8x24576 .f32) shapeCasts_S8x24576_S8x1x24576 := by
  show StableHlo.after (List.flatten [hostOps0, hostOps0_1, hostOps0_2]) (fun b => m (c, b)) (Proc.devRef .tc main_v0) = _
  simp only [List.flatten_cons, List.flatten_nil, List.append_nil, List.cons_append, List.nil_append]
  after_results
  rfl

theorem V_mod_apply (r : Fin 8) (l : Fin 24576) : (V m c main_v0 : S8x1x24576.Idx → EReal) (ix3 r 0 l) = A2 m c (ix2 r l) := by
  rw [V_mod]
  generalize A2 m c = y
  pointwise []

/-- And so it finds the gains. -/
theorem V_gain : (V m c main_v4 : S2x1x4096.Idx → EReal) = shapeCast S2x1x4096 (A1 m c : Vec Ideal S2x4096 .f32) shapeCasts_S2x4096_S2x1x4096 := by
  show StableHlo.after (List.flatten [hostOps0, hostOps0_1, hostOps0_2]) (fun b => m (c, b)) (Proc.devRef .tc main_v4) = _
  simp only [List.flatten_cons, List.flatten_nil, List.append_nil, List.cons_append, List.nil_append]
  after_results
  rfl

theorem V_gain_apply (r : Fin 2) (l : Fin 4096) : (V m c main_v4 : S2x1x4096.Idx → EReal) (ix3 r 0 l) = A1 m c (ix2 r l) := by
  rw [V_gain]
  generalize A1 m c = y
  pointwise []

/-- And the first layer's router with columns of zeros to its right. -/
theorem V_router : (V m c main_v3 : S4096x128.Idx → EReal) = pad S4096x128 ![0, 0] ![0, 112] ![0, 0]
    (shapeCast S4096x16 (extractStridedSlice S1x4096x16 ![0, 0, 0] (A3 m c : Vec Ideal S2x4096x16 .f32) slices_S2x4096x16_S1x4096x16_0_0_0) shapeCasts_S1x4096x16_S4096x16)
    (sitofp (F := Ideal) .f32 (constantI S_ 32 0#32)) pads_S4096x16_S4096x128_000_01120 h_S_ := by
  show StableHlo.after (List.flatten [hostOps0, hostOps0_1, hostOps0_2]) (fun b => m (c, b)) (Proc.devRef .tc main_v3) = _
  simp only [List.flatten_cons, List.flatten_nil, List.append_nil, List.cons_append, List.nil_append]
  after_results
  rfl

theorem V_router_apply (k : Fin 4096) (e : Fin 16) : (V m c main_v3 : S4096x128.Idx → EReal) (ix2 k ⟨e.val, by omega⟩) = A3 m c (ix3 0 k e) := by
  rw [V_router]
  generalize A3 m c = y
  pointwise []

theorem x0_apply (t : Fin cfg0.N) (r : Fin 512) (k : Fin 4096) :
    (iblk m c 0 t : Vec Ideal S512x4096 .f32) (ix2 r k) = A0 m c (ix2 ⟨512 * t.val + r.val, by have := lt17 t; omega⟩ k) := by
  unfold iblk
  show V m c main_arg0 (((cfg0.win 0).blk t).view.emb _) = _
  rw [V_main_arg0]
  unfold A0
  congr 1
  have h := (index_facts t).1
  funext b; apply Fin.ext
  fin_cases b
  · show win0_0.index t (0 : Fin 2) * 512 + 1 * r.val = 512 * t.val + r.val; rw [h.1]; omega
  · show win0_0.index t (1 : Fin 2) * 4096 + 1 * k.val = k.val; rw [h.2]; omega

theorem x1_apply (t : Fin cfg0.N) (l : Fin 4096) :
    (iblk m c 1 t : Vec Ideal S1x1x4096 .f32) (ix3 0 0 l) = A1 m c (ix2 0 l) := by
  rw [← V_gain_apply]
  unfold iblk
  show V m c main_v4 (((cfg0.win 1).blk t).view.emb _) = _
  congr 1
  have h := (index_facts t).2.1
  funext b; apply Fin.ext
  fin_cases b
  · show win0_1.index t (0 : Fin 3) * 1 + 1 * 0 = 0; rw [h.1]
  · show win0_1.index t (1 : Fin 3) * 1 + 1 * 0 = 0; rw [h.2.1]
  · show win0_1.index t (2 : Fin 3) * 4096 + 1 * l.val = l.val; rw [h.2.2]; omega

theorem x2_apply (t : Fin cfg0.N) (l : Fin 4096) :
    (iblk m c 2 t : Vec Ideal S1x1x4096 .f32) (ix3 0 0 l) = A2 m c (ix2 ⟨t.val / 8, by have := lt17 t; omega⟩ ⟨12288 + l.val, by omega⟩) := by
  rw [← V_mod_apply]
  unfold iblk
  show V m c main_v0 (((cfg0.win 2).blk t).view.emb _) = _
  congr 1
  have h := (index_facts t).2.2.1
  funext b; apply Fin.ext
  fin_cases b
  · show win0_2.index t (0 : Fin 3) * 1 + 1 * 0 = t.val / 8; rw [h.1]; omega
  · show win0_2.index t (1 : Fin 3) * 1 + 1 * 0 = 0; rw [h.2.1]
  · show win0_2.index t (2 : Fin 3) * 4096 + 1 * l.val = 12288 + l.val; rw [h.2.2]; omega

theorem x3_apply (t : Fin cfg0.N) (l : Fin 4096) :
    (iblk m c 3 t : Vec Ideal S1x1x4096 .f32) (ix3 0 0 l) = A2 m c (ix2 ⟨t.val / 8, by have := lt17 t; omega⟩ ⟨16384 + l.val, by omega⟩) := by
  rw [← V_mod_apply]
  unfold iblk
  show V m c main_v0 (((cfg0.win 3).blk t).view.emb _) = _
  congr 1
  have h := (index_facts t).2.2.2.1
  funext b; apply Fin.ext
  fin_cases b
  · show win0_3.index t (0 : Fin 3) * 1 + 1 * 0 = t.val / 8; rw [h.1]; omega
  · show win0_3.index t (1 : Fin 3) * 1 + 1 * 0 = 0; rw [h.2.1]
  · show win0_3.index t (2 : Fin 3) * 4096 + 1 * l.val = 16384 + l.val; rw [h.2.2]; omega

theorem x4_apply (t : Fin cfg0.N) (k : Fin 4096) (e : Fin 16) :
    (iblk m c 4 t : Vec Ideal S4096x128 .f32) (ix2 k ⟨e.val, by omega⟩) = A3 m c (ix3 0 k e) := by
  rw [← V_router_apply]
  unfold iblk
  show V m c main_v3 (((cfg0.win 4).blk t).view.emb _) = _
  congr 1
  have h := (index_facts t).2.2.2.2.1
  funext b; apply Fin.ext
  fin_cases b
  · show win0_4.index t (0 : Fin 2) * 4096 + 1 * k.val = k.val; rw [h.1]; omega
  · show win0_4.index t (1 : Fin 2) * 128 + 1 * e.val = e.val; rw [h.2]; omega

/-- An entry of the modulated rows. -/
def gV (a : Fin 8704) (l : Fin 4096) : EReal :=
  nmV (fun k => A0 m c (ix2 a k)) (A1 m c (ix2 0 l)) (A2 m c (ix2 ⟨a.val / 4096, by omega⟩ ⟨12288 + l.val, by omega⟩))
    (A2 m c (ix2 ⟨a.val / 4096, by omega⟩ ⟨16384 + l.val, by omega⟩)) l

/-- The rows, modulated. -/
def G : S8704x4096.Idx → EReal := fun i => gV m c (i 0) (i 1)

/-- The logits, an expert to a row. -/
def L : S16x8704.Idx → EReal := fun i => lgV (fun k => gV m c (i 1) k) (fun k => A3 m c (ix3 0 k (i 0)))

/-- A point's modulated rows, at an index. -/
theorem block_apply (t : Fin cfg0.N) (r : Fin 512) (l : Fin 4096) :
    k0_pay2 (F := Ideal) (iblk m c 0 t) (iblk m c 1 t) (iblk m c 3 t) (iblk m c 2 t) (ix2 r l) = gV m c ⟨512 * t.val + r.val, by have := lt17 t; omega⟩ l := by
  have ht := lt17 t
  refine (pay2_apply _ _ _ _ r l).trans ?_
  rw [x1_apply, x2_apply, x3_apply]
  unfold gV
  have e : (⟨t.val / 8, by omega⟩ : Fin 8) = ⟨(512 * t.val + r.val) / 4096, by omega⟩ := Fin.ext (by show t.val / 8 = (512 * t.val + r.val) / 4096; omega)
  rw [e]
  congr 1
  funext k
  exact x0_apply m c t r k

/-- What a point writes back is its block of the modulated rows. -/
theorem flushed5_eq (t : Fin cfg0.N) : (dats m 0 c).flushed 5 t = ((cfg0.win 5).blk t).view.read (Elt Ideal) (G m c) := by
  have ht := lt17 t
  have h := (index_facts t).2.2.2.2.2.1
  rw [flushed5, out5_eq]
  funext (y : S512x4096.Idx)
  obtain ⟨r, l, rfl⟩ : ∃ (r : Fin 512) (l : Fin 4096), y = ix2 r l := ⟨y 0, y 1, by funext b; fin_cases b <;> rfl⟩
  have e : ((cfg0.win 5).blk t).view.emb (ix2 r l) = (ix2 ⟨512 * t.val + r.val, by omega⟩ l : S8704x4096.Idx) := by
    funext b; apply Fin.ext
    fin_cases b
    · show win0_5.index t (0 : Fin 2) * 512 + 1 * r.val = 512 * t.val + r.val; rw [h.1]; omega
    · show win0_5.index t (1 : Fin 2) * 4096 + 1 * l.val = l.val; rw [h.2]; omega
  show k0_pay2 (F := Ideal) _ _ _ _ (ix2 r l) = G m c (((cfg0.win 5).blk t).view.emb (ix2 r l))
  rw [e]
  exact block_apply m c t r l

/-- And its block of the logits. -/
theorem flushed6_eq (t : Fin cfg0.N) : (dats m 0 c).flushed 6 t = ((cfg0.win 6).blk t).view.read (Elt Ideal) (L m c) := by
  have ht := lt17 t
  have h := (index_facts t).2.2.2.2.2.2.1
  rw [flushed6, out6_eq]
  funext (y : S16x512.Idx)
  obtain ⟨e, r, rfl⟩ : ∃ (e : Fin 16) (r : Fin 512), y = ix2 e r := ⟨y 0, y 1, by funext b; fin_cases b <;> rfl⟩
  have he : ((cfg0.win 6).blk t).view.emb (ix2 e r) = (ix2 e ⟨512 * t.val + r.val, by omega⟩ : S16x8704.Idx) := by
    funext b; apply Fin.ext
    fin_cases b
    · show win0_6.index t (0 : Fin 2) * 16 + 1 * e.val = e.val; rw [h.1]; omega
    · show win0_6.index t (1 : Fin 2) * 512 + 1 * r.val = 512 * t.val + r.val; rw [h.2]; omega
  show k0_pay1 (F := Ideal) _ _ _ _ _ _ (ix2 e r) = L m c (((cfg0.win 6).blk t).view.emb (ix2 e r))
  rw [he]
  refine (pay1_apply _ _ _ _ _ e r).trans ?_
  exact congrArg₂ lgV (funext fun k => block_apply m c t r k) (funext fun k => x4_apply m c t k e)

theorem mem_blk5 (t : Fin cfg0.N) (i : S8704x4096.Idx) :
    i ∈ ((cfg0.win 5).blk t).view.set ↔ ∀ a : Fin 2, win0_5.index t a * S512x4096.size a ≤ (i a).val ∧ (i a).val < win0_5.index t a * S512x4096.size a + S512x4096.size a := by
  show i ∈ ((View.whole main_v5_0).slice (win0_5.rect t)).set ↔ _
  rw [View.set_slice_whole, Rect.mem_set_unit]
  exact Iff.rfl

theorem mem_blk6 (t : Fin cfg0.N) (i : S16x8704.Idx) :
    i ∈ ((cfg0.win 6).blk t).view.set ↔ ∀ a : Fin 2, win0_6.index t a * S16x512.size a ≤ (i a).val ∧ (i a).val < win0_6.index t a * S16x512.size a + S16x512.size a := by
  show i ∈ ((View.whole main_v5_1).slice (win0_6.rect t)).set ↔ _
  rw [View.set_slice_whole, Rect.mem_set_unit]
  exact Iff.rfl

/-- The rows after the run. -/
theorem final5 : (dats m 0 c).arrAt 5 cfg0.N = G m c :=
  (dats m 0 c).arrAt_eq_of_cover 5 _ (fun t _ => flushed5_eq m c t) (fun (i : S8704x4096.Idx) => by
    have h0 : (i 0).val < 8704 := (i 0).isLt
    have h1 : (i 1).val < 4096 := (i 1).isLt
    obtain ⟨t, ht⟩ : ∃ t : Fin cfg0.N, t.val = (i 0).val / 512 := ⟨⟨(i 0).val / 512, lt_of_lt_of_eq (by omega) (show 17 = cfg0.N from N_0.symm)⟩, rfl⟩
    obtain ⟨e0, e1⟩ := (index_facts t).2.2.2.2.2.1
    refine ⟨t, (index_facts t).2.2.2.2.2.2.2.1, ?_⟩
    rw [mem_blk5]
    intro a
    match a with
    | ⟨0, _⟩ => show win0_5.index t (0 : Fin 2) * 512 ≤ (i 0).val ∧ (i 0).val < win0_5.index t (0 : Fin 2) * 512 + 512; rw [e0]; omega
    | ⟨1, _⟩ => show win0_5.index t (1 : Fin 2) * 4096 ≤ (i 1).val ∧ (i 1).val < win0_5.index t (1 : Fin 2) * 4096 + 4096; rw [e1]; omega)

/-- The logits after the run. -/
theorem final6 : (dats m 0 c).arrAt 6 cfg0.N = L m c :=
  (dats m 0 c).arrAt_eq_of_cover 6 _ (fun t _ => flushed6_eq m c t) (fun (i : S16x8704.Idx) => by
    have h0 : (i 0).val < 16 := (i 0).isLt
    have h1 : (i 1).val < 8704 := (i 1).isLt
    obtain ⟨t, ht⟩ : ∃ t : Fin cfg0.N, t.val = (i 1).val / 512 := ⟨⟨(i 1).val / 512, lt_of_lt_of_eq (by omega) (show 17 = cfg0.N from N_0.symm)⟩, rfl⟩
    obtain ⟨e0, e1⟩ := (index_facts t).2.2.2.2.2.2.1
    refine ⟨t, (index_facts t).2.2.2.2.2.2.2.2, ?_⟩
    rw [mem_blk6]
    intro a
    match a with
    | ⟨0, _⟩ => show win0_6.index t (0 : Fin 2) * 16 ≤ (i 0).val ∧ (i 0).val < win0_6.index t (0 : Fin 2) * 16 + 16; rw [e0]; omega
    | ⟨1, _⟩ => show win0_6.index t (1 : Fin 2) * 512 ≤ (i 1).val ∧ (i 1).val < win0_6.index t (1 : Fin 2) * 512 + 512; rw [e1]; omega)

/-- The run, with its results named. -/
theorem run (ρ : Dev nD → PrngReg) : θ_run defs (onTc (τ := τ) (main (F := Ideal))) ⟨m, fun _ => 0, ρ⟩ fun r => ∀ c : Dev nD,
      r.2.mem ((c : Thread nD τ).loc main_v5_0) = G m c
      ∧ r.2.mem ((c : Thread nD τ).loc main_v5_1) = L m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final5 m c), (h c).2.1.trans (final6 m c), (h c).2.2⟩) (run_blocks m ρ)

end

end Cert.Router

end
-- ==== Proof.RouterRef.lean ====
/- The second norm with its router and its reference end with equal results where the arguments are finite. -/
module

public import proofs.«01_k».proof.Proof.Router
public import proofs.«01_k».proof.Proof.Final
public import proofs.«01_k».proof.Proof.Gen.Reference10Ideal.Read
public import proofs.«01_k».proof.Proof.Gen.Pre_finite_router

@[expose] public section

set_option maxRecDepth 16384

noncomputable section

namespace Cert.RouterRef

open Idealize.ShloMosaic Idealize.ShloMosaic.TcCoe Idealize.SL.Sem
open Idealize.ShloMosaic.Pointwise
open Cert.Reference10Ideal Cert.Reference10Ideal.Gen Cert.Reference10Ideal.Read
open Cert.NormMod (nmV)
open Cert.Router (gV lgV)

variable (x0 : (⟨S8704x4096, .f32⟩ : BufTy).Contents (Elt Ideal)) (x1 : (⟨S2x4096, .f32⟩ : BufTy).Contents (Elt Ideal))
  (x2 : (⟨S8x24576, .f32⟩ : BufTy).Contents (Elt Ideal)) (x3 : (⟨S2x4096x16, .f32⟩ : BufTy).Contents (Elt Ideal))

/-- The latent rows by batch, at an index. -/
theorem v3_ix (b : Fin 2) (a : Fin 4096) (l : Fin 4096) : val_main_v3 (F := Ideal) x0 (ix3 b a l) = x0 (ix2 ⟨b.val * 4096 + a.val, by omega⟩ l) := by
  pointwise [val_main_v3, val_main_v2]

/-- The root of a latent row's mean square. -/
theorem v13_ix (b : Fin 2) (a : Fin 4096) : val_main_v13 (F := Ideal) x0 (ix3 b a 0)
    = Ideal.rsqrt (Ideal.div (∑ k : Fin 4096, val_main_v3 (F := Ideal) x0 (ix3 b a k) * val_main_v3 (F := Ideal) x0 (ix3 b a k)) (Ideal.ofBits .f32 0x45800000#32) + Ideal.ofBits .f32 0x358637BD#32) := by
  unfold val_main_v13 val_main_v12 val_main_v11 val_main_v10 val_main_v9 val_main_v8 val_main_v7 val_main_v6
  generalize val_main_v3 (F := Ideal) x0 = y
  pointwise [val_main_cst, val_main_cst_0, val_main_cst_1]

/-- A latent row at an index. -/
theorem v28_ix (b : Fin 2) (a : Fin 4096) (l : Fin 4096) : val_main_v28 (F := Ideal) x0 x1 x2 (ix3 b a l)
    = nmV (fun k => x0 (ix2 ⟨b.val * 4096 + a.val, by omega⟩ k)) (x1 (ix2 0 l)) (x2 (ix2 ⟨b.val, by omega⟩ ⟨12288 + l.val, by omega⟩)) (x2 (ix2 ⟨b.val, by omega⟩ ⟨16384 + l.val, by omega⟩)) l := by
  have hz := v3_ix x0
  have hy := v13_ix x0
  unfold nmV
  unfold val_main_v28 val_main_v27 val_main_v26 val_main_v25 val_main_v24 val_main_v23 val_main_v22 val_main_v21 val_main_v20 val_main_v19 val_main_v18 val_main_v17 val_main_v16 val_main_v15 val_main_v14
    val_main_v5 val_main_v4 val_main_v1 val_main_v0 val_main_cst_2
  generalize val_main_v13 (F := Ideal) x0 = y at hy ⊢
  generalize val_main_v3 (F := Ideal) x0 = z at hy hz ⊢
  pointwise []
  simp only [hy, hz]

/-- The context's rows, at an index. -/
theorem v29_ix (a : Fin 512) (l : Fin 4096) : val_main_v29 (F := Ideal) x0 (ix2 a l) = x0 (ix2 ⟨8192 + a.val, by omega⟩ l) := by
  pointwise [val_main_v29]

/-- The root of a context row's mean square. -/
theorem v39_ix (a : Fin 512) : val_main_v39 (F := Ideal) x0 (ix2 a 0)
    = Ideal.rsqrt (Ideal.div (∑ k : Fin 4096, val_main_v29 (F := Ideal) x0 (ix2 a k) * val_main_v29 (F := Ideal) x0 (ix2 a k)) (Ideal.ofBits .f32 0x45800000#32) + Ideal.ofBits .f32 0x358637BD#32) := by
  unfold val_main_v39 val_main_v38 val_main_v37 val_main_v36 val_main_v35 val_main_v34 val_main_v33 val_main_v32
  generalize val_main_v29 (F := Ideal) x0 = y
  pointwise [val_main_cst_3, val_main_cst_4, val_main_cst_5]

/-- A context row at an index. -/
theorem v56_ix (a : Fin 512) (l : Fin 4096) : val_main_v56 (F := Ideal) x0 x1 x2 (ix2 a l)
    = nmV (fun k => x0 (ix2 ⟨8192 + a.val, by omega⟩ k)) (x1 (ix2 0 l)) (x2 (ix2 2 ⟨12288 + l.val, by omega⟩)) (x2 (ix2 2 ⟨16384 + l.val, by omega⟩)) l := by
  have hz := v29_ix x0
  have hy := v39_ix x0
  unfold nmV
  unfold val_main_v56 val_main_v55 val_main_v54 val_main_v53 val_main_v52 val_main_v51 val_main_v50 val_main_v49 val_main_v48 val_main_v47 val_main_v46 val_main_v45 val_main_v44 val_main_v43 val_main_v42 val_main_v41 val_main_v40
    val_main_v31 val_main_v30 val_main_v1 val_main_v0 val_main_cst_6
  generalize val_main_v39 (F := Ideal) x0 = y at hy ⊢
  generalize val_main_v29 (F := Ideal) x0 = z at hy hz ⊢
  pointwise []
  simp only [hy, hz]

/-- The latent rows, one below the other. -/
theorem v57_ix (a : Fin 8192) (l : Fin 4096) : val_main_v57 (F := Ideal) x0 x1 x2 (ix2 a l)
    = val_main_v28 (F := Ideal) x0 x1 x2 (ix3 ⟨a.val / 4096, by omega⟩ ⟨a.val % 4096, by omega⟩ l) := by
  unfold val_main_v57
  generalize val_main_v28 (F := Ideal) x0 x1 x2 = y
  pointwise []

/-- The rows of the two parts. -/
theorem cat_ix (a : Fin 8704) (l : Fin 4096) : val_main_v58 (F := Ideal) x0 x1 x2 (ix2 a l)
    = if h : a.val < 8192 then val_main_v57 (F := Ideal) x0 x1 x2 (ix2 ⟨a.val, h⟩ l) else val_main_v56 (F := Ideal) x0 x1 x2 (ix2 ⟨a.val - 8192, by omega⟩ l) := by
  unfold val_main_v58
  generalize val_main_v57 (F := Ideal) x0 x1 x2 = y13
  generalize val_main_v56 (F := Ideal) x0 x1 x2 = y20
  pointwise []

/-- The logits at an index. -/
theorem v62_ix (e : Fin 16) (a : Fin 8704) : val_main_v62 (F := Ideal) x0 x1 x2 x3 (ix2 e a)
    = ∑ k : Fin 4096, val_main_v58 (F := Ideal) x0 x1 x2 (ix2 a k) * x3 (ix3 0 k e) := by
  unfold val_main_v62 val_main_v61 val_main_v60 val_main_v59
  generalize val_main_v58 (F := Ideal) x0 x1 x2 = y
  pointwise []

/-- From equal arguments, the kernel's rows are the reference's. -/
theorem rows_eq (m : (ℓ : Loc Cert.Kernel10Ideal.nD Cert.Kernel10Ideal.τ Cert.Kernel10Ideal.sig) → Buf (Elt Ideal) ℓ) (c : Dev Cert.Kernel10Ideal.nD)
    (h0 : x0 = Cert.Router.A0 m c) (h1 : x1 = Cert.Router.A1 m c) (h2 : x2 = Cert.Router.A2 m c) (a : Fin 8704) (l : Fin 4096) :
    gV m c a l = val_main_v58 (F := Ideal) x0 x1 x2 (ix2 a l) := by
  subst h0 h1 h2
  unfold gV
  rw [cat_ix]
  by_cases h : a.val < 8192
  · rw [dif_pos h, v57_ix, v28_ix]
    have e : (⟨a.val / 4096 * 4096 + a.val % 4096, by omega⟩ : Fin 8704) = a := Fin.ext (by show a.val / 4096 * 4096 + a.val % 4096 = a.val; omega)
    simp only [e]
  · rw [dif_neg h, v56_ix]
    have e : (⟨8192 + (a.val - 8192), by omega⟩ : Fin 8704) = a := Fin.ext (by show 8192 + (a.val - 8192) = a.val; omega)
    have e3 : (⟨a.val / 4096, by omega⟩ : Fin 8) = 2 := Fin.ext (by show a.val / 4096 = 2; omega)
    simp only [e, e3]

/-- The mean's divisor is a positive real. -/
theorem mean_pos : ∃ z : ℝ, 0 < z ∧ Ideal.ofBits .f32 0x45800000#32 = (z : EReal) := by
  refine ⟨_, ?_, by simp [Ideal.ofBits, Ideal.ieee, -EReal.coe_mul]; rfl⟩
  positivity

/-- The norm's epsilon is a positive real. -/
theorem eps_pos : ∃ z : ℝ, 0 < z ∧ Ideal.ofBits .f32 0x358637BD#32 = (z : EReal) := by
  refine ⟨_, ?_, by simp [Ideal.ofBits, Ideal.ieee, -EReal.coe_mul]; rfl⟩
  positivity

/-- A square is not negative, and it is infinite where the number is. -/
theorem sq_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

theorem sq_top (x : EReal) (hx : ¬∃ z : ℝ, x = z) : x * x = ⊤ := by
  induction x with
  | bot => exact EReal.bot_mul_bot
  | top => exact EReal.top_mul_top
  | coe r => exact absurd ⟨r, rfl⟩ hx

/-- A row's entry over the root of the row's mean square is a real: an infinite entry makes the root's inverse zero. -/
theorem norm_real (row : Fin 4096 → EReal) (l : Fin 4096) :
    ∃ z : ℝ, row l * Ideal.rsqrt (Ideal.div (∑ k : Fin 4096, row k * row k) (Ideal.ofBits .f32 0x45800000#32) + Ideal.ofBits .f32 0x358637BD#32) = z := by
  obtain ⟨n, hn, en⟩ := mean_pos
  obtain ⟨p, hp, ep⟩ := eps_pos
  have hn0 : (n : EReal) ≠ 0 := by exact_mod_cast hn.ne'
  rw [en, ep]
  by_cases hr : ∀ k, ∃ z : ℝ, row k = z
  · choose f hf using hr
    have hs : (∑ k : Fin 4096, row k * row k) = ((∑ k : Fin 4096, f k * f k : ℝ) : EReal) := by
      rw [← Soft.sum_coe]
      exact Finset.sum_congr rfl fun k _ => by rw [hf, EReal.coe_mul]
    have h0 : 0 ≤ ∑ k : Fin 4096, f k * f k := Finset.sum_nonneg fun k _ => mul_self_nonneg _
    have hd : Ideal.div ((∑ k : Fin 4096, f k * f k : ℝ) : EReal) (n : EReal) + (p : EReal) = (((∑ k : Fin 4096, f k * f k) * n⁻¹ + p : ℝ) : EReal) := by
      unfold Ideal.div
      rw [if_neg hn0, ← EReal.coe_inv, ← EReal.coe_mul, ← EReal.coe_add]
    have hq : 0 < (∑ k : Fin 4096, f k * f k) * n⁻¹ + p := by positivity
    have hrs : ∀ q : ℝ, 0 < q → Ideal.rsqrt (q : EReal) = ((Real.sqrt q)⁻¹ : ℝ) := fun q hq => by
      show (if q < 0 then (⊥ : EReal) else if q = 0 then ⊤ else ((Real.sqrt q)⁻¹ : ℝ)) = _
      rw [if_neg (not_lt.mpr hq.le), if_neg hq.ne']
    exact ⟨f l * (Real.sqrt ((∑ k : Fin 4096, f k * f k) * n⁻¹ + p))⁻¹, by rw [hs, hd, hrs _ hq, hf, EReal.coe_mul]⟩
  · obtain ⟨k, hk⟩ := not_forall.mp hr
    have hs : (∑ k : Fin 4096, row k * row k) = ⊤ := by
      refine top_le_iff.mp ?_
      rw [← sq_top _ hk]
      exact Finset.single_le_sum (f := fun k : Fin 4096 => row k * row k) (fun j _ => sq_nonneg (row j)) (Finset.mem_univ k)
    have hd : Ideal.div ⊤ (n : EReal) + (p : EReal) = ⊤ := by
      unfold Ideal.div
      rw [if_neg hn0, ← EReal.coe_inv, EReal.top_mul_coe_of_pos (inv_pos.mpr hn), EReal.top_add_coe]
    have hz : Ideal.rsqrt ⊤ = 0 := rfl
    exact ⟨0, by rw [hs, hd, hz, mul_zero, EReal.coe_zero]⟩

/-- An entry of a modulated row is a real, if the gain, the shift and the scale are. -/
theorem nmV_real (row : Fin 4096 → EReal) (g sh sc : EReal) (l : Fin 4096) (hg : ∃ z : ℝ, g = z) (hsh : ∃ z : ℝ, sh = z) (hsc : ∃ z : ℝ, sc = z) :
    ∃ z : ℝ, nmV row g sh sc l = z := by
  obtain ⟨g', rfl⟩ := hg
  obtain ⟨sh', rfl⟩ := hsh
  obtain ⟨sc', rfl⟩ := hsc
  obtain ⟨z, hz⟩ := norm_real row l
  refine ⟨z * g' * (1 + sc') + sh', ?_⟩
  unfold nmV
  rw [hz]
  push_cast
  rfl

/-- A logit of reals is the one product. -/
theorem lgV_real (h w : Fin 4096 → EReal) (hh : ∀ k, ∃ z : ℝ, h k = z) (hw : ∀ k, ∃ z : ℝ, w k = z) : lgV h w = ∑ k : Fin 4096, h k * w k := by
  have z : ∀ x : EReal, (∃ z : ℝ, x = z) → x - x = 0 := fun x ⟨r, e⟩ => by rw [e, ← EReal.coe_sub, sub_self, EReal.coe_zero]
  unfold lgV
  rw [Finset.sum_eq_zero (s := Finset.univ) (f := fun k : Fin 4096 => (h k - h k) * w k) (fun k _ => by rw [z _ (hh k), zero_mul]),
    Finset.sum_eq_zero (s := Finset.univ) (f := fun k : Fin 4096 => h k * (w k - w k)) (fun k _ => by rw [z _ (hw k), mul_zero]), add_zero, add_zero]

/-- Under the precondition every gain, shift, scale and router weight that is read is a real. -/
theorem pre_real (hp : (Cert.Pre_finite_router.fn (F := Ideal) x0 x1 x2 x3).1 = (fun _ => 1#1) ∧ (Cert.Pre_finite_router.fn (F := Ideal) x0 x1 x2 x3).2.1 = (fun _ => 1#1)
      ∧ (Cert.Pre_finite_router.fn (F := Ideal) x0 x1 x2 x3).2.2 = (fun _ => 1#1)) :
    (∀ l : Fin 4096, ∃ z : ℝ, x1 (ix2 0 l) = z) ∧ (∀ (b : Fin 3) (l : Fin 8192), ∃ z : ℝ, x2 (ix2 ⟨b.val, by omega⟩ ⟨12288 + l.val, by omega⟩) = z)
      ∧ (∀ (k : Fin 4096) (e : Fin 16), ∃ z : ℝ, x3 (ix3 0 k e) = z) := by
  obtain ⟨p1, p2, p3⟩ := hp
  refine ⟨fun l => ?_, fun b l => ?_, fun k e => ?_⟩
  · refine Cert.Final.real_of_abs _ (Eq.trans ?_ (congrFun p1 (ix1 l)))
    unfold Cert.Pre_finite_router.fn
    pointwise []
  · refine Cert.Final.real_of_abs _ (Eq.trans ?_ (congrFun p2 (ix2 b l)))
    unfold Cert.Pre_finite_router.fn
    pointwise []
  · refine Cert.Final.real_of_abs _ (Eq.trans ?_ (congrFun p3 (ix2 k e)))
    unfold Cert.Pre_finite_router.fn
    pointwise []

/-- From equal arguments, finite as above, the kernel's results are the reference's. -/
theorem result_eq (m : (ℓ : Loc Cert.Kernel10Ideal.nD Cert.Kernel10Ideal.τ Cert.Kernel10Ideal.sig) → Buf (Elt Ideal) ℓ) (c : Dev Cert.Kernel10Ideal.nD)
    (h0 : x0 = Cert.Router.A0 m c) (h1 : x1 = Cert.Router.A1 m c) (h2 : x2 = Cert.Router.A2 m c) (h3 : x3 = Cert.Router.A3 m c)
    (hr : (∀ l : Fin 4096, ∃ z : ℝ, x1 (ix2 0 l) = z) ∧ (∀ (b : Fin 3) (l : Fin 8192), ∃ z : ℝ, x2 (ix2 ⟨b.val, by omega⟩ ⟨12288 + l.val, by omega⟩) = z)
      ∧ (∀ (k : Fin 4096) (e : Fin 16), ∃ z : ℝ, x3 (ix3 0 k e) = z)) :
    (Cert.Router.G m c : S8704x4096.Idx → EReal) = val_main_v58 (F := Ideal) x0 x1 x2
      ∧ (Cert.Router.L m c : S16x8704.Idx → EReal) = val_main_v62 (F := Ideal) x0 x1 x2 x3 := by
  have hG := rows_eq x0 x1 x2 m c h0 h1 h2
  constructor
  · funext i
    obtain ⟨a, l, rfl⟩ : ∃ (a : Fin 8704) (l : Fin 4096), i = ix2 a l := ⟨i 0, i 1, by funext b; fin_cases b <;> rfl⟩
    exact hG a l
  · funext i
    obtain ⟨e, a, rfl⟩ : ∃ (e : Fin 16) (a : Fin 8704), i = ix2 e a := ⟨i 0, i 1, by funext b; fin_cases b <;> rfl⟩
    rw [v62_ix]
    subst h0 h1 h2 h3
    show lgV (fun k => gV m c a k) (fun k => Cert.Router.A3 m c (ix3 0 k e)) = _
    have hh : ∀ k, ∃ z : ℝ, gV m c a k = z := fun k => by
      refine nmV_real _ _ _ _ _ (hr.1 k) (hr.2.1 ⟨a.val / 4096, by omega⟩ ⟨k.val, by omega⟩) ?_
      obtain ⟨z, hz⟩ := hr.2.1 ⟨a.val / 4096, by omega⟩ ⟨4096 + k.val, by omega⟩
      refine ⟨z, Eq.trans ?_ hz⟩
      exact congrArg (fun j => Cert.Router.A2 m c (ix2 _ j)) (Fin.ext (by show 16384 + k.val = 12288 + (4096 + k.val); omega))
    refine (lgV_real _ _ hh (fun k => hr.2.2 k e)).trans ?_
    exact Finset.sum_congr rfl fun k _ => by rw [hG a k]

end Cert.RouterRef

end
-- ==== Proof.Mm.lean ====
/- What each grid point of the input projection leaves: its block of the product, and its block of the weight. -/
module

public import proofs.«01_k».proof.Proof.Gen.Kernel2Ideal.Value
public import proofs.«01_k».proof.Proof.Blk
public import Idealize.ShloMosaic.Lib.Pointwise
public import Idealize.ShloMosaic.Lib.Writes

@[expose] public section

set_option maxRecDepth 16384

noncomputable section

namespace Cert.Mm

open Cert.Kernel2Ideal Cert.Kernel2Ideal.Gen Cert.Kernel2Ideal.Value Idealize.ShloMosaic Idealize.ShloMosaic.TcCoe Idealize.SL.Sem
open Idealize.ShloMosaic.Pointwise

/-- The queries' scale, as the programs write it. -/
def scale : EReal := Ideal.ofBits .f32 0x3DB504F3#32

/-- The weight's block without its unit axis. -/
def wV (x1 : Vec Ideal S1x4096x1024 .f32) : S4096x1024.Idx → EReal := fun y => x1 (ix3 0 (y 0) (y 1))

/-- The block of a point: the product, times the queries' scale in the first two column blocks. -/
def mmV (j : ℕ) (x0 : S1088x4096.Idx → EReal) (w : S4096x1024.Idx → EReal) : S1088x1024.Idx → EReal :=
  fun y => (∑ k : Fin 4096, x0 (ix2 (y 0) k) * w (ix2 k (y 1))) * if j < 2 then scale else 1

theorem pay1_apply (v : Vec Ideal S1x512x1024 .f32) (r : Fin 512) (l : Fin 1024) : k0_pay1 (F := Ideal) v (ix2 r l) = v (ix3 0 r l) := by
  pointwise [k0_pay1]

theorem one_eq : (Ideal.ofBits .f32 0x3F800000#32 : EReal) = 1 := by
  simp [Ideal.ofBits, Ideal.ieee, -EReal.coe_mul]; norm_num

theorem slt_two (j : ℕ) (hj : j < 18) : Scalar.cmpi .slt (BitVec.ofNat 32 j) 2#32 = if j < 2 then 1#1 else 0#1 := by
  have h : ∀ j : Fin 18, Scalar.cmpi .slt (BitVec.ofNat 32 j.val) 2#32 = if j.val < 2 then 1#1 else 0#1 := by decide
  exact h ⟨j, hj⟩

theorem pay2_apply (i : grid0.Coords) (x : Vec Ideal S1088x4096 .bf16) (w : Vec Ideal S4096x1024 .bf16) (r : Fin 1088) (l : Fin 1024) :
    k0_pay2 (F := Ideal) i x w (ix2 r l) = mmV (i 0).val x w (ix2 r l) := by
  have hi : (i 0).val < 18 := (i 0).isLt
  pointwise [k0_pay2]
  rw [slt_two _ hi]
  unfold mmV scale
  by_cases h : (i 0).val < 2
  · rw [if_pos h, if_pos h]; rfl
  · rw [if_neg h, if_neg h]; rfl

section
variable (c : Dev nD) (i : grid0.Coords) (arg2 : Memref sig .tc .vmem S1088x4096 .bf16) (harg2 : arg2.IsWhole) (arg3 : Memref sig .tc .vmem S1x4096x1024 .f32) (harg3 : arg3.IsWhole) (arg4 : Memref sig .tc .vmem S1088x1024 .bf16) (harg4 : arg4.IsWhole) (arg5 : Memref sig .tc .vmem S4096x1024 .bf16) (harg5 : arg5.IsWhole)
    (x0 : Vec Ideal S1088x4096 .bf16) (x1 : Vec Ideal S1x4096x1024 .f32) (xs0 : Vec Ideal S4096x1024 .bf16)

section
variable (𝒱 : Variants) (bd : Option 𝒱.V) (h1 : k0_cond1 i = 1#1)

/-- A trip's one piece: its rows of the weight. -/
theorem trip_eq (k : Fin k0_t1_loop.trips) (X : arg3.view.ty.Contents (Elt Ideal)) :
    tripL_k0_t1 (F := Ideal) 𝒱 c bd i arg2 harg2 arg3 harg3 arg4 harg4 arg5 harg5 h1 X k
      = [(⟨Rect.unit (s := S4096x1024) (k0_off2 k) S512x1024.size (k0_off2_inb i k h1),
          k0_pay1 (F := Ideal) (View.readAt (Elt Ideal) arg3.view (Rect.unit (s := S1x4096x1024) (k0_off1 k) S1x512x1024.size (k0_off1_inb i k h1)).toLoadRect X)⟩ : View.Piece (Elt Ideal) S4096x1024 .bf16)] := by
  unfold tripL_k0_t1 trip_k0_t1
  rfl

theorem trips_le (k : Fin k0_t1_loop.trips) : k.val < 8 := lt_of_lt_of_le k.isLt k0_t1_abs.2.1

/-- The rows a trip stores are the weight's. -/
theorem rows_val (k : Fin k0_t1_loop.trips) (r : Fin 512) (l : Fin 1024) :
    k0_pay1 (F := Ideal) (View.readAt (Elt Ideal) arg3.view (Rect.unit (s := S1x4096x1024) (k0_off1 k) S1x512x1024.size (k0_off1_inb i k h1)).toLoadRect (harg3.unread x1)) (ix2 r l)
      = wV x1 ((Rect.unit (s := S4096x1024) (k0_off2 k) S512x1024.size (k0_off2_inb i k h1)).emb (ix2 r l)) := by
  have h8 := trips_le k
  have hk : 512 * k.val + r.val < 4096 := by omega
  rw [pay1_apply, Blk.load_rows arg3.view _ x1 (harg3.read_unread x1) _ _ (k0_off1_eq k) _ r l hk, Blk.emb_rows _ _ (k0_off2_eq k) _ r l hk]
  rfl

theorem trip_val (k : Fin k0_t1_loop.trips) :
    ∀ p ∈ (tripL_k0_t1 (F := Ideal) 𝒱 c bd i arg2 harg2 arg3 harg3 arg4 harg4 arg5 harg5 h1 (harg3.unread x1) k), ∀ x : p.1.shape.Idx, p.2 x = wV x1 (p.1.emb x) := by
  rw [trip_eq]
  intro p hp
  obtain rfl := List.mem_singleton.mp hp
  intro (x : S512x1024.Idx)
  obtain ⟨r, l, rfl⟩ : ∃ (r : Fin 512) (l : Fin 1024), x = ix2 r l := ⟨x 0, x 1, by funext b; fin_cases b <;> rfl⟩
  exact rows_val i arg3 harg3 x1 h1 k r l

/-- The pieces of the trips before `k` hold the weight. -/
theorem pb_val (k : ℕ) (hk : k ≤ k0_t1_loop.trips) :
    ∀ p ∈ (pb_k0_t1 (F := Ideal) 𝒱 c bd i arg2 harg2 arg3 harg3 arg4 harg4 arg5 harg5 h1 (harg3.unread x1) k), ∀ x : p.1.shape.Idx, p.2 x = wV x1 (p.1.emb x) := by
  induction k with
  | zero =>
    intro p hp
    unfold pb_k0_t1 at hp
    exact absurd hp List.not_mem_nil
  | succ k ih =>
    intro p hp
    rw [pb_k0_t1_succ 𝒱 c bd i arg2 harg2 arg3 harg3 arg4 harg4 arg5 harg5 h1 _ ⟨k, hk⟩] at hp
    rcases List.mem_append.mp hp with h | h
    · exact trip_val c i arg2 harg2 arg3 harg3 arg4 harg4 arg5 harg5 x1 𝒱 bd h1 ⟨k, hk⟩ p h
    · exact ih (by omega) p h

end

/-- A point that casts the weight leaves it in the scratch. -/
theorem sout_A (hc0 : cond0_0 i) :
    sout0_A_0 (F := Ideal) c i arg2 harg2 arg3 harg3 arg4 harg4 arg5 harg5 hc0 x0 x1 = wV x1 := by
  funext y
  unfold sout0_A_0
  refine View.read_writes_apply_of_pieces VS0_0 _ (wV x1) _ ?_ y (scover0_A_0 c i arg2 harg2 arg3 harg3 arg4 harg4 arg5 harg5 hc0 x0 x1 y)
  unfold kernelRun0_A
  dsimp only
  exact pb_val c i arg2 harg2 arg3 harg3 arg4 harg4 arg5 harg5 x1 _ _ _ _ le_rfl

/-- A point that keeps the scratch leaves its block of the product with it. -/
theorem out_B (hc0 : ¬cond0_0 i) :
    out0_B_2 (F := Ideal) c i arg2 harg2 arg3 harg3 arg4 harg4 arg5 harg5 hc0 x0 x1 xs0 = mmV (i 0).val x0 xs0 := by
  funext y
  unfold out0_B_2
  refine View.read_writes_apply_of_pieces VO0_2 _ (mmV (i 0).val x0 xs0) _ ?_ y (cover0_B_2 c i arg2 harg2 arg3 harg3 arg4 harg4 arg5 harg5 hc0 x0 x1 xs0 y)
  unfold kernelRun0_B
  dsimp only
  intro p hp
  obtain rfl := List.mem_singleton.mp hp
  intro (x : S1088x1024.Idx)
  obtain ⟨r, l, rfl⟩ : ∃ (r : Fin 1088) (l : Fin 1024), x = ix2 r l := ⟨x 0, x 1, by funext b; fin_cases b <;> rfl⟩
  dsimp only
  rw [Blk.load_whole_of arg2.view _ x0 (harg2.read_unread x0) _ (by decide), Blk.load_whole_of arg5.view _ xs0 (harg5.read_unread xs0) _ (by decide), Blk.emb_whole _ (by decide)]
  exact pay2_apply i x0 xs0 r l

/-- A point that casts the weight leaves its block of the product with it. -/
theorem out_A (hc0 : cond0_0 i) :
    out0_A_2 (F := Ideal) c i arg2 harg2 arg3 harg3 arg4 harg4 arg5 harg5 hc0 x0 x1 = mmV (i 0).val x0 (wV x1) := by
  funext y
  unfold out0_A_2
  refine View.read_writes_apply_of_pieces VO0_2 _ (mmV (i 0).val x0 (wV x1)) _ ?_ y (cover0_A_2 c i arg2 harg2 arg3 harg3 arg4 harg4 arg5 harg5 hc0 x0 x1 y)
  unfold kernelRun0_A
  dsimp only
  intro p hp
  obtain rfl := List.mem_singleton.mp hp
  intro (x : S1088x1024.Idx)
  obtain ⟨r, l, rfl⟩ : ∃ (r : Fin 1088) (l : Fin 1024), x = ix2 r l := ⟨x 0, x 1, by funext b; fin_cases b <;> rfl⟩
  dsimp only
  rw [Blk.load_whole_of arg2.view _ x0 (harg2.read_unread x0) _ (by decide)]
  rw [Blk.readCov_whole arg5.view _ (wV x1) (pb_val c i arg2 harg2 arg3 harg3 arg4 harg4 arg5 harg5 x1 _ _ _ _ le_rfl)
    (fun y => by have h := scover0_A_0 (F := Ideal) c i arg2 harg2 arg3 harg3 arg4 harg4 arg5 harg5 hc0 x0 x1 y; unfold kernelRun0_A at h; exact h) _ (by decide), Blk.emb_whole _ (by decide)]
  exact pay2_apply i x0 (wV x1) r l

end

/-- Point `t` is column block `t / 8` of row block `t % 8`. -/
theorem index_facts : ∀ t : Fin grid0.N,
    (win0_0.index t (0 : Fin 2) = t.val % 8 ∧ win0_0.index t (1 : Fin 2) = 0)
    ∧ (win0_1.index t (0 : Fin 3) = 0 ∧ win0_1.index t (1 : Fin 3) = 0 ∧ win0_1.index t (2 : Fin 3) = t.val / 8)
    ∧ (grid0.coords t 0).val = t.val / 8 := by
  decide +kernel

section
variable (m : (ℓ : Loc nD τ sig) → Buf (Elt Ideal) ℓ) (c : Dev nD)

theorem lt144 (t : Fin cfg0.N) : t.val < 144 := lt_of_lt_of_eq t.isLt N_0

/-- The rows. -/
def A0 : S8704x4096.Idx → EReal := m ((c : Thread nD τ).loc main_arg0)
/-- The weights. -/
def A1 : S2x4096x18432.Idx → EReal := m ((c : Thread nD τ).loc main_arg1)

/-- The rows of a point. -/
theorem x0_apply (t : Fin cfg0.N) (r : Fin 1088) (k : Fin 4096) :
    (iblk m c 0 t : Vec Ideal S1088x4096 .bf16) (ix2 r k) = A0 m c (ix2 ⟨1088 * (t.val % 8) + r.val, by omega⟩ k) := by
  unfold iblk
  show V m c main_arg0 (((cfg0.win 0).blk t).view.emb _) = _
  rw [V_main_arg0]
  unfold A0
  congr 1
  have h := (index_facts t).1
  funext b; apply Fin.ext
  fin_cases b
  · show win0_0.index t (0 : Fin 2) * 1088 + 1 * r.val = _; rw [h.1]; show _ = 1088 * (t.val % 8) + r.val; omega
  · show win0_0.index t (1 : Fin 2) * 4096 + 1 * k.val = k.val; rw [h.2]; omega

/-- One block of columns of the first layer's weight. -/
def wB (j : ℕ) : S4096x1024.Idx → EReal := fun y => A1 m c (ix3 0 (y 0) (Fin.ofNat 18432 (1024 * j + (y 1).val)))

/-- The weight's block of a point. -/
theorem x1_eq (t : Fin cfg0.N) : wV (iblk m c 1 t : Vec Ideal S1x4096x1024 .f32) = wB m c (t.val / 8) := by
  funext y
  unfold wV wB iblk
  show V m c main_arg1 (((cfg0.win 1).blk t).view.emb _) = _
  rw [V_main_arg1]
  unfold A1
  congr 1
  have h := (index_facts t).2.1
  have ht := lt144 t
  have y1 : (y 1).val < 1024 := (y 1).isLt
  funext b; apply Fin.ext
  fin_cases b
  · show win0_1.index t (0 : Fin 3) * 1 + 1 * 0 = 0; rw [h.1]
  · show win0_1.index t (1 : Fin 3) * 4096 + 1 * (y 0).val = (y 0).val; rw [h.2.1]; omega
  · show win0_1.index t (2 : Fin 3) * 1024 + 1 * (y 1).val = (1024 * (t.val / 8) + (y 1).val) % 18432; rw [h.2.2]; omega

/-- What a point leaves: its block of the product, and its column block of the weight. -/
theorem state (n : ℕ) : ∀ t : Fin cfg0.N, t.val = n → outsAt0 m c t.val t.isLt
    = (mmV (t.val / 8) (iblk m c 0 t) (wB m c (t.val / 8)), wB m c (t.val / 8)) := by
  have hcast (t : Fin cfg0.N) (h0 : t.val % 8 = 0) : outsAt0 m c t.val t.isLt
      = (mmV (t.val / 8) (iblk m c 0 t) (wB m c (t.val / 8)), wB m c (t.val / 8)) := by
    rw [outsAt0_A m c t h0, out_A, sout_A, x1_eq, (index_facts t).2.2]
  induction n with
  | zero =>
    intro t ht
    exact hcast t (by omega)
  | succ n ih =>
    intro t ht
    by_cases h0 : t.val % 8 = 0
    · exact hcast t h0
    · have hpt : t.val - 1 < cfg0.N := Nat.lt_of_le_of_lt (Nat.sub_le _ _) t.isLt
      have hp := ih ⟨t.val - 1, hpt⟩ (by show t.val - 1 = n; omega)
      have hs : (outsAt0 m c (t.val - 1) hpt).2 = wB m c (t.val / 8) := by
        rw [show outsAt0 m c (t.val - 1) hpt = _ from hp]
        show wB m c ((t.val - 1) / 8) = _
        congr 1
        omega
      rw [outsAt0_B m c t h0, out_B, (index_facts t).2.2]
      unfold sout0_B_0
      rw [hs]

/-- The result array at an index: the product with the first layer's weight, times the scale in the queries' columns. -/
theorem G2_apply (i : S8704x18432.Idx) :
    G2 m c i = (∑ k : Fin 4096, A0 m c (ix2 (i 0) k) * A1 m c (ix3 0 k (i 1))) * if (i 1).val < 2048 then scale else 1 := by
  have h0 : (i 0).val < 8704 := (i 0).isLt
  have h1 : (i 1).val < 18432 := (i 1).isLt
  have hlt : (i 0).val / 1088 + 8 * ((i 1).val / 1024) < cfg0.N := lt_of_lt_of_eq (by omega) (show 144 = cfg0.N from N_0.symm)
  obtain ⟨t, ht⟩ : ∃ t : Fin cfg0.N, t.val = (i 0).val / 1088 + 8 * ((i 1).val / 1024) := ⟨⟨_, hlt⟩, rfl⟩
  have hp : pt2Of i = t.val := by rw [ht]; show 1 * ((i 0).val / 1088 - 0) + 8 * ((i 1).val / 1024 - 0) = _; omega
  unfold G2
  rw [dif_pos (by rw [hp]; exact t.isLt), fold0_congr m c _ _ t.val (by rw [Nat.zero_add]; exact t.isLt) hp, ← outsAt0_sweep m c t.val t.isLt, state m c t.val t rfl]
  show (∑ k : Fin 4096, (show EReal from (iblk m c 0 t : Vec Ideal S1088x4096 .bf16) (ix2 (⟨(i 0).val % 1088, Nat.mod_lt _ (by decide)⟩ : Fin 1088) k))
      * A1 m c (ix3 0 k (Fin.ofNat 18432 (1024 * (t.val / 8) + (i 1).val % 1024)))) * (if t.val / 8 < 2 then scale else 1) = _
  have e1 : t.val / 8 = (i 1).val / 1024 := by omega
  have e2 : (Fin.ofNat 18432 (1024 * (t.val / 8) + (i 1).val % 1024)) = i 1 := by
    apply Fin.ext; show (1024 * (t.val / 8) + (i 1).val % 1024) % 18432 = (i 1).val; omega
  have e3 : (if t.val / 8 < 2 then scale else 1) = if (i 1).val < 2048 then scale else 1 := by
    by_cases h : (i 1).val < 2048
    · rw [if_pos h, if_pos (by omega)]
    · rw [if_neg h, if_neg (by omega)]
  rw [e2, e3]
  congr 1
  refine Finset.sum_congr rfl fun k _ => ?_
  have e : (⟨1088 * (t.val % 8) + (i 0).val % 1088, by omega⟩ : Fin 8704) = i 0 := by
    apply Fin.ext; show 1088 * (t.val % 8) + (i 0).val % 1088 = (i 0).val; omega
  exact congrArg (fun z : EReal => z * A1 m c (ix3 0 k (i 1))) ((x0_apply m c t _ k).trans (congrArg (fun z => A0 m c (ix2 z k)) e))

end

end Cert.Mm

end
-- ==== Proof.MmRef.lean ====
/- The input projection and its reference end with equal results. -/
module

public import proofs.«01_k».proof.Proof.Mm
public import proofs.«01_k».proof.Proof.Gen.Reference2Ideal.Read

@[expose] public section

set_option maxRecDepth 16384

noncomputable section

namespace Cert.MmRef

open Idealize.ShloMosaic Idealize.ShloMosaic.TcCoe Idealize.SL.Sem
open Idealize.ShloMosaic.Pointwise
open Cert.Reference2Ideal Cert.Reference2Ideal.Gen Cert.Reference2Ideal.Read

variable (x0 : (⟨S8704x4096, .bf16⟩ : BufTy).Contents (Elt Ideal)) (x1 : (⟨S2x4096x18432, .f32⟩ : BufTy).Contents (Elt Ideal))

/-- The product at an index. -/
theorem v3_ix (a : Fin 8704) (b : Fin 18432) : val_main_v3 (F := Ideal) x0 x1 (ix2 a b) = ∑ k : Fin 4096, x0 (ix2 a k) * x1 (ix3 0 k b) := by
  pointwise [val_main_v3, val_main_v0, val_main_v2, val_main_v1]

/-- The reference at an index. -/
theorem ref_apply (a : Fin 8704) (b : Fin 18432) : val_main_v9 (F := Ideal) x0 x1 (ix2 a b)
    = (∑ k : Fin 4096, x0 (ix2 a k) * x1 (ix3 0 k b)) * if b.val < 2048 then Cert.Mm.scale else 1 := by
  rw [← v3_ix]
  unfold val_main_v9 val_main_v8 val_main_v7 val_main_v6 val_main_v4 val_main_v5 val_main_cst
  generalize val_main_v3 (F := Ideal) x0 x1 = y
  pointwise []
  by_cases h : b.val < 2048
  · rw [dif_pos h, if_pos h]; rfl
  · rw [dif_neg h, if_neg h, mul_one]
    congr 2; apply Fin.ext; show 2048 + (b.val - 2048) = b.val; omega

/-- From equal arguments, the kernel's result is the reference's. -/
theorem result_eq (m : (ℓ : Loc Cert.Kernel2Ideal.nD Cert.Kernel2Ideal.τ Cert.Kernel2Ideal.sig) → Buf (Elt Ideal) ℓ) (c : Dev Cert.Kernel2Ideal.nD)
    (h0 : x0 = Cert.Mm.A0 m c) (h1 : x1 = Cert.Mm.A1 m c) :
    (Cert.Kernel2Ideal.Value.G2 m c : S8704x18432.Idx → EReal) = val_main_v9 (F := Ideal) x0 x1 := by
  subst h0 h1
  funext i
  obtain ⟨a, b, rfl⟩ : ∃ (a : Fin 8704) (b : Fin 18432), i = ix2 a b := ⟨i 0, i 1, by funext b; fin_cases b <;> rfl⟩
  rw [ref_apply]
  exact Cert.Mm.G2_apply m c (ix2 a b)

end Cert.MmRef

end
-- ==== Proof.Merge.lean ====
/- What each grid point of the gated merge leaves: its block of the merge, and its blocks of the two weights. -/
module

public import proofs.«01_k».proof.Proof.Gen.Kernel3Ideal.Value
public import proofs.«01_k».proof.Proof.Blk
public import Idealize.ShloMosaic.Lib.Pointwise
public import Idealize.ShloMosaic.Lib.Writes

@[expose] public section

set_option maxRecDepth 16384

noncomputable section

namespace Cert.Merge

open Cert.Kernel3Ideal Cert.Kernel3Ideal.Gen Cert.Kernel3Ideal.Value Idealize.ShloMosaic Idealize.ShloMosaic.TcCoe Idealize.SL.Sem
open Idealize.ShloMosaic.Pointwise

/-- A weight's block without its unit axis. -/
def wV (x1 : Vec Ideal S1x2048x1024 .f32) : S2048x1024.Idx → EReal := fun y => x1 (ix3 0 (y 0) (y 1))

/-- The block of a point: the two branches' products, each times its gate's sigmoid, added. -/
def mgV (oa : S512x2048.Idx → EReal) (wa : S2048x1024.Idx → EReal) (ob : S512x2048.Idx → EReal) (wb : S2048x1024.Idx → EReal)
    (ga gb : S512x1024.Idx → EReal) : S512x1024.Idx → EReal :=
  fun y => Ideal.logistic (ga y) * (∑ k : Fin 2048, oa (ix2 (y 0) k) * wa (ix2 k (y 1)))
    + Ideal.logistic (gb y) * (∑ k : Fin 2048, ob (ix2 (y 0) k) * wb (ix2 k (y 1)))

theorem pay1_apply (v : Vec Ideal S1x512x1024 .f32) (r : Fin 512) (l : Fin 1024) : k0_pay1 (F := Ideal) v (ix2 r l) = v (ix3 0 r l) := by
  pointwise [k0_pay1]

theorem pay2_apply (v : Vec Ideal S1x512x1024 .f32) (r : Fin 512) (l : Fin 1024) : k0_pay2 (F := Ideal) v (ix2 r l) = v (ix3 0 r l) := by
  pointwise [k0_pay2]

theorem pay3_apply (oa : Vec Ideal S512x2048 .bf16) (wa : Vec Ideal S2048x1024 .bf16) (ob : Vec Ideal S512x2048 .bf16) (wb : Vec Ideal S2048x1024 .bf16)
    (ga gb : Vec Ideal S512x1024 .bf16) (r : Fin 512) (l : Fin 1024) :
    k0_pay3 (F := Ideal) oa wa ob wb ga gb (ix2 r l) = mgV oa wa ob wb ga gb (ix2 r l) := by
  unfold mgV
  pointwise [k0_pay3]

section
variable (c : Dev nD) (i : grid0.Coords) (arg2 : Memref sig .tc .vmem S512x2048 .bf16) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S2048x1024 .bf16) (harg9 : arg9.IsWhole) (arg10 : Memref sig .tc .vmem S2048x1024 .bf16) (harg10 : arg10.IsWhole)
    (x0 : Vec Ideal S512x2048 .bf16) (x1 x2 : Vec Ideal S1x2048x1024 .f32) (x3 : Vec Ideal S512x2048 .bf16) (x4 x5 : Vec Ideal S512x1024 .bf16) (xs0 xs1 : Vec Ideal S2048x1024 .bf16)

section
variable (𝒱 : Variants) (bd : Option 𝒱.V) (h1 : k0_cond1 i = 1#1)

/-- A trip's one piece: its rows of the weight. -/
theorem trip_eq1 (k : Fin k0_t1_loop.trips) (X : arg3.view.ty.Contents (Elt Ideal)) :
    tripL_k0_t1 (F := Ideal) 𝒱 c bd i arg2 harg2 arg3 harg3 arg4 harg4 arg5 harg5 arg6 harg6 arg7 harg7 arg8 harg8 arg9 harg9 arg10 harg10 h1 X k
      = [(⟨Rect.unit (s := S2048x1024) (k0_off2 k) S512x1024.size (k0_off2_inb i k h1),
          k0_pay1 (F := Ideal) (View.readAt (Elt Ideal) arg3.view (Rect.unit (s := S1x2048x1024) (k0_off1 k) S1x512x1024.size (k0_off1_inb i k h1)).toLoadRect X)⟩ : View.Piece (Elt Ideal) S2048x1024 .bf16)] := by
  unfold tripL_k0_t1 trip_k0_t1
  rfl

theorem trips_le1 (k : Fin k0_t1_loop.trips) : k.val < 4 := lt_of_lt_of_le k.isLt k0_t1_abs.2.1

/-- The rows a trip stores are the weight's. -/
theorem rows_val1 (k : Fin k0_t1_loop.trips) (r : Fin 512) (l : Fin 1024) :
    k0_pay1 (F := Ideal) (View.readAt (Elt Ideal) arg3.view (Rect.unit (s := S1x2048x1024) (k0_off1 k) S1x512x1024.size (k0_off1_inb i k h1)).toLoadRect (harg3.unread x1)) (ix2 r l)
      = wV x1 ((Rect.unit (s := S2048x1024) (k0_off2 k) S512x1024.size (k0_off2_inb i k h1)).emb (ix2 r l)) := by
  have h8 := trips_le1 k
  have hk : 512 * k.val + r.val < 2048 := by omega
  rw [pay1_apply, Blk.load_rows arg3.view _ x1 (harg3.read_unread x1) _ _ (k0_off1_eq k) _ r l hk, Blk.emb_rows _ _ (k0_off2_eq k) _ r l hk]
  rfl

theorem trip_val1 (k : Fin k0_t1_loop.trips) :
    ∀ p ∈ (tripL_k0_t1 (F := Ideal) 𝒱 c bd i arg2 harg2 arg3 harg3 arg4 harg4 arg5 harg5 arg6 harg6 arg7 harg7 arg8 harg8 arg9 harg9 arg10 harg10 h1 (harg3.unread x1) k), ∀ x : p.1.shape.Idx, p.2 x = wV x1 (p.1.emb x) := by
  rw [trip_eq1]
  intro p hp
  obtain rfl := List.mem_singleton.mp hp
  intro (x : S512x1024.Idx)
  obtain ⟨r, l, rfl⟩ : ∃ (r : Fin 512) (l : Fin 1024), x = ix2 r l := ⟨x 0, x 1, by funext b; fin_cases b <;> rfl⟩
  exact rows_val1 i arg3 harg3 x1 h1 k r l

/-- The pieces of the trips before `k` hold the weight. -/
theorem pb_val1 (k : ℕ) (hk : k ≤ k0_t1_loop.trips) :
    ∀ p ∈ (pb_k0_t1 (F := Ideal) 𝒱 c bd i arg2 harg2 arg3 harg3 arg4 harg4 arg5 harg5 arg6 harg6 arg7 harg7 arg8 harg8 arg9 harg9 arg10 harg10 h1 (harg3.unread x1) k), ∀ x : p.1.shape.Idx, p.2 x = wV x1 (p.1.emb x) := by
  induction k with
  | zero =>
    intro p hp
    unfold pb_k0_t1 at hp
    exact absurd hp List.not_mem_nil
  | succ k ih =>
    intro p hp
    rw [pb_k0_t1_succ 𝒱 c bd i arg2 harg2 arg3 harg3 arg4 harg4 arg5 harg5 arg6 harg6 arg7 harg7 arg8 harg8 arg9 harg9 arg10 harg10 h1 _ ⟨k, hk⟩] at hp
    rcases List.mem_append.mp hp with h | h
    · exact trip_val1 c i arg2 harg2 arg3 harg3 arg4 harg4 arg5 harg5 arg6 harg6 arg7 harg7 arg8 harg8 arg9 harg9 arg10 harg10 x1 𝒱 bd h1 ⟨k, hk⟩ p h
    · exact ih (by omega) p h

/-- A trip's one piece: its rows of the weight. -/
theorem trip_eq2 (k : Fin k0_t2_loop.trips) (X : arg4.view.ty.Contents (Elt Ideal)) :
    tripL_k0_t2 (F := Ideal) 𝒱 c bd i arg2 harg2 arg3 harg3 arg4 harg4 arg5 harg5 arg6 harg6 arg7 harg7 arg8 harg8 arg9 harg9 arg10 harg10 h1 X k
      = [(⟨Rect.unit (s := S2048x1024) (k0_off4 k) S512x1024.size (k0_off4_inb i k h1),
          k0_pay2 (F := Ideal) (View.readAt (Elt Ideal) arg4.view (Rect.unit (s := S1x2048x1024) (k0_off3 k) S1x512x1024.size (k0_off3_inb i k h1)).toLoadRect X)⟩ : View.Piece (Elt Ideal) S2048x1024 .bf16)] := by
  unfold tripL_k0_t2 trip_k0_t2
  rfl

theorem trips_le2 (k : Fin k0_t2_loop.trips) : k.val < 4 := lt_of_lt_of_le k.isLt k0_t2_abs.2.1

/-- The rows a trip stores are the weight's. -/
theorem rows_val2 (k : Fin k0_t2_loop.trips) (r : Fin 512) (l : Fin 1024) :
    k0_pay2 (F := Ideal) (View.readAt (Elt Ideal) arg4.view (Rect.unit (s := S1x2048x1024) (k0_off3 k) S1x512x1024.size (k0_off3_inb i k h1)).toLoadRect (harg4.unread x2)) (ix2 r l)
      = wV x2 ((Rect.unit (s := S2048x1024) (k0_off4 k) S512x1024.size (k0_off4_inb i k h1)).emb (ix2 r l)) := by
  have h8 := trips_le2 k
  have hk : 512 * k.val + r.val < 2048 := by omega
  rw [pay2_apply, Blk.load_rows arg4.view _ x2 (harg4.read_unread x2) _ _ (k0_off3_eq k) _ r l hk, Blk.emb_rows _ _ (k0_off4_eq k) _ r l hk]
  rfl

theorem trip_val2 (k : Fin k0_t2_loop.trips) :
    ∀ p ∈ (tripL_k0_t2 (F := Ideal) 𝒱 c bd i arg2 harg2 arg3 harg3 arg4 harg4 arg5 harg5 arg6 harg6 arg7 harg7 arg8 harg8 arg9 harg9 arg10 harg10 h1 (harg4.unread x2) k), ∀ x : p.1.shape.Idx, p.2 x = wV x2 (p.1.emb x) := by
  rw [trip_eq2]
  intro p hp
  obtain rfl := List.mem_singleton.mp hp
  intro (x : S512x1024.Idx)
  obtain ⟨r, l, rfl⟩ : ∃ (r : Fin 512) (l : Fin 1024), x = ix2 r l := ⟨x 0, x 1, by funext b; fin_cases b <;> rfl⟩
  exact rows_val2 i arg4 harg4 x2 h1 k r l

/-- The pieces of the trips before `k` hold the weight. -/
theorem pb_val2 (k : ℕ) (hk : k ≤ k0_t2_loop.trips) :
    ∀ p ∈ (pb_k0_t2 (F := Ideal) 𝒱 c bd i arg2 harg2 arg3 harg3 arg4 harg4 arg5 harg5 arg6 harg6 arg7 harg7 arg8 harg8 arg9 harg9 arg10 harg10 h1 (harg4.unread x2) k), ∀ x : p.1.shape.Idx, p.2 x = wV x2 (p.1.emb x) := by
  induction k with
  | zero =>
    intro p hp
    unfold pb_k0_t2 at hp
    exact absurd hp List.not_mem_nil
  | succ k ih =>
    intro p hp
    rw [pb_k0_t2_succ 𝒱 c bd i arg2 harg2 arg3 harg3 arg4 harg4 arg5 harg5 arg6 harg6 arg7 harg7 arg8 harg8 arg9 harg9 arg10 harg10 h1 _ ⟨k, hk⟩] at hp
    rcases List.mem_append.mp hp with h | h
    · exact trip_val2 c i arg2 harg2 arg3 harg3 arg4 harg4 arg5 harg5 arg6 harg6 arg7 harg7 arg8 harg8 arg9 harg9 arg10 harg10 x2 𝒱 bd h1 ⟨k, hk⟩ p h
    · exact ih (by omega) p h

end

/-- A point that casts the weights leaves the first in its scratch. -/
theorem sout_A0 (hc0 : cond0_0 i) : sout0_A_0 (F := Ideal) c i arg2 harg2 arg3 harg3 arg4 harg4 arg5 harg5 arg6 harg6 arg7 harg7 arg8 harg8 arg9 harg9 arg10 harg10 hc0 x0 x1 x2 x3 x4 x5 = wV x1 := by
  funext y
  unfold sout0_A_0
  refine View.read_writes_apply_of_pieces VS0_0 _ (wV x1) _ ?_ y (scover0_A_0 c i arg2 harg2 arg3 harg3 arg4 harg4 arg5 harg5 arg6 harg6 arg7 harg7 arg8 harg8 arg9 harg9 arg10 harg10 hc0 x0 x1 x2 x3 x4 x5 y)
  unfold kernelRun0_A
  dsimp only
  exact pb_val1 c i arg2 harg2 arg3 harg3 arg4 harg4 arg5 harg5 arg6 harg6 arg7 harg7 arg8 harg8 arg9 harg9 arg10 harg10 x1 _ _ _ _ le_rfl

/-- A point that casts the weights leaves the second in its scratch. -/
theorem sout_A1 (hc0 : cond0_0 i) : sout0_A_1 (F := Ideal) c i arg2 harg2 arg3 harg3 arg4 harg4 arg5 harg5 arg6 harg6 arg7 harg7 arg8 harg8 arg9 harg9 arg10 harg10 hc0 x0 x1 x2 x3 x4 x5 = wV x2 := by
  funext y
  unfold sout0_A_1
  refine View.read_writes_apply_of_pieces VS0_1 _ (wV x2) _ ?_ y (scover0_A_1 c i arg2 harg2 arg3 harg3 arg4 harg4 arg5 harg5 arg6 harg6 arg7 harg7 arg8 harg8 arg9 harg9 arg10 harg10 hc0 x0 x1 x2 x3 x4 x5 y)
  unfold kernelRun0_A
  dsimp only
  exact pb_val2 c i arg2 harg2 arg3 harg3 arg4 harg4 arg5 harg5 arg6 harg6 arg7 harg7 arg8 harg8 arg9 harg9 arg10 harg10 x2 _ _ _ _ le_rfl

/-- A point that keeps the scratches leaves its block of the merge with them. -/
theorem out_B (hc0 : ¬cond0_0 i) :
    out0_B_6 (F := Ideal) c i arg2 harg2 arg3 harg3 arg4 harg4 arg5 harg5 arg6 harg6 arg7 harg7 arg8 harg8 arg9 harg9 arg10 harg10 hc0 x0 x1 x2 x3 x4 x5 xs0 xs1 = mgV x0 xs0 x3 xs1 x4 x5 := by
  funext y
  unfold out0_B_6
  refine View.read_writes_apply_of_pieces VO0_6 _ (mgV x0 xs0 x3 xs1 x4 x5) _ ?_ y (cover0_B_6 c i arg2 harg2 arg3 harg3 arg4 harg4 arg5 harg5 arg6 harg6 arg7 harg7 arg8 harg8 arg9 harg9 arg10 harg10 hc0 x0 x1 x2 x3 x4 x5 xs0 xs1 y)
  unfold kernelRun0_B
  dsimp only
  intro p hp
  obtain rfl := List.mem_singleton.mp hp
  intro (x : S512x1024.Idx)
  obtain ⟨r, l, rfl⟩ : ∃ (r : Fin 512) (l : Fin 1024), x = ix2 r l := ⟨x 0, x 1, by funext b; fin_cases b <;> rfl⟩
  dsimp only
  rw [Blk.load_whole_of arg2.view _ x0 (harg2.read_unread x0) _ (by decide), Blk.load_whole_of arg5.view _ x3 (harg5.read_unread x3) _ (by decide),
    Blk.load_whole_of arg6.view _ x4 (harg6.read_unread x4) _ (by decide), Blk.load_whole_of arg7.view _ x5 (harg7.read_unread x5) _ (by decide),
    Blk.load_whole_of arg9.view _ xs0 (harg9.read_unread xs0) _ (by decide), Blk.load_whole_of arg10.view _ xs1 (harg10.read_unread xs1) _ (by decide), Blk.emb_whole _ (by decide)]
  exact pay3_apply x0 xs0 x3 xs1 x4 x5 r l

/-- A point that casts the weights leaves its block of the merge with them. -/
theorem out_A (hc0 : cond0_0 i) :
    out0_A_6 (F := Ideal) c i arg2 harg2 arg3 harg3 arg4 harg4 arg5 harg5 arg6 harg6 arg7 harg7 arg8 harg8 arg9 harg9 arg10 harg10 hc0 x0 x1 x2 x3 x4 x5 = mgV x0 (wV x1) x3 (wV x2) x4 x5 := by
  funext y
  unfold out0_A_6
  refine View.read_writes_apply_of_pieces VO0_6 _ (mgV x0 (wV x1) x3 (wV x2) x4 x5) _ ?_ y (cover0_A_6 c i arg2 harg2 arg3 harg3 arg4 harg4 arg5 harg5 arg6 harg6 arg7 harg7 arg8 harg8 arg9 harg9 arg10 harg10 hc0 x0 x1 x2 x3 x4 x5 y)
  unfold kernelRun0_A
  dsimp only
  intro p hp
  obtain rfl := List.mem_singleton.mp hp
  intro (x : S512x1024.Idx)
  obtain ⟨r, l, rfl⟩ : ∃ (r : Fin 512) (l : Fin 1024), x = ix2 r l := ⟨x 0, x 1, by funext b; fin_cases b <;> rfl⟩
  dsimp only
  rw [Blk.load_whole_of arg2.view _ x0 (harg2.read_unread x0) _ (by decide), Blk.load_whole_of arg5.view _ x3 (harg5.read_unread x3) _ (by decide),
    Blk.load_whole_of arg6.view _ x4 (harg6.read_unread x4) _ (by decide), Blk.load_whole_of arg7.view _ x5 (harg7.read_unread x5) _ (by decide)]
  rw [Blk.readCov_whole arg9.view _ (wV x1) (pb_val1 c i arg2 harg2 arg3 harg3 arg4 harg4 arg5 harg5 arg6 harg6 arg7 harg7 arg8 harg8 arg9 harg9 arg10 harg10 x1 _ _ _ _ le_rfl)
    (fun y => by have h := scover0_A_0 (F := Ideal) c i arg2 harg2 arg3 harg3 arg4 harg4 arg5 harg5 arg6 harg6 arg7 harg7 arg8 harg8 arg9 harg9 arg10 harg10 hc0 x0 x1 x2 x3 x4 x5 y; unfold kernelRun0_A at h; exact h) _ (by decide)]
  rw [Blk.readCov_whole arg10.view _ (wV x2) (pb_val2 c i arg2 harg2 arg3 harg3 arg4 harg4 arg5 harg5 arg6 harg6 arg7 harg7 arg8 harg8 arg9 harg9 arg10 harg10 x2 _ _ _ _ le_rfl)
    (fun y => by have h := scover0_A_1 (F := Ideal) c i arg2 harg2 arg3 harg3 arg4 harg4 arg5 harg5 arg6 harg6 arg7 harg7 arg8 harg8 arg9 harg9 arg10 harg10 hc0 x0 x1 x2 x3 x4 x5 y; unfold kernelRun0_A at h; exact h) _ (by decide), Blk.emb_whole _ (by decide)]
  exact pay3_apply x0 (wV x1) x3 (wV x2) x4 x5 r l

end

/-- Point `t` is column block `t / 17` of row block `t % 17`. -/
theorem index_facts : ∀ t : Fin grid0.N,
    (win0_0.index t (0 : Fin 2) = t.val % 17 ∧ win0_0.index t (1 : Fin 2) = 0)
    ∧ (win0_1.index t (0 : Fin 3) = 0 ∧ win0_1.index t (1 : Fin 3) = 0 ∧ win0_1.index t (2 : Fin 3) = t.val / 17)
    ∧ (win0_2.index t (0 : Fin 3) = 0 ∧ win0_2.index t (1 : Fin 3) = 0 ∧ win0_2.index t (2 : Fin 3) = t.val / 17)
    ∧ (win0_3.index t (0 : Fin 2) = t.val % 17 ∧ win0_3.index t (1 : Fin 2) = 0)
    ∧ (win0_4.index t (0 : Fin 2) = t.val % 17 ∧ win0_4.index t (1 : Fin 2) = t.val / 17 + 10)
    ∧ (win0_5.index t (0 : Fin 2) = t.val % 17 ∧ win0_5.index t (1 : Fin 2) = t.val / 17 + 14) := by
  decide +kernel

section
variable (m : (ℓ : Loc nD τ sig) → Buf (Elt Ideal) ℓ) (c : Dev nD)

theorem lt68 (t : Fin cfg0.N) : t.val < 68 := lt_of_lt_of_eq t.isLt N_0

/-- The first branch's rows. -/
def A0 : S8704x2048.Idx → EReal := m ((c : Thread nD τ).loc main_arg0)
/-- The second branch's rows. -/
def A1 : S8704x2048.Idx → EReal := m ((c : Thread nD τ).loc main_arg1)
/-- The projection, whose last columns are the gates. -/
def A2 : S8704x18432.Idx → EReal := m ((c : Thread nD τ).loc main_arg2)
/-- The first branch's weights. -/
def A3 : S2x2048x4096.Idx → EReal := m ((c : Thread nD τ).loc main_arg3)
/-- The second branch's weights. -/
def A4 : S2x2048x4096.Idx → EReal := m ((c : Thread nD τ).loc main_arg4)

/-- A branch's rows of a point. -/
theorem x0_apply (t : Fin cfg0.N) (r : Fin 512) (k : Fin 2048) :
    (iblk m c 0 t : Vec Ideal S512x2048 .bf16) (ix2 r k) = A0 m c (ix2 ⟨512 * (t.val % 17) + r.val, by omega⟩ k) := by
  unfold iblk
  show V m c main_arg0 (((cfg0.win 0).blk t).view.emb _) = _
  rw [V_main_arg0]
  unfold A0
  congr 1
  have h := (index_facts t).1
  funext b; apply Fin.ext
  fin_cases b
  · show win0_0.index t (0 : Fin 2) * 512 + 1 * r.val = _; rw [h.1]; show _ = 512 * (t.val % 17) + r.val; omega
  · show win0_0.index t (1 : Fin 2) * 2048 + 1 * k.val = k.val; rw [h.2]; omega

/-- A branch's rows of a point. -/
theorem x3_apply (t : Fin cfg0.N) (r : Fin 512) (k : Fin 2048) :
    (iblk m c 3 t : Vec Ideal S512x2048 .bf16) (ix2 r k) = A1 m c (ix2 ⟨512 * (t.val % 17) + r.val, by omega⟩ k) := by
  unfold iblk
  show V m c main_arg1 (((cfg0.win 3).blk t).view.emb _) = _
  rw [V_main_arg1]
  unfold A1
  congr 1
  have h := (index_facts t).2.2.2.1
  funext b; apply Fin.ext
  fin_cases b
  · show win0_3.index t (0 : Fin 2) * 512 + 1 * r.val = _; rw [h.1]; show _ = 512 * (t.val % 17) + r.val; omega
  · show win0_3.index t (1 : Fin 2) * 2048 + 1 * k.val = k.val; rw [h.2]; omega

/-- A gate's block of a point. -/
theorem x4_apply (t : Fin cfg0.N) (r : Fin 512) (l : Fin 1024) :
    (iblk m c 4 t : Vec Ideal S512x1024 .bf16) (ix2 r l) = A2 m c (ix2 ⟨512 * (t.val % 17) + r.val, by omega⟩ ⟨1024 * (t.val / 17 + 10) + l.val, by have := lt68 t; omega⟩) := by
  unfold iblk
  show V m c main_arg2 (((cfg0.win 4).blk t).view.emb _) = _
  rw [V_main_arg2]
  unfold A2
  congr 1
  have h := (index_facts t).2.2.2.2.1
  funext b; apply Fin.ext
  fin_cases b
  · show win0_4.index t (0 : Fin 2) * 512 + 1 * r.val = _; rw [h.1]; show _ = 512 * (t.val % 17) + r.val; omega
  · show win0_4.index t (1 : Fin 2) * 1024 + 1 * l.val = _; rw [h.2]; show _ = 1024 * (t.val / 17 + 10) + l.val; omega

/-- A gate's block of a point. -/
theorem x5_apply (t : Fin cfg0.N) (r : Fin 512) (l : Fin 1024) :
    (iblk m c 5 t : Vec Ideal S512x1024 .bf16) (ix2 r l) = A2 m c (ix2 ⟨512 * (t.val % 17) + r.val, by omega⟩ ⟨1024 * (t.val / 17 + 14) + l.val, by have := lt68 t; omega⟩) := by
  unfold iblk
  show V m c main_arg2 (((cfg0.win 5).blk t).view.emb _) = _
  rw [V_main_arg2]
  unfold A2
  congr 1
  have h := (index_facts t).2.2.2.2.2
  funext b; apply Fin.ext
  fin_cases b
  · show win0_5.index t (0 : Fin 2) * 512 + 1 * r.val = _; rw [h.1]; show _ = 512 * (t.val % 17) + r.val; omega
  · show win0_5.index t (1 : Fin 2) * 1024 + 1 * l.val = _; rw [h.2]; show _ = 1024 * (t.val / 17 + 14) + l.val; omega

/-- One block of columns of a first layer's weight. -/
def wB (A : S2x2048x4096.Idx → EReal) (j : ℕ) : S2048x1024.Idx → EReal := fun y => A (ix3 0 (y 0) (Fin.ofNat 4096 (1024 * j + (y 1).val)))

/-- A weight's block of a point. -/
theorem x1_eq (t : Fin cfg0.N) : wV (iblk m c 1 t : Vec Ideal S1x2048x1024 .f32) = wB (A3 m c) (t.val / 17) := by
  funext y
  unfold wV wB iblk
  show V m c main_arg3 (((cfg0.win 1).blk t).view.emb _) = _
  rw [V_main_arg3]
  unfold A3
  congr 1
  have h := (index_facts t).2.1
  have ht := lt68 t
  have y1 : (y 1).val < 1024 := (y 1).isLt
  funext b; apply Fin.ext
  fin_cases b
  · show win0_1.index t (0 : Fin 3) * 1 + 1 * 0 = 0; rw [h.1]
  · show win0_1.index t (1 : Fin 3) * 2048 + 1 * (y 0).val = (y 0).val; rw [h.2.1]; omega
  · show win0_1.index t (2 : Fin 3) * 1024 + 1 * (y 1).val = (1024 * (t.val / 17) + (y 1).val) % 4096; rw [h.2.2]; omega

/-- A weight's block of a point. -/
theorem x2_eq (t : Fin cfg0.N) : wV (iblk m c 2 t : Vec Ideal S1x2048x1024 .f32) = wB (A4 m c) (t.val / 17) := by
  funext y
  unfold wV wB iblk
  show V m c main_arg4 (((cfg0.win 2).blk t).view.emb _) = _
  rw [V_main_arg4]
  unfold A4
  congr 1
  have h := (index_facts t).2.2.1
  have ht := lt68 t
  have y1 : (y 1).val < 1024 := (y 1).isLt
  funext b; apply Fin.ext
  fin_cases b
  · show win0_2.index t (0 : Fin 3) * 1 + 1 * 0 = 0; rw [h.1]
  · show win0_2.index t (1 : Fin 3) * 2048 + 1 * (y 0).val = (y 0).val; rw [h.2.1]; omega
  · show win0_2.index t (2 : Fin 3) * 1024 + 1 * (y 1).val = (1024 * (t.val / 17) + (y 1).val) % 4096; rw [h.2.2]; omega

/-- What a point leaves: its block of the merge, and its column blocks of the weights. -/
theorem state (n : ℕ) : ∀ t : Fin cfg0.N, t.val = n → outsAt0 m c t.val t.isLt
    = (mgV (iblk m c 0 t) (wB (A3 m c) (t.val / 17)) (iblk m c 3 t) (wB (A4 m c) (t.val / 17)) (iblk m c 4 t) (iblk m c 5 t), wB (A3 m c) (t.val / 17), wB (A4 m c) (t.val / 17)) := by
  have hcast (t : Fin cfg0.N) (h0 : t.val % 17 = 0) : outsAt0 m c t.val t.isLt
      = (mgV (iblk m c 0 t) (wB (A3 m c) (t.val / 17)) (iblk m c 3 t) (wB (A4 m c) (t.val / 17)) (iblk m c 4 t) (iblk m c 5 t), wB (A3 m c) (t.val / 17), wB (A4 m c) (t.val / 17)) := by
    rw [outsAt0_A m c t h0, out_A, sout_A0, sout_A1, x1_eq, x2_eq]
  induction n with
  | zero =>
    intro t ht
    exact hcast t (by omega)
  | succ n ih =>
    intro t ht
    by_cases h0 : t.val % 17 = 0
    · exact hcast t h0
    · have hpt : t.val - 1 < cfg0.N := Nat.lt_of_le_of_lt (Nat.sub_le _ _) t.isLt
      have hp := ih ⟨t.val - 1, hpt⟩ (by show t.val - 1 = n; omega)
      have ej : (t.val - 1) / 17 = t.val / 17 := by omega
      have hs0 : (outsAt0 m c (t.val - 1) hpt).2.1 = wB (A3 m c) (t.val / 17) := by
        rw [show outsAt0 m c (t.val - 1) hpt = _ from hp]
        show wB (A3 m c) ((t.val - 1) / 17) = _
        rw [ej]
      have hs1 : (outsAt0 m c (t.val - 1) hpt).2.2 = wB (A4 m c) (t.val / 17) := by
        rw [show outsAt0 m c (t.val - 1) hpt = _ from hp]
        show wB (A4 m c) ((t.val - 1) / 17) = _
        rw [ej]
      rw [outsAt0_B m c t h0, out_B]
      unfold sout0_B_0 sout0_B_1
      rw [hs0, hs1]

/-- The result array at an index: the two products, each times its gate's sigmoid. -/
theorem G6_apply (i : S8704x4096.Idx) :
    G6 m c i = Ideal.logistic (A2 m c (ix2 (i 0) (Fin.ofNat 18432 (10240 + (i 1).val)))) * (∑ k : Fin 2048, A0 m c (ix2 (i 0) k) * A3 m c (ix3 0 k (i 1)))
      + Ideal.logistic (A2 m c (ix2 (i 0) (Fin.ofNat 18432 (14336 + (i 1).val)))) * (∑ k : Fin 2048, A1 m c (ix2 (i 0) k) * A4 m c (ix3 0 k (i 1))) := by
  have h0 : (i 0).val < 8704 := (i 0).isLt
  have h1 : (i 1).val < 4096 := (i 1).isLt
  have hlt : (i 0).val / 512 + 17 * ((i 1).val / 1024) < cfg0.N := lt_of_lt_of_eq (by omega) (show 68 = cfg0.N from N_0.symm)
  obtain ⟨t, ht⟩ : ∃ t : Fin cfg0.N, t.val = (i 0).val / 512 + 17 * ((i 1).val / 1024) := ⟨⟨_, hlt⟩, rfl⟩
  have hp : pt6Of i = t.val := by rw [ht]; show 1 * ((i 0).val / 512 - 0) + 17 * ((i 1).val / 1024 - 0) = _; omega
  unfold G6
  rw [dif_pos (by rw [hp]; exact t.isLt), fold0_congr m c _ _ t.val (by rw [Nat.zero_add]; exact t.isLt) hp, ← outsAt0_sweep m c t.val t.isLt, state m c t.val t rfl]
  have e1 : t.val / 17 = (i 1).val / 1024 := by omega
  have e2 : (Fin.ofNat 4096 (1024 * (t.val / 17) + (i 1).val % 1024)) = i 1 := by
    apply Fin.ext; show (1024 * (t.val / 17) + (i 1).val % 1024) % 4096 = (i 1).val; omega
  have e0 : (⟨512 * (t.val % 17) + (i 0).val % 512, by omega⟩ : Fin 8704) = i 0 := by
    apply Fin.ext; show 512 * (t.val % 17) + (i 0).val % 512 = (i 0).val; omega
  have f0 (k : Fin 2048) := (x0_apply m c t (⟨(i 0).val % 512, Nat.mod_lt _ (by decide)⟩ : Fin 512) k).trans (congrArg (fun z => A0 m c (ix2 z k)) e0)
  have f3 (k : Fin 2048) := (x3_apply m c t (⟨(i 0).val % 512, Nat.mod_lt _ (by decide)⟩ : Fin 512) k).trans (congrArg (fun z => A1 m c (ix2 z k)) e0)
  have g4 : (⟨1024 * (t.val / 17 + 10) + (i 1).val % 1024, by omega⟩ : Fin 18432) = Fin.ofNat 18432 (10240 + (i 1).val) := by
    apply Fin.ext; show 1024 * (t.val / 17 + 10) + (i 1).val % 1024 = (10240 + (i 1).val) % 18432; omega
  have g5 : (⟨1024 * (t.val / 17 + 14) + (i 1).val % 1024, by omega⟩ : Fin 18432) = Fin.ofNat 18432 (14336 + (i 1).val) := by
    apply Fin.ext; show 1024 * (t.val / 17 + 14) + (i 1).val % 1024 = (14336 + (i 1).val) % 18432; omega
  have f4 := (x4_apply m c t (⟨(i 0).val % 512, Nat.mod_lt _ (by decide)⟩ : Fin 512) (⟨(i 1).val % 1024, Nat.mod_lt _ (by decide)⟩ : Fin 1024)).trans
    (congrArg₂ (fun z w => A2 m c (ix2 z w)) e0 g4)
  have f5 := (x5_apply m c t (⟨(i 0).val % 512, Nat.mod_lt _ (by decide)⟩ : Fin 512) (⟨(i 1).val % 1024, Nat.mod_lt _ (by decide)⟩ : Fin 1024)).trans
    (congrArg₂ (fun z w => A2 m c (ix2 z w)) e0 g5)
  show Ideal.logistic ((iblk m c 4 t : Vec Ideal S512x1024 .bf16) (loc6Of i)) * (∑ k : Fin 2048, (show EReal from (iblk m c 0 t : Vec Ideal S512x2048 .bf16) (ix2 (⟨(i 0).val % 512, Nat.mod_lt _ (by decide)⟩ : Fin 512) k))
      * A3 m c (ix3 0 k (Fin.ofNat 4096 (1024 * (t.val / 17) + (i 1).val % 1024))))
    + Ideal.logistic ((iblk m c 5 t : Vec Ideal S512x1024 .bf16) (loc6Of i)) * (∑ k : Fin 2048, (show EReal from (iblk m c 3 t : Vec Ideal S512x2048 .bf16) (ix2 (⟨(i 0).val % 512, Nat.mod_lt _ (by decide)⟩ : Fin 512) k))
      * A4 m c (ix3 0 k (Fin.ofNat 4096 (1024 * (t.val / 17) + (i 1).val % 1024)))) = _
  rw [e2]
  have el : loc6Of i = ix2 (⟨(i 0).val % 512, Nat.mod_lt _ (by decide)⟩ : Fin 512) (⟨(i 1).val % 1024, Nat.mod_lt _ (by decide)⟩ : Fin 1024) := by
    funext b; fin_cases b <;> rfl
  rw [el]
  refine congrArg₂ (fun a b : EReal => a + b) (congrArg₂ (fun a b : EReal => Ideal.logistic a * b) f4 (Finset.sum_congr rfl fun k _ => congrArg (fun z : EReal => z * A3 m c (ix3 0 k (i 1))) (f0 k)))
    (congrArg₂ (fun a b : EReal => Ideal.logistic a * b) f5 (Finset.sum_congr rfl fun k _ => congrArg (fun z : EReal => z * A4 m c (ix3 0 k (i 1))) (f3 k)))

end

end Cert.Merge

end
-- ==== Proof.MergeRef.lean ====
/- The gated merge and its reference end with equal results. -/
module

public import proofs.«01_k».proof.Proof.Merge
public import proofs.«01_k».proof.Proof.Gen.Reference3Ideal.Read

@[expose] public section

set_option maxRecDepth 16384

noncomputable section

namespace Cert.MergeRef

open Idealize.ShloMosaic Idealize.ShloMosaic.TcCoe Idealize.SL.Sem
open Idealize.ShloMosaic.Pointwise
open Cert.Reference3Ideal Cert.Reference3Ideal.Gen Cert.Reference3Ideal.Read

variable (x0 x1 : (⟨S8704x2048, .bf16⟩ : BufTy).Contents (Elt Ideal)) (x2 : (⟨S8704x18432, .bf16⟩ : BufTy).Contents (Elt Ideal)) (x3 x4 : (⟨S2x2048x4096, .f32⟩ : BufTy).Contents (Elt Ideal))

theorem one_eq : (Ideal.ofBits .f32 0x3F800000#32 : EReal) = 1 := by
  simp [Ideal.ofBits, Ideal.ieee, -EReal.coe_mul]; norm_num

/-- The first branch's product at an index. -/
theorem v13_ix (a : Fin 8704) (b : Fin 4096) : val_main_v13 (F := Ideal) x0 x3 (ix2 a b) = ∑ k : Fin 2048, x0 (ix2 a k) * x3 (ix3 0 k b) := by
  pointwise [val_main_v13, val_main_v10, val_main_v12, val_main_v11]

/-- The second branch's product at an index. -/
theorem v24_ix (a : Fin 8704) (b : Fin 4096) : val_main_v24 (F := Ideal) x1 x4 (ix2 a b) = ∑ k : Fin 2048, x1 (ix2 a k) * x4 (ix3 0 k b) := by
  pointwise [val_main_v24, val_main_v21, val_main_v23, val_main_v22]

/-- The first gate at an index. -/
theorem v9_ix (a : Fin 8704) (b : Fin 4096) : val_main_v9 (F := Ideal) x2 (ix2 a b) = Ideal.logistic (x2 (ix2 a (Fin.ofNat 18432 (10240 + b.val)))) := by
  have e : (⟨10240 + b.val, by omega⟩ : Fin 18432) = Fin.ofNat 18432 (10240 + b.val) := by
    apply Fin.ext; show 10240 + b.val = (10240 + b.val) % 18432; omega
  pointwise [val_main_v9, val_main_v8, val_main_v7, val_main_v6, val_main_v5, val_main_v4, val_main_v1, val_main_v0, val_main_cst, val_main_cst_0]
  rw [← e]
  unfold Ideal.logistic
  rw [← one_eq]

/-- The second gate at an index. -/
theorem v20_ix (a : Fin 8704) (b : Fin 4096) : val_main_v20 (F := Ideal) x2 (ix2 a b) = Ideal.logistic (x2 (ix2 a (Fin.ofNat 18432 (14336 + b.val)))) := by
  have e : (⟨14336 + b.val, by omega⟩ : Fin 18432) = Fin.ofNat 18432 (14336 + b.val) := by
    apply Fin.ext; show 14336 + b.val = (14336 + b.val) % 18432; omega
  pointwise [val_main_v20, val_main_v19, val_main_v18, val_main_v17, val_main_v16, val_main_v15, val_main_v3, val_main_v2, val_main_cst_1, val_main_cst_2]
  rw [← e]
  unfold Ideal.logistic
  rw [← one_eq]

/-- The reference at an index. -/
theorem ref_apply (a : Fin 8704) (b : Fin 4096) : val_main_v27 (F := Ideal) x0 x1 x2 x3 x4 (ix2 a b)
    = Ideal.logistic (x2 (ix2 a (Fin.ofNat 18432 (10240 + b.val)))) * (∑ k : Fin 2048, x0 (ix2 a k) * x3 (ix3 0 k b))
      + Ideal.logistic (x2 (ix2 a (Fin.ofNat 18432 (14336 + b.val)))) * (∑ k : Fin 2048, x1 (ix2 a k) * x4 (ix3 0 k b)) := by
  rw [← v13_ix, ← v24_ix, ← v9_ix, ← v20_ix]
  rfl

/-- From equal arguments, the kernel's result is the reference's. -/
theorem result_eq (m : (ℓ : Loc Cert.Kernel3Ideal.nD Cert.Kernel3Ideal.τ Cert.Kernel3Ideal.sig) → Buf (Elt Ideal) ℓ) (c : Dev Cert.Kernel3Ideal.nD)
    (h0 : x0 = Cert.Merge.A0 m c) (h1 : x1 = Cert.Merge.A1 m c) (h2 : x2 = Cert.Merge.A2 m c) (h3 : x3 = Cert.Merge.A3 m c) (h4 : x4 = Cert.Merge.A4 m c) :
    (Cert.Kernel3Ideal.Value.G6 m c : S8704x4096.Idx → EReal) = val_main_v27 (F := Ideal) x0 x1 x2 x3 x4 := by
  subst h0 h1 h2 h3 h4
  funext i
  obtain ⟨a, b, rfl⟩ : ∃ (a : Fin 8704) (b : Fin 4096), i = ix2 a b := ⟨i 0, i 1, by funext b; fin_cases b <;> rfl⟩
  rw [ref_apply]
  exact Cert.Merge.G6_apply m c (ix2 a b)

end Cert.MergeRef

end
-- ==== Proof.Outp.lean ====
/- What each grid point of the output projection leaves: its block of the sum, and its block of the weight. -/
module

public import proofs.«01_k».proof.Proof.Gen.Kernel4Ideal.Value
public import proofs.«01_k».proof.Proof.Blk
public import Idealize.ShloMosaic.Lib.Pointwise
public import Idealize.ShloMosaic.Lib.Writes

@[expose] public section

set_option maxRecDepth 16384

noncomputable section

namespace Cert.Outp

open Cert.Kernel4Ideal Cert.Kernel4Ideal.Gen Cert.Kernel4Ideal.Value Idealize.ShloMosaic Idealize.ShloMosaic.TcCoe Idealize.SL.Sem
open Idealize.ShloMosaic.Pointwise

/-- The weight's block without its unit axis. -/
def wV (x1 : Vec Ideal S1x4096x1024 .f32) : S4096x1024.Idx → EReal := fun y => x1 (ix3 0 (y 0) (y 1))

/-- The block of a point: the residual plus the gate times the product. -/
def opV (x : S512x1024.Idx → EReal) (g : S1x1x1024.Idx → EReal) (y : S512x4096.Idx → EReal) (w : S4096x1024.Idx → EReal) : S512x1024.Idx → EReal :=
  fun p => x p + g (ix3 0 0 (p 1)) * (∑ k : Fin 4096, y (ix2 (p 0) k) * w (ix2 k (p 1)))

theorem pay1_apply (v : Vec Ideal S1x512x1024 .f32) (r : Fin 512) (l : Fin 1024) : k0_pay1 (F := Ideal) v (ix2 r l) = v (ix3 0 r l) := by
  pointwise [k0_pay1]

theorem pay3_apply (g : Vec Ideal S1x1x1024 .f32) (y : Vec Ideal S512x4096 .bf16) (w : Vec Ideal S4096x1024 .bf16) (x : Vec Ideal S512x1024 .f32) (r : Fin 512) (l : Fin 1024) :
    k0_pay3 (F := Ideal) g y w x (ix2 r l) = opV x g y w (ix2 r l) := by
  unfold opV
  pointwise [k0_pay3, k0_pay2]

theorem pay4_apply (g : Vec Ideal S1x1x1024 .f32) (y : Vec Ideal S512x4096 .bf16) (w : Vec Ideal S4096x1024 .bf16) (x : Vec Ideal S512x1024 .f32) (r : Fin 512) (l : Fin 1024) :
    k0_pay4 (F := Ideal) g y w x (ix2 r l) = opV x g y w (ix2 r l) := by
  unfold opV
  pointwise [k0_pay4, k0_pay2]

section
variable (c : Dev nD) (i : grid0.Coords) (arg2 : Memref sig .tc .vmem S512x4096 .bf16) (harg2 : arg2.IsWhole) (arg3 : Memref sig .tc .vmem S1x4096x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S4096x1024 .bf16) (harg8 : arg8.IsWhole)
    (x0 : Vec Ideal S512x4096 .bf16) (x1 : Vec Ideal S1x4096x1024 .f32) (x2 x3 : Vec Ideal S512x1024 .f32) (x4 : Vec Ideal S1x1x1024 .f32) (xs0 : Vec Ideal S4096x1024 .bf16)

section
variable (𝒱 : Variants) (bd : Option 𝒱.V) (h1 : k0_cond1 i = 1#1)

/-- A trip's one piece: its rows of the weight. -/
theorem trip_eq (k : Fin k0_t1_loop.trips) (X : arg3.view.ty.Contents (Elt Ideal)) :
    tripL_k0_t1 (F := Ideal) 𝒱 c bd i arg2 harg2 arg3 harg3 arg4 harg4 arg5 harg5 arg6 harg6 arg7 harg7 arg8 harg8 h1 X k
      = [(⟨Rect.unit (s := S4096x1024) (k0_off2 k) S512x1024.size (k0_off2_inb i k h1),
          k0_pay1 (F := Ideal) (View.readAt (Elt Ideal) arg3.view (Rect.unit (s := S1x4096x1024) (k0_off1 k) S1x512x1024.size (k0_off1_inb i k h1)).toLoadRect X)⟩ : View.Piece (Elt Ideal) S4096x1024 .bf16)] := by
  unfold tripL_k0_t1 trip_k0_t1
  rfl

theorem trips_le (k : Fin k0_t1_loop.trips) : k.val < 8 := lt_of_lt_of_le k.isLt k0_t1_abs.2.1

/-- The rows a trip stores are the weight's. -/
theorem rows_val (k : Fin k0_t1_loop.trips) (r : Fin 512) (l : Fin 1024) :
    k0_pay1 (F := Ideal) (View.readAt (Elt Ideal) arg3.view (Rect.unit (s := S1x4096x1024) (k0_off1 k) S1x512x1024.size (k0_off1_inb i k h1)).toLoadRect (harg3.unread x1)) (ix2 r l)
      = wV x1 ((Rect.unit (s := S4096x1024) (k0_off2 k) S512x1024.size (k0_off2_inb i k h1)).emb (ix2 r l)) := by
  have h8 := trips_le k
  have hk : 512 * k.val + r.val < 4096 := by omega
  rw [pay1_apply, Blk.load_rows arg3.view _ x1 (harg3.read_unread x1) _ _ (k0_off1_eq k) _ r l hk, Blk.emb_rows _ _ (k0_off2_eq k) _ r l hk]
  rfl

theorem trip_val (k : Fin k0_t1_loop.trips) :
    ∀ p ∈ (tripL_k0_t1 (F := Ideal) 𝒱 c bd i arg2 harg2 arg3 harg3 arg4 harg4 arg5 harg5 arg6 harg6 arg7 harg7 arg8 harg8 h1 (harg3.unread x1) k), ∀ x : p.1.shape.Idx, p.2 x = wV x1 (p.1.emb x) := by
  rw [trip_eq]
  intro p hp
  obtain rfl := List.mem_singleton.mp hp
  intro (x : S512x1024.Idx)
  obtain ⟨r, l, rfl⟩ : ∃ (r : Fin 512) (l : Fin 1024), x = ix2 r l := ⟨x 0, x 1, by funext b; fin_cases b <;> rfl⟩
  exact rows_val i arg3 harg3 x1 h1 k r l

/-- The pieces of the trips before `k` hold the weight. -/
theorem pb_val (k : ℕ) (hk : k ≤ k0_t1_loop.trips) :
    ∀ p ∈ (pb_k0_t1 (F := Ideal) 𝒱 c bd i arg2 harg2 arg3 harg3 arg4 harg4 arg5 harg5 arg6 harg6 arg7 harg7 arg8 harg8 h1 (harg3.unread x1) k), ∀ x : p.1.shape.Idx, p.2 x = wV x1 (p.1.emb x) := by
  induction k with
  | zero =>
    intro p hp
    unfold pb_k0_t1 at hp
    exact absurd hp List.not_mem_nil
  | succ k ih =>
    intro p hp
    rw [pb_k0_t1_succ 𝒱 c bd i arg2 harg2 arg3 harg3 arg4 harg4 arg5 harg5 arg6 harg6 arg7 harg7 arg8 harg8 h1 _ ⟨k, hk⟩] at hp
    rcases List.mem_append.mp hp with h | h
    · exact trip_val c i arg2 harg2 arg3 harg3 arg4 harg4 arg5 harg5 arg6 harg6 arg7 harg7 arg8 harg8 x1 𝒱 bd h1 ⟨k, hk⟩ p h
    · exact ih (by omega) p h

end

/-- A point that casts the weight leaves it in the scratch. -/
theorem sout_A (hc0 : cond0_0 i) (hc1 : cond0_1 i) (hc2 : ¬cond0_2 i) : sout0_A_0 (F := Ideal) c i arg2 harg2 arg3 harg3 arg4 harg4 arg5 harg5 arg6 harg6 arg7 harg7 arg8 harg8 hc0 hc1 hc2 x0 x1 x2 x3 x4 = wV x1 := by
  funext y
  unfold sout0_A_0
  refine View.read_writes_apply_of_pieces VS0_0 _ (wV x1) _ ?_ y (scover0_A_0 c i arg2 harg2 arg3 harg3 arg4 harg4 arg5 harg5 arg6 harg6 arg7 harg7 arg8 harg8 hc0 hc1 hc2 x0 x1 x2 x3 x4 y)
  unfold kernelRun0_A
  dsimp only
  exact pb_val c i arg2 harg2 arg3 harg3 arg4 harg4 arg5 harg5 arg6 harg6 arg7 harg7 arg8 harg8 x1 _ _ _ _ le_rfl

/-- A point that casts the weight leaves its block with it. -/
theorem out_A (hc0 : cond0_0 i) (hc1 : cond0_1 i) (hc2 : ¬cond0_2 i) :
    out0_A_5 (F := Ideal) c i arg2 harg2 arg3 harg3 arg4 harg4 arg5 harg5 arg6 harg6 arg7 harg7 arg8 harg8 hc0 hc1 hc2 x0 x1 x2 x3 x4 = opV x2 x4 x0 (wV x1) := by
  funext y
  unfold out0_A_5
  refine View.read_writes_apply_of_pieces VO0_5 _ (opV x2 x4 x0 (wV x1)) _ ?_ y (cover0_A_5 c i arg2 harg2 arg3 harg3 arg4 harg4 arg5 harg5 arg6 harg6 arg7 harg7 arg8 harg8 hc0 hc1 hc2 x0 x1 x2 x3 x4 y)
  unfold kernelRun0_A
  dsimp only
  intro p hp
  obtain rfl := List.mem_singleton.mp hp
  intro (x : S512x1024.Idx)
  obtain ⟨r, l, rfl⟩ : ∃ (r : Fin 512) (l : Fin 1024), x = ix2 r l := ⟨x 0, x 1, by funext b; fin_cases b <;> rfl⟩
  dsimp only
  rw [Blk.load_whole_of arg2.view _ x0 (harg2.read_unread x0) _ (by decide), Blk.load_whole_of arg4.view _ x2 (harg4.read_unread x2) _ (by decide),
    Blk.load_whole_of arg6.view _ x4 (harg6.read_unread x4) _ (by decide)]
  rw [Blk.readCov_whole arg8.view _ (wV x1) (pb_val c i arg2 harg2 arg3 harg3 arg4 harg4 arg5 harg5 arg6 harg6 arg7 harg7 arg8 harg8 x1 _ _ _ _ le_rfl)
    (fun y => by have h := scover0_A_0 (F := Ideal) c i arg2 harg2 arg3 harg3 arg4 harg4 arg5 harg5 arg6 harg6 arg7 harg7 arg8 harg8 hc0 hc1 hc2 x0 x1 x2 x3 x4 y; unfold kernelRun0_A at h; exact h) _ (by decide), Blk.emb_whole _ (by decide)]
  exact pay3_apply x4 x0 (wV x1) x2 r l

/-- A point of the latent rows that keeps the scratch leaves its block with it. -/
theorem out_B (hc0 : ¬cond0_0 i) (hc1 : cond0_1 i) (hc2 : ¬cond0_2 i) :
    out0_B_5 (F := Ideal) c i arg2 harg2 arg3 harg3 arg4 harg4 arg5 harg5 arg6 harg6 arg7 harg7 arg8 harg8 hc0 hc1 hc2 x0 x1 x2 x3 x4 xs0 = opV x2 x4 x0 xs0 := by
  funext y
  unfold out0_B_5
  refine View.read_writes_apply_of_pieces VO0_5 _ (opV x2 x4 x0 xs0) _ ?_ y (cover0_B_5 c i arg2 harg2 arg3 harg3 arg4 harg4 arg5 harg5 arg6 harg6 arg7 harg7 arg8 harg8 hc0 hc1 hc2 x0 x1 x2 x3 x4 xs0 y)
  unfold kernelRun0_B
  dsimp only
  intro p hp
  obtain rfl := List.mem_singleton.mp hp
  intro (x : S512x1024.Idx)
  obtain ⟨r, l, rfl⟩ : ∃ (r : Fin 512) (l : Fin 1024), x = ix2 r l := ⟨x 0, x 1, by funext b; fin_cases b <;> rfl⟩
  dsimp only
  rw [Blk.load_whole_of arg2.view _ x0 (harg2.read_unread x0) _ (by decide), Blk.load_whole_of arg4.view _ x2 (harg4.read_unread x2) _ (by decide),
    Blk.load_whole_of arg6.view _ x4 (harg6.read_unread x4) _ (by decide)]
  rw [Blk.load_whole_of arg8.view _ xs0 (harg8.read_unread xs0) _ (by decide), Blk.emb_whole _ (by decide)]
  exact pay3_apply x4 x0 xs0 x2 r l

/-- A point of the context rows keeps the scratch and leaves its block with it. -/
theorem out_C (hc0 : ¬cond0_0 i) (hc1 : ¬cond0_1 i) (hc2 : cond0_2 i) :
    out0_C_5 (F := Ideal) c i arg2 harg2 arg3 harg3 arg4 harg4 arg5 harg5 arg6 harg6 arg7 harg7 arg8 harg8 hc0 hc1 hc2 x0 x1 x2 x3 x4 xs0 = opV x3 x4 x0 xs0 := by
  funext y
  unfold out0_C_5
  refine View.read_writes_apply_of_pieces VO0_5 _ (opV x3 x4 x0 xs0) _ ?_ y (cover0_C_5 c i arg2 harg2 arg3 harg3 arg4 harg4 arg5 harg5 arg6 harg6 arg7 harg7 arg8 harg8 hc0 hc1 hc2 x0 x1 x2 x3 x4 xs0 y)
  unfold kernelRun0_C
  dsimp only
  intro p hp
  obtain rfl := List.mem_singleton.mp hp
  intro (x : S512x1024.Idx)
  obtain ⟨r, l, rfl⟩ : ∃ (r : Fin 512) (l : Fin 1024), x = ix2 r l := ⟨x 0, x 1, by funext b; fin_cases b <;> rfl⟩
  dsimp only
  rw [Blk.load_whole_of arg2.view _ x0 (harg2.read_unread x0) _ (by decide), Blk.load_whole_of arg5.view _ x3 (harg5.read_unread x3) _ (by decide),
    Blk.load_whole_of arg6.view _ x4 (harg6.read_unread x4) _ (by decide)]
  rw [Blk.load_whole_of arg8.view _ xs0 (harg8.read_unread xs0) _ (by decide), Blk.emb_whole _ (by decide)]
  exact pay4_apply x4 x0 xs0 x3 r l

end

/-- Point `t` is column block `t / 17` of row block `t % 17`. -/
theorem index_facts : ∀ t : Fin grid0.N,
    (win0_0.index t (0 : Fin 2) = t.val % 17 ∧ win0_0.index t (1 : Fin 2) = 0)
    ∧ (win0_1.index t (0 : Fin 3) = 0 ∧ win0_1.index t (1 : Fin 3) = 0 ∧ win0_1.index t (2 : Fin 3) = t.val / 17)
    ∧ (win0_2.index t (0 : Fin 2) = min (t.val % 17) 15 ∧ win0_2.index t (1 : Fin 2) = t.val / 17)
    ∧ (win0_3.index t (0 : Fin 2) = 0 ∧ win0_3.index t (1 : Fin 2) = t.val / 17)
    ∧ (win0_4.index t (0 : Fin 3) = t.val % 17 / 8 ∧ win0_4.index t (1 : Fin 3) = 0 ∧ win0_4.index t (2 : Fin 3) = t.val / 17 + 8) := by
  decide +kernel

section
variable (m : (ℓ : Loc nD τ sig) → Buf (Elt Ideal) ℓ) (c : Dev nD)

theorem lt68 (t : Fin cfg0.N) : t.val < 68 := lt_of_lt_of_eq t.isLt N_0

/-- The merged rows. -/
def A0 : S8704x4096.Idx → EReal := m ((c : Thread nD τ).loc main_arg0)
/-- The weights. -/
def A1 : S2x4096x4096.Idx → EReal := m ((c : Thread nD τ).loc main_arg1)
/-- The latent rows. -/
def A2 : S8192x4096.Idx → EReal := m ((c : Thread nD τ).loc main_arg2)
/-- The context's rows. -/
def A3 : S512x4096.Idx → EReal := m ((c : Thread nD τ).loc main_arg3)
/-- The modulation. -/
def A4 : S8x24576.Idx → EReal := m ((c : Thread nD τ).loc main_arg4)

/-- The launch finds the modulation with a unit axis. -/
theorem V_mod : (V m c main_v0 : S8x1x24576.Idx → EReal) = shapeCast S8x1x24576 (A4 m c : Vec Ideal S8x24576 .f32) shapeCasts_S8x24576_S8x1x24576 := by
  show StableHlo.after (List.flatten [hostOps0]) (fun b => m (c, b)) (Proc.devRef .tc main_v0) = _
  simp only [List.flatten_cons, List.flatten_nil, List.append_nil, List.cons_append, List.nil_append]
  after_results
  rfl

theorem V_mod_apply (r : Fin 8) (l : Fin 24576) : (V m c main_v0 : S8x1x24576.Idx → EReal) (ix3 r 0 l) = A4 m c (ix2 r l) := by
  rw [V_mod]
  generalize A4 m c = y
  pointwise []

/-- The rows of a point. -/
theorem x0_apply (t : Fin cfg0.N) (r : Fin 512) (k : Fin 4096) :
    (iblk m c 0 t : Vec Ideal S512x4096 .bf16) (ix2 r k) = A0 m c (ix2 ⟨512 * (t.val % 17) + r.val, by omega⟩ k) := by
  unfold iblk
  show V m c main_arg0 (((cfg0.win 0).blk t).view.emb _) = _
  rw [V_main_arg0]
  unfold A0
  congr 1
  have h := (index_facts t).1
  funext b; apply Fin.ext
  fin_cases b
  · show win0_0.index t (0 : Fin 2) * 512 + 1 * r.val = _; rw [h.1]; show _ = 512 * (t.val % 17) + r.val; omega
  · show win0_0.index t (1 : Fin 2) * 4096 + 1 * k.val = k.val; rw [h.2]; omega

/-- The latent rows' block of a point. -/
theorem x2_apply (t : Fin cfg0.N) (r : Fin 512) (l : Fin 1024) :
    (iblk m c 2 t : Vec Ideal S512x1024 .f32) (ix2 r l) = A2 m c (ix2 ⟨512 * min (t.val % 17) 15 + r.val, by omega⟩ ⟨1024 * (t.val / 17) + l.val, by have := lt68 t; omega⟩) := by
  unfold iblk
  show V m c main_arg2 (((cfg0.win 2).blk t).view.emb _) = _
  rw [V_main_arg2]
  unfold A2
  congr 1
  have h := (index_facts t).2.2.1
  funext b; apply Fin.ext
  fin_cases b
  · show win0_2.index t (0 : Fin 2) * 512 + 1 * r.val = _; rw [h.1]; show _ = 512 * min (t.val % 17) 15 + r.val; omega
  · show win0_2.index t (1 : Fin 2) * 1024 + 1 * l.val = _; rw [h.2]; show _ = 1024 * (t.val / 17) + l.val; omega

/-- The context rows' block of a point. -/
theorem x3_apply (t : Fin cfg0.N) (r : Fin 512) (l : Fin 1024) :
    (iblk m c 3 t : Vec Ideal S512x1024 .f32) (ix2 r l) = A3 m c (ix2 r ⟨1024 * (t.val / 17) + l.val, by have := lt68 t; omega⟩) := by
  unfold iblk
  show V m c main_arg3 (((cfg0.win 3).blk t).view.emb _) = _
  rw [V_main_arg3]
  unfold A3
  congr 1
  have h := (index_facts t).2.2.2.1
  funext b; apply Fin.ext
  fin_cases b
  · show win0_3.index t (0 : Fin 2) * 512 + 1 * r.val = r.val; rw [h.1]; omega
  · show win0_3.index t (1 : Fin 2) * 1024 + 1 * l.val = _; rw [h.2]; show _ = 1024 * (t.val / 17) + l.val; omega

/-- The gate's block of a point. -/
theorem x4_apply (t : Fin cfg0.N) (l : Fin 1024) :
    (iblk m c 4 t : Vec Ideal S1x1x1024 .f32) (ix3 0 0 l) = A4 m c (ix2 ⟨t.val % 17 / 8, by omega⟩ ⟨1024 * (t.val / 17 + 8) + l.val, by have := lt68 t; omega⟩) := by
  rw [← V_mod_apply]
  unfold iblk
  show V m c main_v0 (((cfg0.win 4).blk t).view.emb _) = _
  congr 1
  have h := (index_facts t).2.2.2.2
  funext b; apply Fin.ext
  fin_cases b
  · show win0_4.index t (0 : Fin 3) * 1 + 1 * 0 = t.val % 17 / 8; rw [h.1]; omega
  · show win0_4.index t (1 : Fin 3) * 1 + 1 * 0 = 0; rw [h.2.1]
  · show win0_4.index t (2 : Fin 3) * 1024 + 1 * l.val = 1024 * (t.val / 17 + 8) + l.val; rw [h.2.2]; omega

/-- One block of columns of the first layer's weight. -/
def wB (j : ℕ) : S4096x1024.Idx → EReal := fun y => A1 m c (ix3 0 (y 0) (Fin.ofNat 4096 (1024 * j + (y 1).val)))

/-- The weight's block of a point. -/
theorem x1_eq (t : Fin cfg0.N) : wV (iblk m c 1 t : Vec Ideal S1x4096x1024 .f32) = wB m c (t.val / 17) := by
  funext y
  unfold wV wB iblk
  show V m c main_arg1 (((cfg0.win 1).blk t).view.emb _) = _
  rw [V_main_arg1]
  unfold A1
  congr 1
  have h := (index_facts t).2.1
  have ht := lt68 t
  have y1 : (y 1).val < 1024 := (y 1).isLt
  funext b; apply Fin.ext
  fin_cases b
  · show win0_1.index t (0 : Fin 3) * 1 + 1 * 0 = 0; rw [h.1]
  · show win0_1.index t (1 : Fin 3) * 4096 + 1 * (y 0).val = (y 0).val; rw [h.2.1]; omega
  · show win0_1.index t (2 : Fin 3) * 1024 + 1 * (y 1).val = (1024 * (t.val / 17) + (y 1).val) % 4096; rw [h.2.2]; omega

/-- The residual's block of a point: the latent rows' in the first sixteen row blocks, the context's in the last. -/
def rV (t : Fin cfg0.N) : S512x1024.Idx → EReal :=
  if t.val % 17 ≤ 15 then (iblk m c 2 t : Vec Ideal S512x1024 .f32) else (iblk m c 3 t : Vec Ideal S512x1024 .f32)

/-- What a point leaves: its block of the sum, and its column block of the weight. -/
theorem state (n : ℕ) : ∀ t : Fin cfg0.N, t.val = n → outsAt0 m c t.val t.isLt
    = (opV (rV m c t) (iblk m c 4 t) (iblk m c 0 t) (wB m c (t.val / 17)), wB m c (t.val / 17)) := by
  have hcast (t : Fin cfg0.N) (h0 : t.val % 17 = 0) : outsAt0 m c t.val t.isLt
      = (opV (rV m c t) (iblk m c 4 t) (iblk m c 0 t) (wB m c (t.val / 17)), wB m c (t.val / 17)) := by
    rw [outsAt0_A m c t h0 (by omega) (by omega), out_A, sout_A, x1_eq]
    unfold rV
    rw [if_pos (by omega)]
  induction n with
  | zero =>
    intro t ht
    exact hcast t (by omega)
  | succ n ih =>
    intro t ht
    by_cases h0 : t.val % 17 = 0
    · exact hcast t h0
    · have hpt : t.val - 1 < cfg0.N := Nat.lt_of_le_of_lt (Nat.sub_le _ _) t.isLt
      have hp := ih ⟨t.val - 1, hpt⟩ (by show t.val - 1 = n; omega)
      have hs : (outsAt0 m c (t.val - 1) hpt).2 = wB m c (t.val / 17) := by
        rw [show outsAt0 m c (t.val - 1) hpt = _ from hp]
        show wB m c ((t.val - 1) / 17) = _
        congr 1
        omega
      by_cases h1 : t.val % 17 ≤ 15
      · rw [outsAt0_B m c t h0 h1 (by omega), out_B]
        unfold sout0_B_0 rV
        rw [hs, if_pos h1]
      · rw [outsAt0_C m c t h0 h1 (by omega), out_C]
        unfold sout0_C_0 rV
        rw [hs, if_neg h1]

/-- The result array at an index: the residual plus the gate times the product. -/
theorem G5_apply (i : S8704x4096.Idx) :
    G5 m c i = (if (i 0).val < 8192 then A2 m c (ix2 (Fin.ofNat 8192 (i 0).val) (i 1)) else A3 m c (ix2 (Fin.ofNat 512 ((i 0).val - 8192)) (i 1)))
      + A4 m c (ix2 (Fin.ofNat 8 ((i 0).val / 4096)) (Fin.ofNat 24576 (8192 + (i 1).val))) * (∑ k : Fin 4096, A0 m c (ix2 (i 0) k) * A1 m c (ix3 0 k (i 1))) := by
  have h0 : (i 0).val < 8704 := (i 0).isLt
  have h1 : (i 1).val < 4096 := (i 1).isLt
  have hlt : (i 0).val / 512 + 17 * ((i 1).val / 1024) < cfg0.N := lt_of_lt_of_eq (by omega) (show 68 = cfg0.N from N_0.symm)
  obtain ⟨t, ht⟩ : ∃ t : Fin cfg0.N, t.val = (i 0).val / 512 + 17 * ((i 1).val / 1024) := ⟨⟨_, hlt⟩, rfl⟩
  have hp : pt5Of i = t.val := by rw [ht]; show 1 * ((i 0).val / 512 - 0) + 17 * ((i 1).val / 1024 - 0) = _; omega
  have e1 : t.val / 17 = (i 1).val / 1024 := by omega
  have ei : t.val % 17 = (i 0).val / 512 := by omega
  unfold G5
  rw [dif_pos (by rw [hp]; exact t.isLt), fold0_congr m c _ _ t.val (by rw [Nat.zero_add]; exact t.isLt) hp, ← outsAt0_sweep m c t.val t.isLt, state m c t.val t rfl]
  have e2 : (Fin.ofNat 4096 (1024 * (t.val / 17) + (i 1).val % 1024)) = i 1 := by
    apply Fin.ext; show (1024 * (t.val / 17) + (i 1).val % 1024) % 4096 = (i 1).val; omega
  have e0 : (⟨512 * (t.val % 17) + (i 0).val % 512, by omega⟩ : Fin 8704) = i 0 := by
    apply Fin.ext; show 512 * (t.val % 17) + (i 0).val % 512 = (i 0).val; omega
  have e3 : (⟨1024 * (t.val / 17) + (i 1).val % 1024, by omega⟩ : Fin 4096) = i 1 := by
    apply Fin.ext; show 1024 * (t.val / 17) + (i 1).val % 1024 = (i 1).val; omega
  have f0 (k : Fin 4096) := (x0_apply m c t (⟨(i 0).val % 512, Nat.mod_lt _ (by decide)⟩ : Fin 512) k).trans (congrArg (fun z => A0 m c (ix2 z k)) e0)
  have g1 : (⟨t.val % 17 / 8, by omega⟩ : Fin 8) = Fin.ofNat 8 ((i 0).val / 4096) := by
    apply Fin.ext; show t.val % 17 / 8 = ((i 0).val / 4096) % 8; omega
  have g2 : (⟨1024 * (t.val / 17 + 8) + (i 1).val % 1024, by omega⟩ : Fin 24576) = Fin.ofNat 24576 (8192 + (i 1).val) := by
    apply Fin.ext; show 1024 * (t.val / 17 + 8) + (i 1).val % 1024 = (8192 + (i 1).val) % 24576; omega
  have f4 := (x4_apply m c t (⟨(i 1).val % 1024, Nat.mod_lt _ (by decide)⟩ : Fin 1024)).trans
    (congrArg₂ (fun z w => A4 m c (ix2 z w)) g1 g2)
  have fr : rV m c t (ix2 (⟨(i 0).val % 512, Nat.mod_lt _ (by decide)⟩ : Fin 512) (⟨(i 1).val % 1024, Nat.mod_lt _ (by decide)⟩ : Fin 1024))
      = if (i 0).val < 8192 then A2 m c (ix2 (Fin.ofNat 8192 (i 0).val) (i 1)) else A3 m c (ix2 (Fin.ofNat 512 ((i 0).val - 8192)) (i 1)) := by
    unfold rV
    by_cases h : (i 0).val < 8192
    · rw [if_pos h, if_pos (by omega)]
      have g : (⟨512 * min (t.val % 17) 15 + (i 0).val % 512, by omega⟩ : Fin 8192) = Fin.ofNat 8192 (i 0).val := by
        apply Fin.ext; show 512 * min (t.val % 17) 15 + (i 0).val % 512 = (i 0).val % 8192; omega
      exact (x2_apply m c t _ _).trans (congrArg₂ (fun z w => A2 m c (ix2 z w)) g e3)
    · rw [if_neg h, if_neg (by omega)]
      have g : (⟨(i 0).val % 512, Nat.mod_lt _ (by decide)⟩ : Fin 512) = Fin.ofNat 512 ((i 0).val - 8192) := by
        apply Fin.ext; show (i 0).val % 512 = ((i 0).val - 8192) % 512; omega
      exact (x3_apply m c t _ _).trans (congrArg₂ (fun z w => A3 m c (ix2 z w)) g e3)
  have el : loc5Of i = ix2 (⟨(i 0).val % 512, Nat.mod_lt _ (by decide)⟩ : Fin 512) (⟨(i 1).val % 1024, Nat.mod_lt _ (by decide)⟩ : Fin 1024) := by
    funext b; fin_cases b <;> rfl
  show rV m c t (loc5Of i) + (show EReal from (iblk m c 4 t : Vec Ideal S1x1x1024 .f32) (ix3 0 0 (⟨(i 1).val % 1024, Nat.mod_lt _ (by decide)⟩ : Fin 1024)))
    * (∑ k : Fin 4096, (show EReal from (iblk m c 0 t : Vec Ideal S512x4096 .bf16) (ix2 (⟨(i 0).val % 512, Nat.mod_lt _ (by decide)⟩ : Fin 512) k))
      * A1 m c (ix3 0 k (Fin.ofNat 4096 (1024 * (t.val / 17) + (i 1).val % 1024)))) = _
  rw [e2, el]
  exact congrArg₂ (fun a b : EReal => a + b) fr (congrArg₂ (fun a b : EReal => a * b) f4 (Finset.sum_congr rfl fun k _ => congrArg (fun z : EReal => z * A1 m c (ix3 0 k (i 1))) (f0 k)))

end

end Cert.Outp

end
-- ==== Proof.OutpRef.lean ====
/- The output projection and its reference end with equal results. -/
module

public import proofs.«01_k».proof.Proof.Outp
public import proofs.«01_k».proof.Proof.Gen.Reference4Ideal.Read

@[expose] public section

set_option maxRecDepth 16384

noncomputable section

namespace Cert.OutpRef

open Idealize.ShloMosaic Idealize.ShloMosaic.TcCoe Idealize.SL.Sem
open Idealize.ShloMosaic.Pointwise
open Cert.Reference4Ideal Cert.Reference4Ideal.Gen Cert.Reference4Ideal.Read

variable (x0 : (⟨S8704x4096, .bf16⟩ : BufTy).Contents (Elt Ideal)) (x1 : (⟨S2x4096x4096, .f32⟩ : BufTy).Contents (Elt Ideal))
  (x2 : (⟨S8192x4096, .f32⟩ : BufTy).Contents (Elt Ideal)) (x3 : (⟨S512x4096, .f32⟩ : BufTy).Contents (Elt Ideal)) (x4 : (⟨S8x24576, .f32⟩ : BufTy).Contents (Elt Ideal))

/-- The product at an index. -/
theorem v3_ix (a : Fin 8704) (b : Fin 4096) : val_main_v3 (F := Ideal) x0 x1 (ix2 a b) = ∑ k : Fin 4096, x0 (ix2 a k) * x1 (ix3 0 k b) := by
  pointwise [val_main_v3, val_main_v0, val_main_v2, val_main_v1]

/-- A latent row at an index. -/
theorem v13_ix (a : Fin 8192) (b : Fin 4096) : val_main_v13 (F := Ideal) x0 x1 x2 x4 (ix2 a b)
    = x2 (ix2 a b) + x4 (ix2 (Fin.ofNat 8 (a.val / 4096)) (Fin.ofNat 24576 (8192 + b.val))) * val_main_v3 (F := Ideal) x0 x1 (ix2 (Fin.ofNat 8704 a.val) b) := by
  unfold val_main_v13 val_main_v12 val_main_v11 val_main_v10 val_main_v9 val_main_v8 val_main_v7 val_main_v6 val_main_v5 val_main_v4
  generalize val_main_v3 (F := Ideal) x0 x1 = y
  pointwise []
  have e1 : (⟨a.val / 4096, by omega⟩ : Fin 8) = Fin.ofNat 8 (a.val / 4096) := by apply Fin.ext; show a.val / 4096 = a.val / 4096 % 8; omega
  have e2 : (⟨8192 + b.val, by omega⟩ : Fin 24576) = Fin.ofNat 24576 (8192 + b.val) := by apply Fin.ext; show 8192 + b.val = (8192 + b.val) % 24576; omega
  have e3 : (⟨a.val, by omega⟩ : Fin 8704) = Fin.ofNat 8704 a.val := by apply Fin.ext; show a.val = a.val % 8704; omega
  rw [← e1, ← e2, ← e3]

/-- A context row at an index. -/
theorem v20_ix (a : Fin 512) (b : Fin 4096) : val_main_v20 (F := Ideal) x0 x1 x3 x4 (ix2 a b)
    = x3 (ix2 a b) + x4 (ix2 2 (Fin.ofNat 24576 (8192 + b.val))) * val_main_v3 (F := Ideal) x0 x1 (ix2 (Fin.ofNat 8704 (8192 + a.val)) b) := by
  unfold val_main_v20 val_main_v19 val_main_v18 val_main_v17 val_main_v16 val_main_v15 val_main_v14 val_main_v4
  generalize val_main_v3 (F := Ideal) x0 x1 = y
  pointwise []
  have e2 : (⟨8192 + b.val, by omega⟩ : Fin 24576) = Fin.ofNat 24576 (8192 + b.val) := by apply Fin.ext; show 8192 + b.val = (8192 + b.val) % 24576; omega
  have e3 : (⟨8192 + a.val, by omega⟩ : Fin 8704) = Fin.ofNat 8704 (8192 + a.val) := by apply Fin.ext; show 8192 + a.val = (8192 + a.val) % 8704; omega
  rw [← e2, ← e3]

/-- The rows of the two parts. -/
theorem cat_ix (a : Fin 8704) (b : Fin 4096) : val_main_v21 (F := Ideal) x0 x1 x2 x3 x4 (ix2 a b)
    = if h : a.val < 8192 then val_main_v13 (F := Ideal) x0 x1 x2 x4 (ix2 ⟨a.val, h⟩ b) else val_main_v20 (F := Ideal) x0 x1 x3 x4 (ix2 ⟨a.val - 8192, by omega⟩ b) := by
  unfold val_main_v21
  generalize val_main_v13 (F := Ideal) x0 x1 x2 x4 = y13
  generalize val_main_v20 (F := Ideal) x0 x1 x3 x4 = y20
  pointwise []

/-- The reference at an index. -/
theorem ref_apply (a : Fin 8704) (b : Fin 4096) : val_main_v21 (F := Ideal) x0 x1 x2 x3 x4 (ix2 a b)
    = (if a.val < 8192 then x2 (ix2 (Fin.ofNat 8192 a.val) b) else x3 (ix2 (Fin.ofNat 512 (a.val - 8192)) b))
      + x4 (ix2 (Fin.ofNat 8 (a.val / 4096)) (Fin.ofNat 24576 (8192 + b.val))) * (∑ k : Fin 4096, x0 (ix2 a k) * x1 (ix3 0 k b)) := by
  rw [← v3_ix]
  rw [cat_ix]
  by_cases h : a.val < 8192
  · rw [dif_pos h, if_pos h, v13_ix]
    have e1 : (⟨a.val, h⟩ : Fin 8192) = Fin.ofNat 8192 a.val := by apply Fin.ext; show a.val = a.val % 8192; omega
    have e2 : Fin.ofNat 8704 a.val = a := by apply Fin.ext; show a.val % 8704 = a.val; omega
    show _ + x4 (ix2 (Fin.ofNat 8 (a.val / 4096)) _) * val_main_v3 (F := Ideal) x0 x1 (ix2 (Fin.ofNat 8704 a.val) b) = _
    rw [e1, e2]
  · rw [dif_neg h, if_neg h, v20_ix]
    have e1 : (⟨a.val - 8192, by omega⟩ : Fin 512) = Fin.ofNat 512 (a.val - 8192) := by apply Fin.ext; show a.val - 8192 = (a.val - 8192) % 512; omega
    have e2 : Fin.ofNat 8704 (8192 + (a.val - 8192)) = a := by apply Fin.ext; show (8192 + (a.val - 8192)) % 8704 = a.val; omega
    have e3 : (2 : Fin 8) = Fin.ofNat 8 (a.val / 4096) := by apply Fin.ext; show 2 = a.val / 4096 % 8; omega
    show _ + x4 (ix2 2 _) * val_main_v3 (F := Ideal) x0 x1 (ix2 (Fin.ofNat 8704 (8192 + (a.val - 8192))) b) = _
    rw [e1, e2, e3]

/-- From equal arguments, the kernel's result is the reference's. -/
theorem result_eq (m : (ℓ : Loc Cert.Kernel4Ideal.nD Cert.Kernel4Ideal.τ Cert.Kernel4Ideal.sig) → Buf (Elt Ideal) ℓ) (c : Dev Cert.Kernel4Ideal.nD)
    (h0 : x0 = Cert.Outp.A0 m c) (h1 : x1 = Cert.Outp.A1 m c) (h2 : x2 = Cert.Outp.A2 m c) (h3 : x3 = Cert.Outp.A3 m c) (h4 : x4 = Cert.Outp.A4 m c) :
    (Cert.Kernel4Ideal.Value.G5 m c : S8704x4096.Idx → EReal) = val_main_v21 (F := Ideal) x0 x1 x2 x3 x4 := by
  subst h0 h1 h2 h3 h4
  funext i
  obtain ⟨a, b, rfl⟩ : ∃ (a : Fin 8704) (b : Fin 4096), i = ix2 a b := ⟨i 0, i 1, by funext b; fin_cases b <;> rfl⟩
  rw [ref_apply]
  exact Cert.Outp.G5_apply m c (ix2 a b)

end Cert.OutpRef

end
-- ==== Proof.FfnRun.lean ====
/- One grid point of the expert layer, run: a point that stores a slice of the hidden layer, and a point that reads the slices. -/
module

public import proofs.«01_k».proof.Proof.Gen.Kernel5Ideal.Skeleton
public import proofs.«01_k».proof.Proof.Gen.Kernel5Ideal.Frame

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point stores a slice. -/
abbrev stores (i : grid0.Coords) : Prop := k0_cond1 i = 1#1
/-- The point reads the slices. -/
abbrev reads (i : grid0.Coords) : Prop := k0_cond2 i = 1#1

/-- The first four points of an expert store a slice. -/
theorem stores_iff : ∀ t : Fin cfg0.N, stores (grid0.coords t) ↔ t.val % 12 < 4 :=
  (by decide +kernel : ∀ t : Fin grid0.N, stores (grid0.coords t) ↔ t.val % 12 < 4)
/-- The other eight read them. -/
theorem reads_iff : ∀ t : Fin cfg0.N, reads (grid0.coords t) ↔ 4 ≤ t.val % 12 :=
  (by decide +kernel : ∀ t : Fin grid0.N, reads (grid0.coords t) ↔ 4 ≤ t.val % 12)

/-- The inputs' windows are used at every point. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
/-- The result's window is not used while slices are stored, -/
theorem idle5 : ∀ t : Fin cfg0.N, t.val % 12 < 4 → cfg0.idle 5 (grid0.coords t) = true :=
  (by decide +kernel : ∀ t : Fin grid0.N, t.val % 12 < 4 → cfg0.idle 5 (grid0.coords t) = true)
/-- nor written back then, -/
theorem noFlush5 : ∀ t : Fin cfg0.N, t.val % 12 < 4 → (cfg0.win 5).flush t = false :=
  (by decide +kernel : ∀ t : Fin grid0.N, t.val % 12 < 4 → win0_5.flush t = false)
/-- and is used while they are read. -/
theorem live5 : ∀ t : Fin cfg0.N, 4 ≤ t.val % 12 → cfg0.idle 5 (grid0.coords t) = false :=
  (by decide +kernel : ∀ t : Fin grid0.N, 4 ≤ t.val % 12 → cfg0.idle 5 (grid0.coords t) = false)

/-- The hidden layer's buffer. -/
abbrev hidM : Memref sig .tc .vmem S4x1088x256 .bf16 := Memref.whole cc0_scratch0

/-- What the launch hands over besides the windows: the hidden layer's buffer at some contents, and the generator's register. -/
theorem rest_eq (c : Dev nD) :
    (Pipeline.ΦA spec0 c : sProp 𝕄) = iprop(iprop((∃ d, owns (c : Thread nD τ) hidM fullShare d)) ∗ (∃ r, prngReg c r)) := by
  unfold Pipeline.ΦA; rw [scopedRest0_eq]; simp only [hidM, owns_whole]; try rfl

section
variable (c : Dev nD) (i : grid0.Coords) (arg2 : Memref sig .tc .vmem S1x1088x4096 .bf16) (harg2 : arg2.IsWhole) (arg3 : Memref sig .tc .vmem S1x1x4096x256 .f32) (harg3 : arg3.IsWhole) (arg4 : Memref sig .tc .vmem S1x1x4096x256 .f32) (harg4 : arg4.IsWhole) (arg5 : Memref sig .tc .vmem S1x1x1024x512 .f32) (harg5 : arg5.IsWhole) (arg6 : Memref sig .tc .vmem S1x1088x1 .f32) (harg6 : arg6.IsWhole) (arg7 : Memref sig .tc .vmem S1x1088x512 .bf16) (harg7 : arg7.IsWhole) (arg8 : Memref sig .tc .vmem S4x1088x256 .bf16) (harg8 : arg8.IsWhole)
    (x0 : Vec F S1x1088x4096 .bf16) (x1 x2 : Vec F S1x1x4096x256 .f32) (x3 : Vec F S1x1x1024x512 .f32) (x4 : Vec F S1x1088x1 .f32)

set_option maxHeartbeats 1000000 in
/-- A point that stores a slice: what it writes over the hidden layer's buffer, and the run that leaves everything else as it was. -/
def runStore (hc0 : stores i) (hc1 : ¬reads i) :
    { LS : List (View.Piece (Elt F) S4x1088x256 .bf16) //
      ∀ (xi5 : Vec F S1x1088x512 .bf16) (xs0 : Vec F S4x1088x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (arg8.view.loc (c : Thread nD τ) ↦[arg8.view.set]{fullShare} arg8.view.writes (Elt F) (harg8.unread xs0) LS)) -∗ K ⟨⟩))
          ⊢ wp frame (wpE (defs₀ (F := F)) Variants.none c none) E (cc0_expert_ffn i arg2 harg2 arg3 harg3 arg4 harg4 arg5 harg5 arg6 harg6 arg7 harg7 arg8 harg8) K } := by
  refine ⟨?_, fun xi5 xs0 E K => ?run⟩
  case run =>
    simp only [cc0_expert_ffn_eq_skeleton]; unfold cc0_expert_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexact HS0

set_option maxHeartbeats 1000000 in
/-- A point that reads the slices: what it writes over the result's block, and the run that leaves everything else as it was. -/
def runRead (xs0 : Vec F S4x1088x256 .bf16) (hc0 : ¬stores i) (hc1 : reads i) :
    { L : List (View.Piece (Elt F) S1x1088x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L) ∗ owns (c : Thread nD τ) arg8 fullShare xs0) -∗ K ⟨⟩))
          ⊢ wp frame (wpE (defs₀ (F := F)) Variants.none c none) E (cc0_expert_ffn i arg2 harg2 arg3 harg3 arg4 harg4 arg5 harg5 arg6 harg6 arg7 harg7 arg8 harg8) K } := by
  refine ⟨?_, fun E K => ?run⟩
  case run =>
    simp only [cc0_expert_ffn_eq_skeleton]; unfold cc0_expert_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

/-- The store's one piece. -/
theorem runStore_eq (hc0 : stores i) (hc1 : ¬reads i) :
    (runStore (F := F) c i arg2 harg2 arg3 harg3 arg4 harg4 arg5 harg5 arg6 harg6 arg7 harg7 arg8 harg8 x0 x1 x2 x3 x4 hc0 hc1).1
      = [(⟨Rect.unit (s := S4x1088x256) (k0_off1 i) S1x1088x256.size (k0_off1_inb i hc0),
          k0_pay1 (View.readAt (Elt F) arg2.view (Rect.unit (s := S1x1088x4096) ![0, 0, 0] S1x1088x4096.size inb_S1x1088x4096_S1x1088x4096_0_0_0).toLoadRect (harg2.unread x0))
            (View.readAt (Elt F) arg3.view (Rect.unit (s := S1x1x4096x256) ![0, 0, 0, 0] S1x1x4096x256.size inb_S1x1x4096x256_S1x1x4096x256_0_0_0_0).toLoadRect (harg3.unread x1))
            (View.readAt (Elt F) arg4.view (Rect.unit (s := S1x1x4096x256) ![0, 0, 0, 0] S1x1x4096x256.size inb_S1x1x4096x256_S1x1x4096x256_0_0_0_0).toLoadRect (harg4.unread x2))⟩ : View.Piece (Elt F) S4x1088x256 .bf16)] := by
  unfold runStore
  rfl

/-- One of the slices, loaded. -/
abbrev ldS (xs0 : Vec F S4x1088x256 .bf16) (off : Fin 3 → ℕ) (inb : ∀ a, off a + S1x1088x256.size a ≤ S4x1088x256.size a) : Vec F S1x1088x256 .bf16 :=
  View.readAt (Elt F) arg8.view (Rect.unit (s := S4x1088x256) off S1x1088x256.size inb).toLoadRect (harg8.unread xs0)
/-- The rows of the second weight's block that meet a slice, loaded. -/
abbrev ldW (off : Fin 4 → ℕ) (inb : ∀ a, off a + S1x1x256x512.size a ≤ S1x1x1024x512.size a) : Vec F S1x1x256x512 .f32 :=
  View.readAt (Elt F) arg5.view (Rect.unit (s := S1x1x1024x512) off S1x1x256x512.size inb).toLoadRect (harg5.unread x3)

/-- The result's one piece. -/
theorem runRead_eq (xs0 : Vec F S4x1088x256 .bf16) (hc0 : ¬stores i) (hc1 : reads i) :
    (runRead (F := F) c i arg2 harg2 arg3 harg3 arg4 harg4 arg5 harg5 arg6 harg6 arg7 harg7 arg8 harg8 x0 x1 x2 x3 x4 xs0 hc0 hc1).1
      = [(⟨Rect.unit (s := S1x1088x512) ![0, 0, 0] S1x1088x512.size inb_S1x1088x512_S1x1088x512_0_0_0,
          k0_pay2 (k0_pay3
              (ldS arg8 harg8 xs0 ![0, 0, 0] inb_S4x1088x256_S1x1088x256_0_0_0) (ldW arg5 harg5 x3 ![0, 0, 0, 0] inb_S1x1x1024x512_S1x1x256x512_0_0_0_0)
              (ldS arg8 harg8 xs0 ![1, 0, 0] inb_S4x1088x256_S1x1088x256_1_0_0) (ldW arg5 harg5 x3 ![0, 0, 256, 0] inb_S1x1x1024x512_S1x1x256x512_0_0_256_0)
              (ldS arg8 harg8 xs0 ![2, 0, 0] inb_S4x1088x256_S1x1088x256_2_0_0) (ldW arg5 harg5 x3 ![0, 0, 512, 0] inb_S1x1x1024x512_S1x1x256x512_0_0_512_0)
              (ldS arg8 harg8 xs0 ![3, 0, 0] inb_S4x1088x256_S1x1088x256_3_0_0) (ldW arg5 harg5 x3 ![0, 0, 768, 0] inb_S1x1x1024x512_S1x1x256x512_0_0_768_0))
            (View.readAt (Elt F) arg6.view (Rect.unit (s := S1x1088x1) ![0, 0, 0] S1x1088x1.size inb_S1x1088x1_S1x1088x1_0_0_0).toLoadRect (harg6.unread x4))⟩ : View.Piece (Elt F) S1x1088x512 .bf16)] := by
  unfold runRead
  rfl

end

end Cert.Ffn

end
-- ==== Proof.FfnFrame.lean ====
/- The expert layer runs: what its hidden layer's buffer holds before each point, and what each point leaves. -/
module

public import proofs.«01_k».proof.Proof.FfnRun
public import Idealize.ShloMosaic.Lib.Pointwise
public import Idealize.ShloMosaic.Lib.Writes
public import Idealize.ShloMosaic.Lib.Claim

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

/-! ## Loads -/

/-- A load of a whole block is the block. -/
theorem load_all {s : Shape} {e : EltTy} (v : View sig .tc .vmem s e) (f : v.ty.Contents (Elt F)) (x : s.Idx → Elt F e) (hx : v.read (Elt F) f = x)
    (off : Fin s.rank → ℕ) (hoff : ∀ a, off a = 0) (inb : ∀ a, off a + s.size a ≤ s.size a) :
    View.readAt (Elt F) v (Rect.unit (s := s) off s.size inb).toLoadRect f = x := by
  rw [View.readAt_rect]
  funext y
  show v.read (Elt F) f _ = _
  rw [hx]
  congr 1
  funext b; apply Fin.ext
  show off b + 1 * (y b).val = (y b).val
  rw [hoff]; omega

/-- Slice `f` of the hidden layer. -/
def sl (h : Vec F S4x1088x256 .bf16) (f : Fin 4) : Vec F S1x1088x256 .bf16 := fun y => h (ix3 f (y 1) (y 2))

/-- The rows of the second weight's block that meet slice `f`. -/
def rowsW (w : Vec F S1x1x1024x512 .f32) (f : Fin 4) : Vec F S1x1x256x512 .f32 :=
  fun y => w (ix4 0 0 (Fin.ofNat 1024 (256 * f.val + (y 2).val)) (y 3))

theorem ldS_eq (arg8 : Memref sig .tc .vmem S4x1088x256 .bf16) (harg8 : arg8.IsWhole) (h : Vec F S4x1088x256 .bf16) (f : Fin 4)
    (inb : ∀ a, (![f.val, 0, 0] : Fin 3 → ℕ) a + S1x1088x256.size a ≤ S4x1088x256.size a) : ldS arg8 harg8 h ![f.val, 0, 0] inb = sl h f := by
  unfold ldS
  rw [View.readAt_rect]
  funext y
  show arg8.view.read (Elt F) _ _ = _
  rw [harg8.read_unread]
  unfold sl
  congr 1
  have h0 : (y 0).val < 1 := (y 0).isLt
  funext b; apply Fin.ext
  fin_cases b
  · show f.val + 1 * (y 0).val = f.val; omega
  · show 0 + 1 * (y 1).val = (y 1).val; omega
  · show 0 + 1 * (y 2).val = (y 2).val; omega

theorem ldW_eq (arg5 : Memref sig .tc .vmem S1x1x1024x512 .f32) (harg5 : arg5.IsWhole) (w : Vec F S1x1x1024x512 .f32) (f : Fin 4) (o : ℕ) (ho : o = 256 * f.val)
    (inb : ∀ a, (![0, 0, o, 0] : Fin 4 → ℕ) a + S1x1x256x512.size a ≤ S1x1x1024x512.size a) : ldW arg5 harg5 w ![0, 0, o, 0] inb = rowsW w f := by
  subst ho
  unfold ldW
  rw [View.readAt_rect]
  funext y
  show arg5.view.read (Elt F) _ _ = _
  rw [harg5.read_unread]
  unfold rowsW
  congr 1
  have h0 : (y 0).val < 1 := (y 0).isLt
  have h1 : (y 1).val < 1 := (y 1).isLt
  have h2 : (y 2).val < 256 := (y 2).isLt
  have hf := f.isLt
  funext b; apply Fin.ext
  fin_cases b
  · show 0 + 1 * (y 0).val = 0; omega
  · show 0 + 1 * (y 1).val = 0; omega
  · show 256 * f.val + 1 * (y 2).val = (256 * f.val + (y 2).val) % 1024; omega
  · show 0 + 1 * (y 3).val = (y 3).val; omega

/-- The slice a point stores is its own step's. -/
theorem off_eq : ∀ t : Fin cfg0.N, k0_off1 (grid0.coords t) 0 = t.val % 12 ∧ k0_off1 (grid0.coords t) 1 = 0 ∧ k0_off1 (grid0.coords t) 2 = 0 :=
  (by decide +kernel : ∀ t : Fin grid0.N, k0_off1 (grid0.coords t) 0 = t.val % 12 ∧ k0_off1 (grid0.coords t) 1 = 0 ∧ k0_off1 (grid0.coords t) 2 = 0)

/-! ## What the points leave -/

variable (m : (ℓ : Loc nD τ sig) → Buf (Elt F) ℓ) (ρ : Dev nD → PrngReg)

theorem lt192 (t : Fin cfg0.N) : t.val < 192 := lt_of_lt_of_eq t.isLt N_0

/-- The point of a number. -/
def pt (n : ℕ) : Fin cfg0.N := ⟨n % 192, lt_of_lt_of_eq (Nat.mod_lt _ (by decide)) (show 192 = cfg0.N from N_0.symm)⟩

theorem pt_eq (t : Fin cfg0.N) (n : ℕ) (h : n = t.val) : pt n = t := by
  subst h; exact Fin.ext (Nat.mod_eq_of_lt (lt192 t))

/-- What a point computes of the hidden layer. -/
def hidP (c : Dev nD) (t : Fin cfg0.N) : Vec F S1x1088x256 .bf16 := k0_pay1 (iblk m c 0 t) (iblk m c 1 t) (iblk m c 2 t)

/-- The hidden layer of expert `e`: slice by slice what the expert's first four points compute. -/
def hid (c : Dev nD) (e : ℕ) : Vec F S4x1088x256 .bf16 := fun j => hidP m c (pt (12 * e + (j 0).val)) (ix3 0 (j 1) (j 2))

/-- The block of the result that a point computes from a hidden layer. -/
def outV (h : Vec F S4x1088x256 .bf16) (w : Vec F S1x1x1024x512 .f32) (g : Vec F S1x1088x1 .f32) : Vec F S1x1088x512 .bf16 :=
  k0_pay2 (k0_pay3 (sl h 0) (rowsW w 0) (sl h 1) (rowsW w 1) (sl h 2) (rowsW w 2) (sl h 3) (rowsW w 3)) g

/-- The block of the result a point leaves. -/
def outG (c : Dev nD) (t : Fin cfg0.N) : Vec F S1x1088x512 .bf16 := outV (hid m c (t.val / 12)) (iblk m c 3 t) (iblk m c 4 t)

/-- Before point `n` the slices of the steps before it are stored. -/
def Inv (c : Dev nD) (n : ℕ) (f : Vec F S4x1088x256 .bf16) : Prop := ∀ j : S4x1088x256.Idx, (j 0).val < n % 12 → f j = hid m c (n / 12) j

section
variable (c : Dev nD) (t : Fin cfg0.N) (arg2 : Memref sig .tc .vmem S1x1088x4096 .bf16) (harg2 : arg2.IsWhole) (arg3 : Memref sig .tc .vmem S1x1x4096x256 .f32) (harg3 : arg3.IsWhole) (arg4 : Memref sig .tc .vmem S1x1x4096x256 .f32) (harg4 : arg4.IsWhole) (arg5 : Memref sig .tc .vmem S1x1x1024x512 .f32) (harg5 : arg5.IsWhole) (arg6 : Memref sig .tc .vmem S1x1088x1 .f32) (harg6 : arg6.IsWhole) (arg7 : Memref sig .tc .vmem S1x1088x512 .bf16) (harg7 : arg7.IsWhole) (arg8 : Memref sig .tc .vmem S4x1088x256 .bf16) (harg8 : arg8.IsWhole)
    (x3 : Vec F S1x1x1024x512 .f32) (x4 : Vec F S1x1088x1 .f32)

/-- A point that stores a slice adds it to those before. -/
theorem inv_store (ht : t.val % 12 < 4) (f : Vec F S4x1088x256 .bf16) (hf : Inv m c t.val f) (hc0 : stores (grid0.coords t)) (hc1 : ¬reads (grid0.coords t)) :
    Inv m c (t.val + 1) (arg8.view.read (Elt F) (arg8.view.writes (Elt F) (harg8.unread f)
      (runStore (F := F) c (grid0.coords t) arg2 harg2 arg3 harg3 arg4 harg4 arg5 harg5 arg6 harg6 arg7 harg7 arg8 harg8 (iblk m c 0 t) (iblk m c 1 t) (iblk m c 2 t) x3 x4 hc0 hc1).1)) := by
  have h192 := lt192 t
  have ho := off_eq t
  intro j hj
  have e1 : (t.val + 1) % 12 = t.val % 12 + 1 := by omega
  have e2 : (t.val + 1) / 12 = t.val / 12 := by omega
  rw [e1] at hj
  rw [e2, runStore_eq]
  by_cases hlt : (j 0).val < t.val % 12
  · rw [View.read_writes_cons_miss_of_axis arg8.view _ _ _ j (0 : Fin 3) (t.val % 12) 1 ho.1 rfl rfl (Or.inl hlt), View.writes_nil, harg8.read_unread]
    exact hf j hlt
  · have hj0 : (j 0).val = t.val % 12 := by omega
    rw [View.read_writes_cons_hit_of_coords arg8.view _ _ _ _ (ix3 0 (j 1) (j 2)) j (fun a => by
      fin_cases a
      · show (j 0).val = k0_off1 (grid0.coords t) 0 + 1 * 0; rw [ho.1]; omega
      · show (j 1).val = k0_off1 (grid0.coords t) 1 + 1 * (j 1).val; rw [ho.2.1]; omega
      · show (j 2).val = k0_off1 (grid0.coords t) 2 + 1 * (j 2).val; rw [ho.2.2]; omega)]
    rw [load_all arg2.view _ _ (harg2.read_unread _) _ (by decide), load_all arg3.view _ _ (harg3.read_unread _) _ (by decide), load_all arg4.view _ _ (harg4.read_unread _) _ (by decide)]
    unfold hid
    rw [pt_eq t _ (by omega)]
    rfl

/-- A point that reads the slices leaves them for the next. -/
theorem inv_read (ht : 4 ≤ t.val % 12) (f : Vec F S4x1088x256 .bf16) (hf : f = hid m c (t.val / 12)) : Inv m c (t.val + 1) f := by
  intro j hj
  have e2 : (t.val + 1) / 12 = t.val / 12 := by omega
  rw [hf, e2]

/-- After the stores the buffer holds the whole hidden layer. -/
theorem inv_full (ht : 4 ≤ t.val % 12) (f : Vec F S4x1088x256 .bf16) (hf : Inv m c t.val f) : f = hid m c (t.val / 12) := by
  funext j
  have h0 : (j 0).val < 4 := (j 0).isLt
  exact hf j (by omega)

/-- What a point that reads the slices leaves of the result. -/
theorem out_read (x0 : Vec F S1x1088x4096 .bf16) (x1 x2 : Vec F S1x1x4096x256 .f32) (f : Vec F S4x1088x256 .bf16) (hc0 : ¬stores (grid0.coords t)) (hc1 : reads (grid0.coords t)) (g : arg7.view.ty.Contents (Elt F)) :
    arg7.view.read (Elt F) (arg7.view.writes (Elt F) g
      (runRead (F := F) c (grid0.coords t) arg2 harg2 arg3 harg3 arg4 harg4 arg5 harg5 arg6 harg6 arg7 harg7 arg8 harg8 x0 x1 x2 x3 x4 f hc0 hc1).1) = outV f x3 x4 := by
  funext y
  rw [runRead_eq]
  rw [View.read_writes_cons_hit_of_coords arg7.view _ _ _ _ y y (fun a => by
      show (y a).val = (![0, 0, 0] : Fin 3 → ℕ) a + 1 * (y a).val
      fin_cases a <;> (dsimp only; show _ = 0 + _; omega))]
  rw [load_all arg6.view _ _ (harg6.read_unread _) _ (by decide)]
  have s0 := fun inb => ldS_eq arg8 harg8 f 0 inb
  have s1 := fun inb => ldS_eq arg8 harg8 f 1 inb
  have s2 := fun inb => ldS_eq arg8 harg8 f 2 inb
  have s3 := fun inb => ldS_eq arg8 harg8 f 3 inb
  have w0 := fun inb => ldW_eq arg5 harg5 x3 0 0 rfl inb
  have w1 := fun inb => ldW_eq arg5 harg5 x3 1 256 rfl inb
  have w2 := fun inb => ldW_eq arg5 harg5 x3 2 512 rfl inb
  have w3 := fun inb => ldW_eq arg5 harg5 x3 3 768 rfl inb
  exact congrFun (congrArg (fun v => k0_pay2 v x4) (by
    rw [show ldS arg8 harg8 f ![0, 0, 0] _ = _ from s0 _, show ldS arg8 harg8 f ![1, 0, 0] _ = _ from s1 _,
      show ldS arg8 harg8 f ![2, 0, 0] _ = _ from s2 _, show ldS arg8 harg8 f ![3, 0, 0] _ = _ from s3 _, w0, w1, w2, w3])) y

end

/-! ## The pipeline's proof data -/

/-- Between points: the hidden layer's buffer with the slices stored so far, and the generator's register. -/
def Phi (c : Dev nD) (n : ℕ) : sProp 𝕄 :=
  iprop(iprop(∃ f, ⌜Inv m c n f⌝ ∗ owns (c : Thread nD τ) hidM fullShare f) ∗ (∃ r, prngReg c r))

/-- The arrays as launched; after a point each input's block in place and the result's block at `outG`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outG m c t
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outG m c t := by dsimp only [dats]

/-- Every input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body at a point -/

abbrev ms0 (t : Fin cfg0.N) : Memref sig .tc .vmem S1x1088x4096 .bf16 := win0_0.stage (cfg0.slots t 0)
abbrev ms1 (t : Fin cfg0.N) : Memref sig .tc .vmem S1x1x4096x256 .f32 := win0_1.stage (cfg0.slots t 1)
abbrev ms2 (t : Fin cfg0.N) : Memref sig .tc .vmem S1x1x4096x256 .f32 := win0_2.stage (cfg0.slots t 2)
abbrev ms3 (t : Fin cfg0.N) : Memref sig .tc .vmem S1x1x1024x512 .f32 := win0_3.stage (cfg0.slots t 3)
abbrev ms4 (t : Fin cfg0.N) : Memref sig .tc .vmem S1x1088x1 .f32 := win0_4.stage (cfg0.slots t 4)
abbrev ms5 (t : Fin cfg0.N) : Memref sig .tc .vmem S1x1088x512 .bf16 := win0_5.stage (cfg0.slots t 5)

/-- What a point is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  unfold Phi
  by_cases ht : t.val % 12 < 4
  · have hc0 := (stores_iff t).mpr ht
    have hc1 : ¬reads (grid0.coords t) := fun h => by have := (reads_iff t).mp h; omega
    rw [Dat.leavesExact_idle (dats m 0 c) 5 t (idle5 t ht) (noFlush5 t ht)]
    iintro ⟨⟨⟨%f, %hf, HS0⟩, Hg⟩, Ho, ⟨%d0, H0⟩, ⟨%d1, H1⟩, ⟨%d2, H2⟩, ⟨%d3, H3⟩, ⟨%d4, H4⟩, ⟨%d5, H5⟩⟩
    iapply ((runStore c (grid0.coords t) _ _ _ _ _ _ _ _ _ _ _ _ _ _ (iblk m c 0 t) (iblk m c 1 t) (iblk m c 2 t) (iblk m c 3 t) (iblk m c 4 t) hc0 hc1).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hg]
    · isplitl [HS0]
      · iexists (hidM.view.read (Elt F) (hidM.view.writes (Elt F) ((Memref.isWhole_whole cc0_scratch0).unread f)
          (runStore c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _)
            (iblk m c 0 t) (iblk m c 1 t) (iblk m c 2 t) (iblk m c 3 t) (iblk m c 4 t) hc0 hc1).1))
        isplitr
        · ipureintro
          exact inv_store m c t _ _ _ _ _ _ _ _ _ _ _ _ _ _ _ _ ht f hf hc0 hc1
        · unfold owns; iexists _; isplitr
          swap; · iexact HS0
          ipureintro; rfl
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have h4 : 4 ≤ t.val % 12 := by omega
    have hc0 : ¬stores (grid0.coords t) := fun h => ht ((stores_iff t).mp h)
    have hc1 := (reads_iff t).mpr h4
    rw [show (dats m 0 c).leavesExact 5 t = owns (c : Thread nD τ) (ms5 t) fullShare ((dats m 0 c).after 5 t) from by
      unfold Dat.leavesExact; rw [live5 t h4], after_5]
    iintro ⟨⟨⟨%f, %hf, HS0⟩, Hg⟩, Ho, ⟨%d0, H0⟩, ⟨%d1, H1⟩, ⟨%d2, H2⟩, ⟨%d3, H3⟩, ⟨%d4, H4⟩, ⟨%d5, H5⟩⟩
    have hf' := inv_full m c t h4 f hf
    iapply ((runRead c (grid0.coords t) _ _ _ _ _ _ _ _ _ _ _ _ _ _ (iblk m c 0 t) (iblk m c 1 t) (iblk m c 2 t) (iblk m c 3 t) (iblk m c 4 t) f hc0 hc1).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0 Hg]
    · isplitl [HS0]
      · iexists f
        isplitr
        · ipureintro
          exact inv_read m c t h4 f hf'
        · iexact HS0
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    unfold outG
    rw [← hf']
    exact out_read c t _ _ _ _ _ _ _ _ _ _ _ _ _ _ _ _ _ _ _ f hc0 hc1 e5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the launch no slice is stored yet, -/
theorem hin (c : Dev nD) : Pipeline.ΦA spec0 c ⊢ (dats m 0 c).Φ 0 := by
  rw [show (dats m 0 c).Φ 0 = Phi m c 0 from rfl, rest_eq]
  unfold Phi
  iintro ⟨⟨%f, HS0⟩, Hg⟩
  isplitl [HS0]
  · iexists f
    isplitr
    · ipureintro
      exact fun j hj => absurd hj (Nat.not_lt_zero _)
    · iexact HS0
  iexact Hg

/-- and in the end the slices are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, rest_eq]
  unfold Phi
  iintro ⟨⟨%f, %hf, HS0⟩, Hg⟩
  isplitl [HS0]
  · iexists f; iexact HS0
  iexact Hg

/-! ## The run -/

set_option backward.isDefEq.respectTransparency.types false in
/-- The launch: every array ends at what the proof data say, and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

end Cert.Ffn

end
-- ==== Proof.FfnValue.lean ====
/- The expert layer's result array after a run, and its run with the arguments kept. -/
module

public import proofs.«01_k».proof.Proof.FfnFrame
public import Idealize.ShloMosaic.Lib.Pipeline.Value

@[expose] public section

set_option maxRecDepth 16384

noncomputable section

namespace Cert.Ffn

open Cert.Kernel5Ideal Cert.Kernel5Ideal.Gen
open Idealize.ShloMosaic Idealize.ShloMosaic.TcCoe Idealize.SL.Sem
open Idealize.ShloMosaic.Pointwise
open Idealize.ShloMosaic.Pipeline (Dat)

variable {F : FTy → Type} [FloatOps F]
variable (m : (ℓ : Loc nD τ sig) → Buf (Elt F) ℓ) (ρ : Dev nD → PrngReg)

/-- The result: each block as the point of its expert and its columns leaves it. -/
def outArr (c : Dev nD) : Buf (Elt F) ((c : Thread nD τ).loc main_v0) := fun i =>
  outG m c (pt (12 * (i 0).val + 4 + (i 2).val / 512)) (ix3 0 (i 1) (⟨(i 2).val % 512, Nat.mod_lt _ (by decide)⟩ : Fin 512))

/-- While the slices are read, the result's block is the expert's, and its columns are the step's. -/
theorem index5 : ∀ t : Fin cfg0.N, 4 ≤ t.val % 12 →
    win0_5.index t (0 : Fin 3) = t.val / 12 ∧ win0_5.index t (1 : Fin 3) = 0 ∧ win0_5.index t (2 : Fin 3) = t.val % 12 - 4 :=
  (by decide +kernel : ∀ t : Fin grid0.N, 4 ≤ t.val % 12 →
    win0_5.index t (0 : Fin 3) = t.val / 12 ∧ win0_5.index t (1 : Fin 3) = 0 ∧ win0_5.index t (2 : Fin 3) = t.val % 12 - 4)

/-- Each of these points writes its block back. -/
theorem flush5 : ∀ t : Fin cfg0.N, 4 ≤ t.val % 12 → (cfg0.win 5).flush t = true :=
  (by decide +kernel : ∀ t : Fin grid0.N, 4 ≤ t.val % 12 → win0_5.flush t = true)

theorem le_of_flush (t : Fin cfg0.N) (hf : (cfg0.win 5).flush t = true) : 4 ≤ t.val % 12 := by
  by_contra h
  rw [noFlush5 t (by omega)] at hf
  exact absurd hf (by decide)

/-- What a point writes back is its block of the result. -/
theorem flushed5_eq (c : Dev nD) (t : Fin cfg0.N) (hf : (cfg0.win 5).flush t = true) :
    (dats m 0 c).flushed 5 t = ((cfg0.win 5).blk t).view.read (Elt F) (outArr m c) := by
  show (cfg0.win 5).cut (grid0.coords t) ((dats m 0 c).after 5 t) = _
  rw [after_5]
  have h4 := le_of_flush t hf
  obtain ⟨e0, e1, e2⟩ := index5 t h4
  funext y
  have hy0 : (y 0).val < 1 := (y 0).isLt
  have hy1 : (y 1).val < 1088 := (y 1).isLt
  have hy2 : (y 2).val < 512 := (y 2).isLt
  have hb0 : (((cfg0.win 5).blk t).view.emb y 0).val = win0_5.index t (0 : Fin 3) * 1 + 1 * (y 0).val := rfl
  have hb1 : (((cfg0.win 5).blk t).view.emb y 1).val = win0_5.index t (1 : Fin 3) * 1088 + 1 * (y 1).val := rfl
  have hb2 : (((cfg0.win 5).blk t).view.emb y 2).val = win0_5.index t (2 : Fin 3) * 512 + 1 * (y 2).val := rfl
  show outG m c t ((cfg0.win 5).xinj (grid0.coords t) y) = outArr m c (((cfg0.win 5).blk t).view.emb y)
  unfold outArr
  rw [pt_eq t _ (by rw [hb0, hb2, e0, e2]; omega)]
  congr 1
  funext a; apply Fin.ext
  match a with
  | ⟨0, _⟩ => show (y 0).val = 0; omega
  | ⟨1, _⟩ => show (y 1).val = (((cfg0.win 5).blk t).view.emb y 1).val; rw [hb1, e1]; omega
  | ⟨2, _⟩ => show (y 2).val = (((cfg0.win 5).blk t).view.emb y 2).val % 512; rw [hb2, e2]; omega

/-- An index is in a point's block when each of its coordinates is in the block's range. -/
theorem mem_blk5 (t : Fin cfg0.N) (i : S16x1088x4096.Idx) :
    i ∈ ((cfg0.win 5).blk t).view.set ↔ ∀ a : Fin 3, win0_5.index t a * S1x1088x512.size a ≤ (i a).val ∧ (i a).val < win0_5.index t a * S1x1088x512.size a + S1x1088x512.size a := by
  show i ∈ ((View.whole main_v0).slice (win0_5.rect t)).set ↔ _
  rw [View.set_slice_whole, Rect.mem_set_unit]
  exact Iff.rfl

/-- The result array after the run. -/
theorem final5 (c : Dev nD) : (dats m 0 c).arrAt 5 cfg0.N = outArr m c :=
  (dats m 0 c).arrAt_eq_of_cover 5 _ (fun t hf => flushed5_eq m c t hf) (fun (i : S16x1088x4096.Idx) => by
    have h0 : (i 0).val < 16 := (i 0).isLt
    have h1 : (i 1).val < 1088 := (i 1).isLt
    have h2 : (i 2).val < 4096 := (i 2).isLt
    have hp : (pt (12 * (i 0).val + 4 + (i 2).val / 512)).val = 12 * (i 0).val + 4 + (i 2).val / 512 := Nat.mod_eq_of_lt (by omega)
    have h4 : 4 ≤ (pt (12 * (i 0).val + 4 + (i 2).val / 512)).val % 12 := by rw [hp]; omega
    obtain ⟨e0, e1, e2⟩ := index5 _ h4
    rw [hp] at e0 e2
    refine ⟨pt (12 * (i 0).val + 4 + (i 2).val / 512), flush5 _ h4, ?_⟩
    rw [mem_blk5]
    intro a
    match a with
    | ⟨0, _⟩ => show win0_5.index _ (0 : Fin 3) * 1 ≤ (i 0).val ∧ (i 0).val < win0_5.index _ (0 : Fin 3) * 1 + 1; rw [e0]; omega
    | ⟨1, _⟩ => show win0_5.index _ (1 : Fin 3) * 1088 ≤ (i 1).val ∧ (i 1).val < win0_5.index _ (1 : Fin 3) * 1088 + 1088; rw [e1]; omega
    | ⟨2, _⟩ => show win0_5.index _ (2 : Fin 3) * 512 ≤ (i 2).val ∧ (i 2).val < win0_5.index _ (2 : Fin 3) * 512 + 512; rw [e2]; omega)

/-- The run keeps its arguments and ends with every semaphore at zero. -/
theorem keeps : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

/-- The run, with its result named. -/
theorem run : θ_run defs (onTc (τ := τ) (main (F := F))) ⟨m, fun _ => 0, ρ⟩ fun r => ∀ c : Dev nD,
      r.2.mem ((c : Thread nD τ).loc main_v0) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (final5 m c), h.2.1 c⟩)
    (θ_run_and (run_main m ρ) (keeps m ρ))

end Cert.Ffn

end
-- ==== Proof.Ffn.lean ====
/- The expert layer's result at an index: the gate times the hidden layer's product with the second weight. -/
module

public import proofs.«01_k».proof.Proof.FfnValue

@[expose] public section

set_option maxRecDepth 16384

noncomputable section

namespace Cert.Ffn

open Cert.Kernel5Ideal Cert.Kernel5Ideal.Gen
open Idealize.ShloMosaic Idealize.ShloMosaic.TcCoe Idealize.SL.Sem
open Idealize.ShloMosaic.Pointwise

theorem pay1_apply (x : Vec Ideal S1x1088x4096 .bf16) (a b : Vec Ideal S1x1x4096x256 .f32) (r : Fin 1088) (l : Fin 256) :
    k0_pay1 (F := Ideal) x a b (ix3 0 r l)
      = ((∑ k : Fin 4096, x (ix3 0 r k) * a (ix4 0 0 k l)) * Ideal.logistic (∑ k : Fin 4096, x (ix3 0 r k) * a (ix4 0 0 k l)))
        * (∑ k : Fin 4096, x (ix3 0 r k) * b (ix4 0 0 k l)) := by
  pointwise [k0_pay1]

theorem pay3_apply (h0 : Vec Ideal S1x1088x256 .bf16) (w0 : Vec Ideal S1x1x256x512 .f32) (h1 : Vec Ideal S1x1088x256 .bf16) (w1 : Vec Ideal S1x1x256x512 .f32)
    (h2 : Vec Ideal S1x1088x256 .bf16) (w2 : Vec Ideal S1x1x256x512 .f32) (h3 : Vec Ideal S1x1088x256 .bf16) (w3 : Vec Ideal S1x1x256x512 .f32) (r : Fin 1088) (l : Fin 512) :
    k0_pay3 (F := Ideal) h0 w0 h1 w1 h2 w2 h3 w3 (ix2 r l)
      = (∑ k : Fin 256, h0 (ix3 0 r k) * w0 (ix4 0 0 k l)) + (∑ k : Fin 256, h1 (ix3 0 r k) * w1 (ix4 0 0 k l))
        + (∑ k : Fin 256, h2 (ix3 0 r k) * w2 (ix4 0 0 k l)) + (∑ k : Fin 256, h3 (ix3 0 r k) * w3 (ix4 0 0 k l)) := by
  pointwise [k0_pay3]

theorem pay2_apply (v : Vec Ideal S1088x512 .f32) (g : Vec Ideal S1x1088x1 .f32) (r : Fin 1088) (l : Fin 512) :
    k0_pay2 (F := Ideal) v g (ix3 0 r l) = v (ix2 r l) * g (ix3 0 r 0) := by
  pointwise [k0_pay2]

/-- A sum over the hidden units, slice by slice. -/
theorem sum_slices (g : Fin 1024 → EReal) : ∑ k : Fin 1024, g k
    = (∑ q : Fin 256, g (Fin.ofNat 1024 (256 * 0 + q.val))) + (∑ q : Fin 256, g (Fin.ofNat 1024 (256 * 1 + q.val)))
      + (∑ q : Fin 256, g (Fin.ofNat 1024 (256 * 2 + q.val))) + (∑ q : Fin 256, g (Fin.ofNat 1024 (256 * 3 + q.val))) := by
  have h : ∑ k : Fin 1024, g k = ∑ f : Fin 4, ∑ q : Fin 256, g (Fin.ofNat 1024 (256 * f.val + q.val)) := by
    show ∑ k : Fin (4 * 256), g k = _
    rw [← (finProdFinEquiv (m := 4) (n := 256)).sum_comp, Fintype.sum_prod_type]
    refine Finset.sum_congr rfl fun f _ => Finset.sum_congr rfl fun q _ => ?_
    congr 1
    apply Fin.ext
    show q.val + 256 * f.val = (256 * f.val + q.val) % 1024
    omega
  rw [h, Fin.sum_univ_four]
  rfl

/-- The block of the result a hidden layer gives: its product with the second weight's block, times the gate. -/
theorem outV_apply (h : Vec Ideal S4x1088x256 .bf16) (w : Vec Ideal S1x1x1024x512 .f32) (g : Vec Ideal S1x1088x1 .f32) (r : Fin 1088) (l : Fin 512)
    (H : Fin 1024 → EReal) (hH : ∀ (f : Fin 4) (q : Fin 256), h (ix3 f r q) = H (Fin.ofNat 1024 (256 * f.val + q.val))) :
    outV (F := Ideal) h w g (ix3 0 r l) = (∑ k : Fin 1024, H k * w (ix4 0 0 k l)) * g (ix3 0 r 0) := by
  unfold outV
  rw [pay2_apply, pay3_apply, sum_slices]
  congr 1
  have e (f : Fin 4) : (∑ q : Fin 256, sl (F := Ideal) h f (ix3 0 r q) * rowsW (F := Ideal) w f (ix4 0 0 q l) : EReal)
      = ∑ q : Fin 256, H (Fin.ofNat 1024 (256 * f.val + q.val)) * w (ix4 0 0 (Fin.ofNat 1024 (256 * f.val + q.val)) l) :=
    Finset.sum_congr rfl fun q _ => congrArg (fun z : EReal => z * w (ix4 0 0 (Fin.ofNat 1024 (256 * f.val + q.val)) l)) (hH f q)
  exact congrArg₂ (fun a b : EReal => a + b) (congrArg₂ (fun a b : EReal => a + b) (congrArg₂ (fun a b : EReal => a + b) (e 0) (e 1)) (e 2)) (e 3)

/-- The inputs' blocks: the expert's, and its columns of the step. -/
theorem index_facts : ∀ t : Fin grid0.N,
    (t.val % 12 < 4 → (win0_0.index t (0 : Fin 3) = t.val / 12 ∧ win0_0.index t (1 : Fin 3) = 0 ∧ win0_0.index t (2 : Fin 3) = 0)
      ∧ (win0_1.index t (0 : Fin 4) = 0 ∧ win0_1.index t (1 : Fin 4) = t.val / 12 ∧ win0_1.index t (2 : Fin 4) = 0 ∧ win0_1.index t (3 : Fin 4) = t.val % 12)
      ∧ (win0_2.index t (0 : Fin 4) = 0 ∧ win0_2.index t (1 : Fin 4) = t.val / 12 ∧ win0_2.index t (2 : Fin 4) = 0 ∧ win0_2.index t (3 : Fin 4) = t.val % 12))
    ∧ (4 ≤ t.val % 12 → (win0_3.index t (0 : Fin 4) = 0 ∧ win0_3.index t (1 : Fin 4) = t.val / 12 ∧ win0_3.index t (2 : Fin 4) = 0 ∧ win0_3.index t (3 : Fin 4) = t.val % 12 - 4)
      ∧ (win0_4.index t (0 : Fin 3) = t.val / 12 ∧ win0_4.index t (1 : Fin 3) = 0 ∧ win0_4.index t (2 : Fin 3) = 0)) := by
  decide +kernel

/-- The hidden layer of an expert's row, from the arguments: the first product times its logistic, times the second product. -/
def hidR (a0 : S16x1088x4096.Idx → EReal) (a1 a2 : S2x16x4096x1024.Idx → EReal) (e : Fin 16) (r : Fin 1088) (q : Fin 1024) : EReal :=
  ((∑ k : Fin 4096, a0 (ix3 e r k) * a1 (ix4 0 e k q)) * Ideal.logistic (∑ k : Fin 4096, a0 (ix3 e r k) * a1 (ix4 0 e k q)))
    * (∑ k : Fin 4096, a0 (ix3 e r k) * a2 (ix4 0 e k q))

section
variable (m : (ℓ : Loc nD τ sig) → Buf (Elt Ideal) ℓ) (c : Dev nD)

/-- The experts' rows. -/
def A0 : S16x1088x4096.Idx → EReal := m ((c : Thread nD τ).loc main_arg0)
/-- The first weight. -/
def A1 : S2x16x4096x1024.Idx → EReal := m ((c : Thread nD τ).loc main_arg1)
/-- The third weight. -/
def A2 : S2x16x4096x1024.Idx → EReal := m ((c : Thread nD τ).loc main_arg2)
/-- The second weight. -/
def A3 : S2x16x1024x4096.Idx → EReal := m ((c : Thread nD τ).loc main_arg3)
/-- The gates. -/
def A4 : S16x1088x1.Idx → EReal := m ((c : Thread nD τ).loc main_arg4)

theorem x0_apply (t : Fin cfg0.N) (ht : t.val % 12 < 4) (r : Fin 1088) (k : Fin 4096) :
    (iblk m c 0 t : Vec Ideal S1x1088x4096 .bf16) (ix3 0 r k) = A0 m c (ix3 (Fin.ofNat 16 (t.val / 12)) r k) := by
  unfold iblk
  show V m c main_arg0 (((cfg0.win 0).blk t).view.emb _) = _
  rw [V_main_arg0]
  unfold A0
  congr 1
  have h := ((index_facts t).1 ht).1
  have hl := lt192 t
  funext b; apply Fin.ext
  fin_cases b
  · show win0_0.index t (0 : Fin 3) * 1 + 1 * 0 = t.val / 12 % 16; rw [h.1]; omega
  · show win0_0.index t (1 : Fin 3) * 1088 + 1 * r.val = r.val; rw [h.2.1]; omega
  · show win0_0.index t (2 : Fin 3) * 4096 + 1 * k.val = k.val; rw [h.2.2]; omega

theorem x1_apply (t : Fin cfg0.N) (ht : t.val % 12 < 4) (k : Fin 4096) (l : Fin 256) :
    (iblk m c 1 t : Vec Ideal S1x1x4096x256 .f32) (ix4 0 0 k l) = A1 m c (ix4 0 (Fin.ofNat 16 (t.val / 12)) k (Fin.ofNat 1024 (256 * (t.val % 12) + l.val))) := by
  unfold iblk
  show V m c main_arg1 (((cfg0.win 1).blk t).view.emb _) = _
  rw [V_main_arg1]
  unfold A1
  congr 1
  have h := ((index_facts t).1 ht).2.1
  have hl := lt192 t
  funext b; apply Fin.ext
  fin_cases b
  · show win0_1.index t (0 : Fin 4) * 1 + 1 * 0 = 0; rw [h.1]
  · show win0_1.index t (1 : Fin 4) * 1 + 1 * 0 = t.val / 12 % 16; rw [h.2.1]; omega
  · show win0_1.index t (2 : Fin 4) * 4096 + 1 * k.val = k.val; rw [h.2.2.1]; omega
  · show win0_1.index t (3 : Fin 4) * 256 + 1 * l.val = (256 * (t.val % 12) + l.val) % 1024; rw [h.2.2.2]; omega

theorem x2_apply (t : Fin cfg0.N) (ht : t.val % 12 < 4) (k : Fin 4096) (l : Fin 256) :
    (iblk m c 2 t : Vec Ideal S1x1x4096x256 .f32) (ix4 0 0 k l) = A2 m c (ix4 0 (Fin.ofNat 16 (t.val / 12)) k (Fin.ofNat 1024 (256 * (t.val % 12) + l.val))) := by
  unfold iblk
  show V m c main_arg2 (((cfg0.win 2).blk t).view.emb _) = _
  rw [V_main_arg2]
  unfold A2
  congr 1
  have h := ((index_facts t).1 ht).2.2
  have hl := lt192 t
  funext b; apply Fin.ext
  fin_cases b
  · show win0_2.index t (0 : Fin 4) * 1 + 1 * 0 = 0; rw [h.1]
  · show win0_2.index t (1 : Fin 4) * 1 + 1 * 0 = t.val / 12 % 16; rw [h.2.1]; omega
  · show win0_2.index t (2 : Fin 4) * 4096 + 1 * k.val = k.val; rw [h.2.2.1]; omega
  · show win0_2.index t (3 : Fin 4) * 256 + 1 * l.val = (256 * (t.val % 12) + l.val) % 1024; rw [h.2.2.2]; omega

theorem x3_apply (t : Fin cfg0.N) (ht : 4 ≤ t.val % 12) (k : Fin 1024) (l : Fin 512) :
    (iblk m c 3 t : Vec Ideal S1x1x1024x512 .f32) (ix4 0 0 k l) = A3 m c (ix4 0 (Fin.ofNat 16 (t.val / 12)) k (Fin.ofNat 4096 (512 * (t.val % 12 - 4) + l.val))) := by
  unfold iblk
  show V m c main_arg3 (((cfg0.win 3).blk t).view.emb _) = _
  rw [V_main_arg3]
  unfold A3
  congr 1
  have h := ((index_facts t).2 ht).1
  have hl := lt192 t
  funext b; apply Fin.ext
  fin_cases b
  · show win0_3.index t (0 : Fin 4) * 1 + 1 * 0 = 0; rw [h.1]
  · show win0_3.index t (1 : Fin 4) * 1 + 1 * 0 = t.val / 12 % 16; rw [h.2.1]; omega
  · show win0_3.index t (2 : Fin 4) * 1024 + 1 * k.val = k.val; rw [h.2.2.1]; omega
  · show win0_3.index t (3 : Fin 4) * 512 + 1 * l.val = (512 * (t.val % 12 - 4) + l.val) % 4096; rw [h.2.2.2]; omega

theorem x4_apply (t : Fin cfg0.N) (ht : 4 ≤ t.val % 12) (r : Fin 1088) :
    (iblk m c 4 t : Vec Ideal S1x1088x1 .f32) (ix3 0 r 0) = A4 m c (ix3 (Fin.ofNat 16 (t.val / 12)) r 0) := by
  unfold iblk
  show V m c main_arg4 (((cfg0.win 4).blk t).view.emb _) = _
  rw [V_main_arg4]
  unfold A4
  congr 1
  have h := ((index_facts t).2 ht).2
  have hl := lt192 t
  funext b; apply Fin.ext
  fin_cases b
  · show win0_4.index t (0 : Fin 3) * 1 + 1 * 0 = t.val / 12 % 16; rw [h.1]; omega
  · show win0_4.index t (1 : Fin 3) * 1088 + 1 * r.val = r.val; rw [h.2.1]; omega
  · show win0_4.index t (2 : Fin 3) * 1 + 1 * 0 = 0; rw [h.2.2]

/-- What a storing point computes, from the arguments. -/
theorem hidP_apply (t : Fin cfg0.N) (ht : t.val % 12 < 4) (r : Fin 1088) (l : Fin 256) :
    hidP m c t (ix3 0 r l) = hidR (A0 m c) (A1 m c) (A2 m c) (Fin.ofNat 16 (t.val / 12)) r (Fin.ofNat 1024 (256 * (t.val % 12) + l.val)) := by
  unfold hidP
  refine (pay1_apply _ _ _ r l).trans ?_
  unfold hidR
  have e1 : (∑ k : Fin 4096, (show EReal from (iblk m c 0 t : Vec Ideal S1x1088x4096 .bf16) (ix3 0 r k)) * (show EReal from (iblk m c 1 t : Vec Ideal S1x1x4096x256 .f32) (ix4 0 0 k l)))
      = ∑ k : Fin 4096, A0 m c (ix3 (Fin.ofNat 16 (t.val / 12)) r k) * A1 m c (ix4 0 (Fin.ofNat 16 (t.val / 12)) k (Fin.ofNat 1024 (256 * (t.val % 12) + l.val))) :=
    Finset.sum_congr rfl fun k _ => congrArg₂ (fun a b : EReal => a * b) (x0_apply m c t ht r k) (x1_apply m c t ht k l)
  have e2 : (∑ k : Fin 4096, (show EReal from (iblk m c 0 t : Vec Ideal S1x1088x4096 .bf16) (ix3 0 r k)) * (show EReal from (iblk m c 2 t : Vec Ideal S1x1x4096x256 .f32) (ix4 0 0 k l)))
      = ∑ k : Fin 4096, A0 m c (ix3 (Fin.ofNat 16 (t.val / 12)) r k) * A2 m c (ix4 0 (Fin.ofNat 16 (t.val / 12)) k (Fin.ofNat 1024 (256 * (t.val % 12) + l.val))) :=
    Finset.sum_congr rfl fun k _ => congrArg₂ (fun a b : EReal => a * b) (x0_apply m c t ht r k) (x2_apply m c t ht k l)
  exact congrArg₂ (fun a b : EReal => (a * Ideal.logistic a) * b) e1 e2

/-- The hidden layer of an expert, from the arguments. -/
theorem hid_apply (e : ℕ) (he : e < 16) (f : Fin 4) (r : Fin 1088) (q : Fin 256) :
    hid m c e (ix3 f r q) = hidR (A0 m c) (A1 m c) (A2 m c) (Fin.ofNat 16 e) r (Fin.ofNat 1024 (256 * f.val + q.val)) := by
  have hf := f.isLt
  have hp : (pt (12 * e + f.val)).val = 12 * e + f.val := Nat.mod_eq_of_lt (by omega)
  unfold hid
  show hidP m c (pt (12 * e + f.val)) (ix3 0 r q) = _
  rw [hidP_apply m c _ (by rw [hp]; omega), hp, show (12 * e + f.val) / 12 = e from by omega, show (12 * e + f.val) % 12 = f.val from by omega]

/-- The result array at an index. -/
theorem outArr_apply (e : Fin 16) (r : Fin 1088) (l : Fin 4096) :
    outArr m c (ix3 e r l) = (∑ k : Fin 1024, hidR (A0 m c) (A1 m c) (A2 m c) e r k * A3 m c (ix4 0 e k l)) * A4 m c (ix3 e r 0) := by
  have he := e.isLt
  have hl := l.isLt
  have hp : (pt (12 * e.val + 4 + l.val / 512)).val = 12 * e.val + 4 + l.val / 512 := Nat.mod_eq_of_lt (by omega)
  show outG m c (pt (12 * e.val + 4 + l.val / 512)) (ix3 0 r (⟨l.val % 512, Nat.mod_lt _ (by decide)⟩ : Fin 512)) = _
  generalize pt (12 * e.val + 4 + l.val / 512) = t at hp ⊢
  have h4 : 4 ≤ t.val % 12 := by omega
  have e1 : t.val / 12 = e.val := by omega
  have e2 : (Fin.ofNat 16 e.val) = e := Fin.ext (Nat.mod_eq_of_lt he)
  unfold outG
  rw [e1]
  refine (outV_apply _ _ _ r _ (hidR (A0 m c) (A1 m c) (A2 m c) e r) (fun f q => by rw [hid_apply m c e.val he, e2])).trans ?_
  have e3 : (Fin.ofNat 4096 (512 * (t.val % 12 - 4) + l.val % 512)) = l := by
    apply Fin.ext; show (512 * (t.val % 12 - 4) + l.val % 512) % 4096 = l.val; omega
  refine congrArg₂ (fun a b : EReal => a * b) (Finset.sum_congr rfl fun k _ => congrArg (fun z : EReal => hidR (A0 m c) (A1 m c) (A2 m c) e r k * z) ?_) ?_
  · refine (x3_apply m c t h4 k _).trans ?_
    rw [e1, e2]
    exact congrArg (fun z => A3 m c (ix4 0 e k z)) e3
  · refine (x4_apply m c t h4 r).trans ?_
    rw [e1, e2]

end

end Cert.Ffn

end
-- ==== Proof.FfnRef.lean ====
/- The expert layer and its reference end with equal results. -/
module

public import proofs.«01_k».proof.Proof.Ffn
public import proofs.«01_k».proof.Proof.Gen.Reference5Ideal.Read

@[expose] public section

set_option maxRecDepth 16384

noncomputable section

namespace Cert.FfnRef

open Idealize.ShloMosaic Idealize.ShloMosaic.TcCoe Idealize.SL.Sem
open Idealize.ShloMosaic.Pointwise
open Cert.Reference5Ideal Cert.Reference5Ideal.Gen Cert.Reference5Ideal.Read

variable (x0 : (⟨S16x1088x4096, .bf16⟩ : BufTy).Contents (Elt Ideal)) (x1 : (⟨S2x16x4096x1024, .f32⟩ : BufTy).Contents (Elt Ideal))
  (x2 : (⟨S2x16x4096x1024, .f32⟩ : BufTy).Contents (Elt Ideal)) (x3 : (⟨S2x16x1024x4096, .f32⟩ : BufTy).Contents (Elt Ideal)) (x4 : (⟨S16x1088x1, .f32⟩ : BufTy).Contents (Elt Ideal))

/-- The first weight at an index. -/
theorem v2_ix (e : Fin 16) (k : Fin 4096) (q : Fin 1024) : val_main_v2 (F := Ideal) x1 (ix3 e k q) = x1 (ix4 0 e k q) := by
  pointwise [val_main_v2, val_main_v1]

/-- The third weight at an index. -/
theorem v6_ix (e : Fin 16) (k : Fin 4096) (q : Fin 1024) : val_main_v6 (F := Ideal) x2 (ix3 e k q) = x2 (ix4 0 e k q) := by
  pointwise [val_main_v6, val_main_v5]

/-- The second weight at an index. -/
theorem v10_ix (e : Fin 16) (k : Fin 1024) (l : Fin 4096) : val_main_v10 (F := Ideal) x3 (ix3 e k l) = x3 (ix4 0 e k l) := by
  pointwise [val_main_v10, val_main_v9]

/-- The first product at an index. -/
theorem v3_ix (e : Fin 16) (r : Fin 1088) (q : Fin 1024) : val_main_v3 (F := Ideal) x0 x1 (ix3 e r q) = ∑ k : Fin 4096, x0 (ix3 e r k) * x1 (ix4 0 e k q) := by
  rw [val_main_v3_apply]
  refine Finset.sum_congr rfl fun k _ => ?_
  have e1 : lidx_main_v3 (ix3 e r q) k = ix3 e r k := by funext b; fin_cases b <;> rfl
  have e2 : ridx_main_v3 (ix3 e r q) k = ix3 e k q := by funext b; fin_cases b <;> rfl
  rw [e1, e2, v2_ix]
  rfl

/-- The second product at an index. -/
theorem v7_ix (e : Fin 16) (r : Fin 1088) (q : Fin 1024) : val_main_v7 (F := Ideal) x0 x2 (ix3 e r q) = ∑ k : Fin 4096, x0 (ix3 e r k) * x2 (ix4 0 e k q) := by
  rw [val_main_v7_apply]
  refine Finset.sum_congr rfl fun k _ => ?_
  have e1 : lidx_main_v7 (ix3 e r q) k = ix3 e r k := by funext b; fin_cases b <;> rfl
  have e2 : ridx_main_v7 (ix3 e r q) k = ix3 e k q := by funext b; fin_cases b <;> rfl
  rw [e1, e2, v6_ix]
  rfl

/-- The hidden layer at an index. -/
theorem v8_ix (e : Fin 16) (r : Fin 1088) (q : Fin 1024) : val_main_v8 (F := Ideal) x0 x1 x2 (ix3 e r q) = Cert.Ffn.hidR x0 x1 x2 e r q := by
  unfold Cert.Ffn.hidR
  rw [← v3_ix, ← v7_ix]
  unfold val_main_v8 val_main_v4 val_main_call0_v5 val_main_call0_v4 val_main_call0_cst_0 val_main_call0_v3 val_main_call0_v2 val_main_call0_cst val_main_call0_v1 val_main_call0_v0
  generalize val_main_v3 (F := Ideal) x0 x1 = y
  generalize val_main_v7 (F := Ideal) x0 x2 = z
  pointwise []
  rfl

/-- The last product at an index. -/
theorem v11_ix (e : Fin 16) (r : Fin 1088) (l : Fin 4096) : val_main_v11 (F := Ideal) x0 x1 x2 x3 (ix3 e r l)
    = ∑ k : Fin 1024, Cert.Ffn.hidR x0 x1 x2 e r k * x3 (ix4 0 e k l) := by
  rw [val_main_v11_apply]
  refine Finset.sum_congr rfl fun k _ => ?_
  have e1 : lidx_main_v11 (ix3 e r l) k = ix3 e r k := by funext b; fin_cases b <;> rfl
  have e2 : ridx_main_v11 (ix3 e r l) k = ix3 e k l := by funext b; fin_cases b <;> rfl
  rw [e1, e2, v10_ix, v8_ix]

/-- The reference at an index. -/
theorem ref_apply (e : Fin 16) (r : Fin 1088) (l : Fin 4096) : val_main_v14 (F := Ideal) x0 x1 x2 x3 x4 (ix3 e r l)
    = (∑ k : Fin 1024, Cert.Ffn.hidR x0 x1 x2 e r k * x3 (ix4 0 e k l)) * x4 (ix3 e r 0) := by
  rw [← v11_ix]
  unfold val_main_v14 val_main_v13 val_main_v12
  generalize val_main_v11 (F := Ideal) x0 x1 x2 x3 = y
  pointwise []

/-- From equal arguments, the kernel's result is the reference's. -/
theorem result_eq (m : (ℓ : Loc Cert.Kernel5Ideal.nD Cert.Kernel5Ideal.τ Cert.Kernel5Ideal.sig) → Buf (Elt Ideal) ℓ) (c : Dev Cert.Kernel5Ideal.nD)
    (h0 : x0 = Cert.Ffn.A0 m c) (h1 : x1 = Cert.Ffn.A1 m c) (h2 : x2 = Cert.Ffn.A2 m c) (h3 : x3 = Cert.Ffn.A3 m c) (h4 : x4 = Cert.Ffn.A4 m c) :
    (Cert.Ffn.outArr m c : S16x1088x4096.Idx → EReal) = val_main_v14 (F := Ideal) x0 x1 x2 x3 x4 := by
  subst h0 h1 h2 h3 h4
  funext i
  obtain ⟨e, r, l, rfl⟩ : ∃ (e : Fin 16) (r : Fin 1088) (l : Fin 4096), i = ix3 e r l := ⟨i 0, i 1, i 2, by funext b; fin_cases b <;> rfl⟩
  rw [ref_apply]
  exact Cert.Ffn.outArr_apply m c e r l

end Cert.FfnRef

end
-- ==== Proof.FfnBits.lean ====
/- The expert layer's kernel and its ideal kernel have one text: over the bit-exact values they are the same program, and one run serves both. -/
module

public import proofs.«01_k».proof.Defs
public import proofs.«01_k».proof.Proof.FfnValue
public import proofs.«01_k».proof.Proof.Gen.Kernel5

@[expose] public section

noncomputable section

namespace Cert.FfnBits

open Idealize.ShloMosaic Idealize.SL.Sem Cert.Kernel5

/-- The two bodies are one. -/
theorem body_eq (i : grid0.Coords) (arg2 : Memref sig .tc .vmem S1x1088x4096 .bf16) (harg2 : arg2.IsWhole) (arg3 : Memref sig .tc .vmem S1x1x4096x256 .f32) (harg3 : arg3.IsWhole) (arg4 : Memref sig .tc .vmem S1x1x4096x256 .f32) (harg4 : arg4.IsWhole) (arg5 : Memref sig .tc .vmem S1x1x1024x512 .f32) (harg5 : arg5.IsWhole) (arg6 : Memref sig .tc .vmem S1x1088x1 .f32) (harg6 : arg6.IsWhole) (arg7 : Memref sig .tc .vmem S1x1088x512 .bf16) (harg7 : arg7.IsWhole) (arg8 : Memref sig .tc .vmem S4x1088x256 .bf16) (harg8 : arg8.IsWhole) :
    Cert.Kernel5.cc0_expert_ffn (F := Bits) i arg2 harg2 arg3 harg3 arg4 harg4 arg5 harg5 arg6 harg6 arg7 harg7 arg8 harg8
      = Cert.Kernel5Ideal.cc0_expert_ffn (F := Bits) i arg2 harg2 arg3 harg3 arg4 harg4 arg5 harg5 arg6 harg6 arg7 harg7 arg8 harg8 := rfl

/-- So are the two tables of bodies, -/
theorem defs₀_eq : Cert.Kernel5.defs₀ (F := Bits) = Cert.Kernel5Ideal.defs₀ (F := Bits) := by
  unfold Cert.Kernel5.defs₀ Cert.Kernel5Ideal.defs₀
  congr 1
  funext a b
  fin_cases a
  obtain ⟨t, s⟩ := b
  exact body_eq _ _ _ _ _ _ _ _ _ _ _ _ _ _ _

/-- and the two programs' tables. -/
theorem defs_eq : Cert.Kernel5.defs (F := Bits) = Cert.Kernel5Ideal.defs (F := Bits) := by
  unfold Cert.Kernel5.defs Cert.Kernel5Ideal.defs
  exact congrArg (Pipeline.defs _) defs₀_eq

/-- The kernel keeps its arguments and ends with every semaphore at zero. -/
theorem frame5 : Cert.quiescent_Kernel5 := fun m ρ _ => by
  rw [defs_eq]
  exact Cert.Ffn.keeps (F := Bits) m ρ

end Cert.FfnBits

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.Pre_finite_context
public import proofs.«01_k».proof.Proof.Gen.Pre_finite_router
public import proofs.«01_k».proof.Proof.Gen.KernelIdeal.Value
public import proofs.«01_k».proof.Proof.Gen.ReferenceIdeal.Read
public import proofs.«01_k».proof.Proof.Gen.ReferenceIdeal.Run
public import proofs.«01_k».proof.Proof.Final
public import proofs.«01_k».proof.Proof.CtxRef
public import proofs.«01_k».proof.Proof.GmlpRef
public import proofs.«01_k».proof.Proof.NormModRef
public import proofs.«01_k».proof.Proof.AdaRef
public import proofs.«01_k».proof.Proof.RouterRef
public import proofs.«01_k».proof.Proof.MmRef
public import proofs.«01_k».proof.Proof.MergeRef
public import proofs.«01_k».proof.Proof.OutpRef
public import proofs.«01_k».proof.Proof.FfnRef
public import proofs.«01_k».proof.Proof.FfnBits
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Read
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Reference10Ideal.Run
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference runs, keeps its arguments and ends with every semaphore at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the ideal values, under the precondition, the kernel and the reference end with equal results. -/
theorem algebraic : Cert.algebraic_KernelIdeal_ReferenceIdeal_pre_finite_scores := by
  intro m g m' g' hpre hagree
  refine ⟨fun c => Cert.KernelIdeal.Value.G6 m c, Cert.KernelIdeal.Value.run m g, ?_⟩
  have hv : ∀ c, (Cert.KernelIdeal.Value.G6 m c : Cert.ReferenceIdeal.S8192x2048.Idx → EReal)
      = Cert.ReferenceIdeal.Read.val_main_v103 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) := fun c =>
    Cert.Final.result_eq m c _ _ (hagree c).1 (hagree c).2
      (by rw [(hagree c).1]; exact Cert.Final.pre_x _ _ (hpre c).1) (by rw [(hagree c).2]; exact Cert.Final.pre_r _ _ (hpre c).2)
  exact (θ_run Cert.ReferenceIdeal.defs _ _).mono
    (fun r h c => ⟨(h c).1.trans ((Cert.ReferenceIdeal.Read.val_main_v103_eq (F := Ideal) (StableHlo.launchContents m' c)).trans (hv c).symm), (h c).2.1, (h c).2.2⟩)
    (Cert.ReferenceIdeal.Value.run (F := Ideal) m' g')

/-- The input projection's reference runs, keeps its arguments and ends with every semaphore at zero. -/
theorem reference_frame2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- At the ideal values, the input projection and its reference end with equal results. -/
theorem algebraic2 : Cert.algebraic_Kernel2Ideal_Reference2Ideal := by
  intro m g m' g' hpre hagree
  refine ⟨fun c => Cert.Kernel2Ideal.Value.G2 m c, Cert.Kernel2Ideal.Value.run m g, ?_⟩
  have hv : ∀ c, (Cert.Kernel2Ideal.Value.G2 m c : Cert.Reference2Ideal.S8704x18432.Idx → EReal)
      = Cert.Reference2Ideal.Read.val_main_v9 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) := fun c =>
    Cert.MmRef.result_eq _ _ m c ((hagree c).1) ((hagree c).2)
  exact (θ_run Cert.Reference2Ideal.defs _ _).mono
    (fun r h c => ⟨(h c).1.trans ((Cert.Reference2Ideal.Read.val_main_v9_eq (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))).trans (hv c).symm), (h c).2⟩)
    (Cert.Reference2Ideal.Value.run (F := Ideal) m' g')

/-- The gated merge's reference runs, keeps its arguments and ends with every semaphore at zero. -/
theorem reference_frame3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- At the ideal values, the gated merge and its reference end with equal results. -/
theorem algebraic3 : Cert.algebraic_Kernel3Ideal_Reference3Ideal := by
  intro m g m' g' hpre hagree
  refine ⟨fun c => Cert.Kernel3Ideal.Value.G6 m c, Cert.Kernel3Ideal.Value.run m g, ?_⟩
  have hv : ∀ c, (Cert.Kernel3Ideal.Value.G6 m c : Cert.Reference3Ideal.S8704x4096.Idx → EReal)
      = Cert.Reference3Ideal.Read.val_main_v27 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) := fun c =>
    Cert.MergeRef.result_eq _ _ _ _ _ m c ((hagree c).1) ((hagree c).2.1) ((hagree c).2.2.1) ((hagree c).2.2.2.1) ((hagree c).2.2.2.2)
  exact (θ_run Cert.Reference3Ideal.defs _ _).mono
    (fun r h c => ⟨(h c).1.trans ((Cert.Reference3Ideal.Read.val_main_v27_eq (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))).trans (hv c).symm), (h c).2⟩)
    (Cert.Reference3Ideal.Value.run (F := Ideal) m' g')

/-- The output projection's reference runs, keeps its arguments and ends with every semaphore at zero. -/
theorem reference_frame4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- At the ideal values, the output projection and its reference end with equal results. -/
theorem algebraic4 : Cert.algebraic_Kernel4Ideal_Reference4Ideal := by
  intro m g m' g' hpre hagree
  refine ⟨fun c => Cert.Kernel4Ideal.Value.G5 m c, Cert.Kernel4Ideal.Value.run m g, ?_⟩
  have hv : ∀ c, (Cert.Kernel4Ideal.Value.G5 m c : Cert.Reference4Ideal.S8704x4096.Idx → EReal)
      = Cert.Reference4Ideal.Read.val_main_v21 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) := fun c =>
    Cert.OutpRef.result_eq _ _ _ _ _ m c ((hagree c).1) ((hagree c).2.1) ((hagree c).2.2.1) ((hagree c).2.2.2.1) ((hagree c).2.2.2.2)
  exact (θ_run Cert.Reference4Ideal.defs _ _).mono
    (fun r h c => ⟨(h c).1.trans ((Cert.Reference4Ideal.Read.val_main_v21_eq (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))).trans (hv c).symm), (h c).2⟩)
    (Cert.Reference4Ideal.Value.run (F := Ideal) m' g')

/-- The expert layer's reference runs, keeps its arguments and ends with every semaphore at zero. -/
theorem reference_frame5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- At the ideal values, the expert layer and its reference end with equal results. -/
theorem algebraic5 : Cert.algebraic_Kernel5Ideal_Reference5Ideal := by
  intro m g m' g' hpre hagree
  refine ⟨fun c => Cert.Ffn.outArr m c, Cert.Ffn.run m g, ?_⟩
  have hv : ∀ c, (Cert.Ffn.outArr m c : Cert.Reference5Ideal.S16x1088x4096.Idx → EReal)
      = Cert.Reference5Ideal.Read.val_main_v14 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) := fun c =>
    Cert.FfnRef.result_eq _ _ _ _ _ m c ((hagree c).1) ((hagree c).2.1) ((hagree c).2.2.1) ((hagree c).2.2.2.1) ((hagree c).2.2.2.2)
  exact (θ_run Cert.Reference5Ideal.defs _ _).mono
    (fun r h c => ⟨(h c).1.trans ((Cert.Reference5Ideal.Read.val_main_v14_eq (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))).trans (hv c).symm), (h c).2⟩)
    (Cert.Reference5Ideal.Value.run (F := Ideal) m' g')

/-- The context's attention's reference runs, keeps its arguments and ends with every semaphore at zero. -/
theorem reference_frame6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- At the ideal values, under the precondition, the context's attention and its reference end with equal results. -/
theorem algebraic6 : Cert.algebraic_Kernel6Ideal_Reference6Ideal_pre_finite_context := by
  intro m g m' g' hpre hagree
  refine ⟨fun c => Cert.Ctx.G m c, Cert.Ctx.run m g, ?_⟩
  have hv : ∀ c, (Cert.Ctx.G m c : Cert.Reference6Ideal.S512x2048.Idx → EReal)
      = Cert.Reference6Ideal.Read.val_main_v24 (F := Ideal) (m' ((c.tc : Thread Cert.Reference6Ideal.nD Cert.Reference6Ideal.τ).loc Cert.Reference6Ideal.main_arg0)) := fun c =>
    Cert.CtxRef.result_eq _ m c (hagree c) (by rw [hagree c]; exact Cert.CtxRef.pre_x _ (hpre c))
  exact (θ_run Cert.Reference6Ideal.defs _ _).mono
    (fun r h c => ⟨(h c).1.trans ((Cert.Reference6Ideal.Read.val_main_v24_eq (F := Ideal) m' c).trans (hv c).symm), (h c).2⟩)
    (Cert.Reference6Ideal.Value.run (F := Ideal) m' g')

/-- The spatial gating's reference runs, keeps its arguments and ends with every semaphore at zero. -/
theorem reference_frame7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- At the ideal values, the spatial gating and its reference end with equal results. -/
theorem algebraic7 : Cert.algebraic_Kernel7Ideal_Reference7Ideal := by
  intro m g m' g' hpre hagree
  refine ⟨fun c => Cert.Gmlp.G m c, Cert.Gmlp.run m g, ?_⟩
  have hv : ∀ c, (Cert.Gmlp.G m c : Cert.Reference7Ideal.S8704x2048.Idx → EReal)
      = Cert.Reference7Ideal.Read.val_main_v65 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) := fun c =>
    Cert.GmlpRef.result_eq _ _ _ _ m c ((hagree c).1) ((hagree c).2.1) ((hagree c).2.2.1) ((hagree c).2.2.2)
  exact (θ_run Cert.Reference7Ideal.defs _ _).mono
    (fun r h c => ⟨(h c).1.trans ((Cert.Reference7Ideal.Read.val_main_v65_eq (F := Ideal) m' c).trans (hv c).symm), (h c).2⟩)
    (Cert.Reference7Ideal.Value.run (F := Ideal) m' g')

/-- The modulated norm's reference runs, keeps its arguments and ends with every semaphore at zero. -/
theorem reference_frame8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- At the ideal values, the modulated norm and its reference end with equal results. -/
theorem algebraic8 : Cert.algebraic_Kernel8Ideal_Reference8Ideal := by
  intro m g m' g' hpre hagree
  refine ⟨fun c => Cert.NormMod.G m c, Cert.NormMod.run m g, ?_⟩
  have hv : ∀ c, (Cert.NormMod.G m c : Cert.Reference8Ideal.S8704x4096.Idx → EReal)
      = Cert.Reference8Ideal.Read.val_main_v57 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) := fun c =>
    Cert.NormModRef.result_eq _ _ _ _ m c ((hagree c).1) ((hagree c).2.1) ((hagree c).2.2.1) ((hagree c).2.2.2)
  exact (θ_run Cert.Reference8Ideal.defs _ _).mono
    (fun r h c => ⟨(h c).1.trans ((Cert.Reference8Ideal.Read.val_main_v57_eq (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3))).trans (hv c).symm), (h c).2⟩)
    (Cert.Reference8Ideal.Value.run (F := Ideal) m' g')

/-- The modulation's reference runs, keeps its arguments and ends with every semaphore at zero. -/
theorem reference_frame9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- At the ideal values, the modulation and its reference end with equal results. -/
theorem algebraic9 : Cert.algebraic_Kernel9Ideal_Reference9Ideal := by
  intro m g m' g' hpre hagree
  refine ⟨fun c => Cert.Ada.G m c, Cert.Ada.run m g, ?_⟩
  have hv : ∀ c, (Cert.Ada.G m c : Cert.Reference9Ideal.S8x24576.Idx → EReal)
      = Cert.Reference9Ideal.Read.val_main_v8 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) := fun c =>
    Cert.AdaRef.result_eq _ _ _ m c ((hagree c).1) ((hagree c).2.1) ((hagree c).2.2)
  exact (θ_run Cert.Reference9Ideal.defs _ _).mono
    (fun r h c => ⟨(h c).1.trans ((Cert.Reference9Ideal.Read.val_main_v8_eq (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2))).trans (hv c).symm), (h c).2⟩)
    (Cert.Reference9Ideal.Value.run (F := Ideal) m' g')

/-- The reference of the second norm with its router runs, keeps its arguments and ends with every semaphore at zero. -/
theorem reference_frame10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- At the ideal values, under the precondition, the second norm with its router and its reference end with equal results. -/
theorem algebraic10 : Cert.algebraic_Kernel10Ideal_Reference10Ideal_pre_finite_router := by
  intro m g m' g' hpre hagree
  refine ⟨fun c => Cert.Router.G m c, fun c => Cert.Router.L m c, Cert.Router.run m g, ?_⟩
  have hv : ∀ c, (Cert.Router.G m c : Cert.Reference10Ideal.S8704x4096.Idx → EReal) = Cert.Reference10Ideal.Read.val_main_v58 (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2))
      ∧ (Cert.Router.L m c : Cert.Reference10Ideal.S16x8704.Idx → EReal) = Cert.Reference10Ideal.Read.val_main_v62 (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) := fun c =>
    Cert.RouterRef.result_eq _ _ _ _ m c (hagree c).1 (hagree c).2.1 (hagree c).2.2.1 (hagree c).2.2.2
      (by rw [(hagree c).2.1, (hagree c).2.2.1, (hagree c).2.2.2]; exact Cert.RouterRef.pre_real _ _ _ _ (hpre c))
  exact (θ_run Cert.Reference10Ideal.defs _ _).mono
    (fun r h c => ⟨(h c).1.trans ((Cert.Reference10Ideal.Read.val_main_v58_eq (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2))).trans (hv c).1.symm),
      (h c).2.1.trans ((Cert.Reference10Ideal.Read.val_main_v62_eq (F := Ideal) m' c).trans (hv c).2.symm), (h c).2.2⟩)
    (Cert.Reference10Ideal.Value.run (F := Ideal) m' g')

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Pre_finite_scores.Gen.facts, Cert.Pre_finite_context.Gen.facts, Cert.Pre_finite_router.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ,
  fun m ρ _ => Cert.Kernel2Ideal.Gen.frame m ρ,
  reference_frame2,
  fun m ρ _ => Cert.Kernel3.Gen.frame m ρ,
  fun m ρ _ => Cert.Kernel3Ideal.Gen.frame m ρ,
  reference_frame3,
  fun m ρ _ => Cert.Kernel4.Gen.frame m ρ,
  fun m ρ _ => Cert.Kernel4Ideal.Gen.frame m ρ,
  reference_frame4,
  Cert.FfnBits.frame5,
  fun m ρ _ => Cert.Ffn.keeps m ρ,
  reference_frame5,
  fun m ρ _ => Cert.Kernel6.Gen.frame m ρ,
  fun m ρ _ => Cert.Kernel6Ideal.Gen.frame m ρ,
  fun m ρ _ => Cert.Kernel6Ideal.Gen.frame m ρ,
  reference_frame6,
  fun m ρ _ => reference_frame6 m ρ trivial,
  fun m ρ _ => Cert.Kernel7.Gen.frame m ρ,
  fun m ρ _ => Cert.Kernel7Ideal.Gen.frame m ρ,
  reference_frame7,
  fun m ρ _ => Cert.Kernel8.Gen.frame m ρ,
  fun m ρ _ => Cert.Kernel8Ideal.Gen.frame m ρ,
  reference_frame8,
  fun m ρ _ => Cert.Kernel9.Gen.frame m ρ,
  fun m ρ _ => Cert.Kernel9Ideal.Gen.frame m ρ,
  reference_frame9,
  fun m ρ _ => Cert.Kernel10.Gen.frame m ρ,
  fun m ρ _ => Cert.Kernel10Ideal.Gen.frame m ρ,
  fun m ρ _ => Cert.Kernel10Ideal.Gen.frame m ρ,
  reference_frame10,
  fun m ρ _ => reference_frame10 m ρ trivial,
  IdealRules.named_const.statement Cert.KernelIdeal.κ "mask" .f32 0xF149F2CA#32 ⊥ rfl,
  algebraic,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10⟩

end Cert.Proof

end
